-- ==== Defs.lean ====
def Pre_Kernel [hPre_groups_cover_rows : Cert.Pre_groups_cover_rows.Facts] (m : (ℓ : Loc Cert.Kernel.nD Cert.Kernel.τ Cert.Kernel.sig) → Buf (Elt Bits) ℓ) : Prop :=
  ∀ c : Dev Cert.Kernel.nD,
    (Cert.Pre_groups_cover_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_cover_rows : Cert.Pre_groups_cover_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_cover_rows : Cert.Pre_groups_cover_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_cover_rows : Cert.Pre_groups_cover_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_cover_rows : Cert.Pre_groups_cover_rows.Facts) (hPre_finite_rows : Cert.Pre_finite_rows.Facts),
    quiescent_Kernel (hKernel := hKernel) (hPre_groups_cover_rows := hPre_groups_cover_rows)
    ∧ quiescent_KernelIdeal (hKernelIdeal := hKernelIdeal) (hPre_groups_cover_rows := hPre_groups_cover_rows)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S12288x5120 : Shape := ⟨2, ![12288, 5120]⟩
abbrev S4 : Shape := ⟨1, ![4]⟩
abbrev S4x5120x768 : Shape := ⟨3, ![4, 5120, 768]⟩
abbrev S4x40x6 : Shape := ⟨3, ![4, 40, 6]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S12288x5120 : S_.BroadcastsInDim S12288x5120 (![] : Fin 0 → Fin S12288x5120.rank)

variable [Facts]

def fn {F : FTy → Type} [FloatOps F] (main_arg0 : FVec F S12288x5120 .bf16) (main_arg1 : IVec S4 32) (main_arg2 : FVec F S4x5120x768 .fp8e4m3) (main_arg3 : FVec F S4x40x6 .f32) : IVec S12288x5120 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 12288#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 32 := constantI S_ 32 0#32
  let main_v5 : IVec S_ 32 := (fun x v => Host.reduce IntOp.addi x v reducesTo_S4_S_d0 h_S_) main_arg1 main_c_1
  let main_c_2 : IVec S_ 32 := constantI S_ 32 12288#32
  let main_v6 : IVec S_ 1 := cmpi .eq main_v5 main_c_2
  let main_v7 : IVec S4 1 := broadcastInDim S4 ![] bcast_S_S4 main_v6
  let main_v8 : IVec S4 1 := andi main_v4 main_v7
  let main_c_3 : IVec S_ 1 := constantI S_ 1 1#1
  let main_v9 : IVec S_ 1 := (fun x v => Host.reduce IntOp.andi x v reducesTo_S4_S_d0 h_S_) main_v8 main_c_3
  let main_v10 : FVec F S12288x5120 .bf16 := Host.absf main_arg0
  let main_cst : FVec F S_ .bf16 := constant S_ .bf16 0x7F7F#16
  let main_v11 : FVec F S12288x5120 .bf16 := broadcastInDim S12288x5120 ![] bcast_S_S12288x5120 main_cst
  let main_v12 : IVec S12288x5120 1 := cmpf .ole main_v10 main_v11
  let main_v13 : IVec S12288x5120 1 := broadcastInDim S12288x5120 ![] bcast_S_S12288x5120 main_v9
  let main_v14 : IVec S12288x5120 1 := andi main_v12 main_v13
  main_v14
-- ==== Pre_groups_cover_rows.lean ====
abbrev S12288x5120 : Shape := ⟨2, ![12288, 5120]⟩
abbrev S4 : Shape := ⟨1, ![4]⟩
abbrev S4x5120x768 : Shape := ⟨3, ![4, 5120, 768]⟩
abbrev S4x40x6 : Shape := ⟨3, ![4, 40, 6]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S12288x5120 .bf16) (main_arg1 : IVec S4 32) (main_arg2 : FVec F S4x5120x768 .fp8e4m3) (main_arg3 : FVec F S4x40x6 .f32) : IVec S4 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 12288#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 32 := constantI S_ 32 0#32
  let main_v5 : IVec S_ 32 := (fun x v => Host.reduce IntOp.addi x v reducesTo_S4_S_d0 h_S_) main_arg1 main_c_1
  let main_c_2 : IVec S_ 32 := constantI S_ 32 12288#32
  let main_v6 : IVec S_ 1 := cmpi .eq main_v5 main_c_2
  let main_v7 : IVec S4 1 := broadcastInDim S4 ![] bcast_S_S4 main_v6
  let main_v8 : IVec S4 1 := andi main_v4 main_v7
  main_v8
-- ==== Kernel.lean ====
abbrev S12288x5120 : Shape := ⟨2, ![12288, 5120]⟩
abbrev S4 : Shape := ⟨1, ![4]⟩
abbrev S4x5120x768 : Shape := ⟨3, ![4, 5120, 768]⟩
abbrev S4x40x6 : Shape := ⟨3, ![4, 40, 6]⟩
abbrev S12288x768 : Shape := ⟨2, ![12288, 768]⟩
abbrev S256x5120 : Shape := ⟨2, ![256, 5120]⟩
abbrev S1 : Shape := ⟨1, ![1]⟩
abbrev S1x5120x768 : Shape := ⟨3, ![1, 5120, 768]⟩
abbrev S1x40x6 : Shape := ⟨3, ![1, 40, 6]⟩
abbrev S256x768 : Shape := ⟨2, ![256, 768]⟩
abbrev S5120x768 : Shape := ⟨2, ![5120, 768]⟩
abbrev S1x1x1 : Shape := ⟨3, ![1, 1, 1]⟩
abbrev S1x128x128 : Shape := ⟨3, ![1, 128, 128]⟩
abbrev S128x128 : Shape := ⟨2, ![128, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 3
  | _ => 0

abbrev bufTy : (tb : Table) → Fin (tcTables nBuf tb) → BufTy
  | .hbm, ⟨0, _⟩ => ⟨S12288x5120, .bf16⟩
  | .hbm, ⟨1, _⟩ => ⟨S4x5120x768, .fp8e4m3⟩
  | .hbm, ⟨2, _⟩ => ⟨S4x40x6, .f32⟩
  | .hbm, ⟨3, _⟩ => ⟨S12288x768, .bf16⟩
  | .local _ .vmem, ⟨0, _⟩ => ⟨S256x5120, .bf16⟩
  | .local _ .vmem, ⟨1, _⟩ => ⟨S256x5120, .bf16⟩
  | .local _ .vmem, ⟨2, _⟩ => ⟨S1x5120x768, .fp8e4m3⟩
  | .local _ .vmem, ⟨3, _⟩ => ⟨S1x5120x768, .fp8e4m3⟩
  | .local _ .vmem, ⟨4, _⟩ => ⟨S256x768, .bf16⟩
  | .local _ .vmem, ⟨5, _⟩ => ⟨S256x768, .bf16⟩
  | .local _ .vmem, ⟨6, _⟩ => ⟨S5120x768, .bf16⟩
  | .local _ .vmem, ⟨7, _⟩ => ⟨S256x5120, .bf16⟩
  | .local _ .smem, ⟨0, _⟩ => ⟨S4, .i32⟩
  | .local _ .smem, ⟨1, _⟩ => ⟨S1x40x6, .f32⟩
  | .local _ .smem, ⟨2, _⟩ => ⟨S1x40x6, .f32⟩
  | _, _ => ⟨S12288x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg2_0 : Ref sig .tc := ⟨.smem, 1, rfl⟩
abbrev cc0_stg2_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![51], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_177 : BitVec 32 := 0#32
  let c40_i32 : BitVec 32 := 40#32
  let v409 : BitVec 32 := Scalar.addi c0_i32_177 c40_i32
  let c1_i32_178 : BitVec 32 := 1#32
  ⟨c0_i32_177, v409, c1_i32_178⟩
def k0_mult1 (k0_t1 : Fin k0_t1_loop.trips) : BitVec 32 :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  v410
def k0_off1 (k0_t1 : Fin k0_t1_loop.trips) : Fin 3 → Nat :=
  let c0_180 : Index := 0#32
  let c0_i32_177 : BitVec 32 := 0#32
  let c1_i32_178 : BitVec 32 := 1#32
  let arg8 : BitVec 32 := Scf.iv c0_i32_177 c1_i32_178 k0_t1
  let v412 : Index := Scalar.indexCast arg8
  let c0_181 : Index := 0#32
  ![0, v412.toNat, 0]
def k0_off2 (k0_t1 : Fin k0_t1_loop.trips) : Fin 3 → Nat :=
  let c0_182 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v414 : Index := Scalar.indexCast v411
  let c0_183 : Index := 0#32
  ![0, v414.toNat, 0]
def k0_off3 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v421 : Index := Scalar.indexCast v411
  let c0_184 : Index := 0#32
  ![v421.toNat, 0]
def k0_off4 (k0_t1 : Fin k0_t1_loop.trips) : Fin 3 → Nat :=
  let c0_185 : Index := 0#32
  let c0_i32_177 : BitVec 32 := 0#32
  let c1_i32_178 : BitVec 32 := 1#32
  let arg8 : BitVec 32 := Scf.iv c0_i32_177 c1_i32_178 k0_t1
  let v425 : Index := Scalar.indexCast arg8
  let c1_186 : Index := 1#32
  ![0, v425.toNat, 1]
def k0_off5 (k0_t1 : Fin k0_t1_loop.trips) : Fin 3 → Nat :=
  let c0_187 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v427 : Index := Scalar.indexCast v411
  let c128 : Index := 128#32
  ![0, v427.toNat, 128]
def k0_off6 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v434 : Index := Scalar.indexCast v411
  let c128_188 : Index := 128#32
  ![v434.toNat, 128]
def k0_off7 (k0_t1 : Fin k0_t1_loop.trips) : Fin 3 → Nat :=
  let c0_189 : Index := 0#32
  let c0_i32_177 : BitVec 32 := 0#32
  let c1_i32_178 : BitVec 32 := 1#32
  let arg8 : BitVec 32 := Scf.iv c0_i32_177 c1_i32_178 k0_t1
  let v438 : Index := Scalar.indexCast arg8
  let c2_190 : Index := 2#32
  ![0, v438.toNat, 2]
def k0_off8 (k0_t1 : Fin k0_t1_loop.trips) : Fin 3 → Nat :=
  let c0_191 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v440 : Index := Scalar.indexCast v411
  let c256 : Index := 256#32
  ![0, v440.toNat, 256]
def k0_off9 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v447 : Index := Scalar.indexCast v411
  let c256_192 : Index := 256#32
  ![v447.toNat, 256]
def k0_off10 (k0_t1 : Fin k0_t1_loop.trips) : Fin 3 → Nat :=
  let c0_193 : Index := 0#32
  let c0_i32_177 : BitVec 32 := 0#32
  let c1_i32_178 : BitVec 32 := 1#32
  let arg8 : BitVec 32 := Scf.iv c0_i32_177 c1_i32_178 k0_t1
  let v451 : Index := Scalar.indexCast arg8
  let c3_194 : Index := 3#32
  ![0, v451.toNat, 3]
def k0_off11 (k0_t1 : Fin k0_t1_loop.trips) : Fin 3 → Nat :=
  let c0_195 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v453 : Index := Scalar.indexCast v411
  let c384 : Index := 384#32
  ![0, v453.toNat, 384]
def k0_off12 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v460 : Index := Scalar.indexCast v411
  let c384_196 : Index := 384#32
  ![v460.toNat, 384]
def k0_off13 (k0_t1 : Fin k0_t1_loop.trips) : Fin 3 → Nat :=
  let c0_197 : Index := 0#32
  let c0_i32_177 : BitVec 32 := 0#32
  let c1_i32_178 : BitVec 32 := 1#32
  let arg8 : BitVec 32 := Scf.iv c0_i32_177 c1_i32_178 k0_t1
  let v464 : Index := Scalar.indexCast arg8
  let c4 : Index := 4#32
  ![0, v464.toNat, 4]
def k0_off14 (k0_t1 : Fin k0_t1_loop.trips) : Fin 3 → Nat :=
  let c0_198 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v466 : Index := Scalar.indexCast v411
  let c512 : Index := 512#32
  ![0, v466.toNat, 512]
def k0_off15 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v473 : Index := Scalar.indexCast v411
  let c512_199 : Index := 512#32
  ![v473.toNat, 512]
def k0_off16 (k0_t1 : Fin k0_t1_loop.trips) : Fin 3 → Nat :=
  let c0_200 : Index := 0#32
  let c0_i32_177 : BitVec 32 := 0#32
  let c1_i32_178 : BitVec 32 := 1#32
  let arg8 : BitVec 32 := Scf.iv c0_i32_177 c1_i32_178 k0_t1
  let v477 : Index := Scalar.indexCast arg8
  let c5 : Index := 5#32
  ![0, v477.toNat, 5]
def k0_off17 (k0_t1 : Fin k0_t1_loop.trips) : Fin 3 → Nat :=
  let c0_201 : Index := 0#32
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v479 : Index := Scalar.indexCast v411
  let c640 : Index := 640#32
  ![0, v479.toNat, 640]
def k0_off18 (k0_t1 : Fin k0_t1_loop.trips) : Fin 2 → Nat :=
  let c0_i32_177 : BitVec 32 := 0#32
  let c1_i32_178 : BitVec 32 := 1#32
  let arg8 : BitVec 32 := Scf.iv c0_i32_177 c1_i32_178 k0_t1
  let c128_i32 : BitVec 32 := 128#32
  let v410 : BitVec 32 := Scalar.muli arg8 c128_i32
  let v411 : BitVec 32 := v410
  let v486 : Index := Scalar.indexCast v411
  let c640_202 : Index := 640#32
  ![v486.toNat, 640]
@[reducible] def k0_t2_loop : Scf.Loop 32 :=
  let c0_i32_177 : BitVec 32 := 0#32
  let c40_i32 : BitVec 32 := 40#32
  let v409 : BitVec 32 := Scalar.addi c0_i32_177 c40_i32
  let c1_i32_178 : BitVec 32 := 1#32
  ⟨c0_i32_177, v409, c1_i32_178⟩
def k0_mult2 (k0_t2 : Fin k0_t2_loop.trips) : BitVec 32 :=
  let c0_i32_177 : BitVec 32 := 0#32
  let c1_i32_178 : BitVec 32 := 1#32
  let arg8 : BitVec 32 := Scf.iv c0_i32_177 c1_i32_178 k0_t2
  let c128_i32 : BitVec 32 := 128#32
  let v430 : BitVec 32 := Scalar.muli arg8 c128_i32
  v430
def k0_off19 (k0_t2 : Fin k0_t2_loop.trips) : Fin 2 → Nat :=
  let c0_189 : Index := 0#32
  let c0_i32_177 : BitVec 32 := 0#32
  let c1_i32_178 : BitVec 32 := 1#32
  let arg8 : BitVec 32 := Scf.iv c0_i32_177 c1_i32_178 k0_t2
  let c128_i32 : BitVec 32 := 128#32
  let v430 : BitVec 32 := Scalar.muli arg8 c128_i32
  let v431 : BitVec 32 := v430
  let v432 : Index := Scalar.indexCast v431
  ![0, v432.toNat]
def k0_cond2 (i : grid0.Coords) (v0 : BitVec 32) (v54 : BitVec 32) (v108 : BitVec 32) (v162 : BitVec 32) : BitVec 1 :=
  let arg0 : BitVec 32 := BitVec.ofNat 32 (i 0).val
  let c0_i32_27 : BitVec 32 := 0#32
  let c0_i32 : BitVec 32 := 0#32
  let v1 : BitVec 32 := Scalar.addi c0_i32 v0
  let c0_i32_6 : BitVec 32 := 0#32
  let v19 : BitVec 1 := Scalar.cmpi .sgt v1 c0_i32_6
  let c256_i32_7 : BitVec 32 := 256#32
  let v20 : BitVec 32 := Scalar.addi v1 c256_i32_7
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c256_i32_9 : BitVec 32 := 256#32
  let c0_i32_12 : BitVec 32 := 0#32
  let v28 : BitVec 1 := Scalar.cmpi .sgt c256_i32_9 c0_i32_12
  let v29 : BitVec 32 := Scalar.extui v28
  let c0_i32_13 : BitVec 32 := 0#32
  let v30 : BitVec 1 := Scalar.cmpi .slt c256_i32_9 c0_i32_13
  let v31 : BitVec 32 := Scalar.extui v30
  let v32 : BitVec 32 := Scalar.subi v29 v31
  let v33 : BitVec 1 := Scalar.cmpi .ne v27 v32
  let v34 : BitVec 32 := Scalar.remsi v21 c256_i32_9
  let c0_i32_14 : BitVec 32 := 0#32
  let v35 : BitVec 1 := Scalar.cmpi .ne v34 c0_i32_14
  let v36 : BitVec 1 := Scalar.andi v33 v35
  let v22 : BitVec 32 := Scalar.divsi v21 c256_i32_9
  let c1_i32_15 : BitVec 32 := 1#32
  let v37 : BitVec 32 := Scalar.subi v22 c1_i32_15
  let v38 : BitVec 32 := Scalar.select v36 v37 v22
  let c0_i32_0 : BitVec 32 := 0#32
  let c0_i32_1 : BitVec 32 := 0#32
  let v3 : BitVec 1 := Scalar.cmpi .sgt c0_i32_0 c0_i32_1
  let v4 : BitVec 32 := Scalar.extui v3
  let c0_i32_2 : BitVec 32 := 0#32
  let v5 : BitVec 1 := Scalar.cmpi .slt c0_i32_0 c0_i32_2
  let v6 : BitVec 32 := Scalar.extui v5
  let v7 : BitVec 32 := Scalar.subi v4 v6
  let c256_i32 : BitVec 32 := 256#32
  let c0_i32_3 : BitVec 32 := 0#32
  let v8 : BitVec 1 := Scalar.cmpi .sgt c256_i32 c0_i32_3
  let v9 : BitVec 32 := Scalar.extui v8
  let c0_i32_4 : BitVec 32 := 0#32
  let v10 : BitVec 1 := Scalar.cmpi .slt c256_i32 c0_i32_4
  let v11 : BitVec 32 := Scalar.extui v10
  let v12 : BitVec 32 := Scalar.subi v9 v11
  let v13 : BitVec 1 := Scalar.cmpi .ne v7 v12
  let v14 : BitVec 32 := Scalar.remsi c0_i32_0 c256_i32
  let c0_i32_5 : BitVec 32 := 0#32
  let v15 : BitVec 1 := Scalar.cmpi .ne v14 c0_i32_5
  let v16 : BitVec 1 := Scalar.andi v13 v15
  let v2 : BitVec 32 := Scalar.divsi c0_i32_0 c256_i32
  let c1_i32 : BitVec 32 := 1#32
  let v17 : BitVec 32 := Scalar.subi v2 c1_i32
  let v18 : BitVec 32 := Scalar.select v16 v17 v2
  let v39 : BitVec 32 := Scalar.subi v38 v18
  let c0_i32_16 : BitVec 32 := 0#32
  let v40 : BitVec 32 := Scalar.select v19 v39 c0_i32_16
  let v53 : BitVec 32 := Scalar.addi c0_i32_27 v40
  let v55 : BitVec 32 := Scalar.addi v1 v54
  let v73 : BitVec 1 := Scalar.cmpi .sgt v55 v1
  let c256_i32_35 : BitVec 32 := 256#32
  let v74 : BitVec 32 := Scalar.addi v55 c256_i32_35
  let c1_i32_36 : BitVec 32 := 1#32
  let v75 : BitVec 32 := Scalar.subi v74 c1_i32_36
  let c0_i32_38 : BitVec 32 := 0#32
  let v77 : BitVec 1 := Scalar.cmpi .sgt v75 c0_i32_38
  let v78 : BitVec 32 := Scalar.extui v77
  let c0_i32_39 : BitVec 32 := 0#32
  let v79 : BitVec 1 := Scalar.cmpi .slt v75 c0_i32_39
  let v80 : BitVec 32 := Scalar.extui v79
  let v81 : BitVec 32 := Scalar.subi v78 v80
  let c256_i32_37 : BitVec 32 := 256#32
  let c0_i32_40 : BitVec 32 := 0#32
  let v82 : BitVec 1 := Scalar.cmpi .sgt c256_i32_37 c0_i32_40
  let v83 : BitVec 32 := Scalar.extui v82
  let c0_i32_41 : BitVec 32 := 0#32
  let v84 : BitVec 1 := Scalar.cmpi .slt c256_i32_37 c0_i32_41
  let v85 : BitVec 32 := Scalar.extui v84
  let v86 : BitVec 32 := Scalar.subi v83 v85
  let v87 : BitVec 1 := Scalar.cmpi .ne v81 v86
  let v88 : BitVec 32 := Scalar.remsi v75 c256_i32_37
  let c0_i32_42 : BitVec 32 := 0#32
  let v89 : BitVec 1 := Scalar.cmpi .ne v88 c0_i32_42
  let v90 : BitVec 1 := Scalar.andi v87 v89
  let v76 : BitVec 32 := Scalar.divsi v75 c256_i32_37
  let c1_i32_43 : BitVec 32 := 1#32
  let v91 : BitVec 32 := Scalar.subi v76 c1_i32_43
  let v92 : BitVec 32 := Scalar.select v90 v91 v76
  let c0_i32_29 : BitVec 32 := 0#32
  let v57 : BitVec 1 := Scalar.cmpi .sgt v1 c0_i32_29
  let v58 : BitVec 32 := Scalar.extui v57
  let c0_i32_30 : BitVec 32 := 0#32
  let v59 : BitVec 1 := Scalar.cmpi .slt v1 c0_i32_30
  let v60 : BitVec 32 := Scalar.extui v59
  let v61 : BitVec 32 := Scalar.subi v58 v60
  let c256_i32_28 : BitVec 32 := 256#32
  let c0_i32_31 : BitVec 32 := 0#32
  let v62 : BitVec 1 := Scalar.cmpi .sgt c256_i32_28 c0_i32_31
  let v63 : BitVec 32 := Scalar.extui v62
  let c0_i32_32 : BitVec 32 := 0#32
  let v64 : BitVec 1 := Scalar.cmpi .slt c256_i32_28 c0_i32_32
  let v65 : BitVec 32 := Scalar.extui v64
  let v66 : BitVec 32 := Scalar.subi v63 v65
  let v67 : BitVec 1 := Scalar.cmpi .ne v61 v66
  let v68 : BitVec 32 := Scalar.remsi v1 c256_i32_28
  let c0_i32_33 : BitVec 32 := 0#32
  let v69 : BitVec 1 := Scalar.cmpi .ne v68 c0_i32_33
  let v70 : BitVec 1 := Scalar.andi v67 v69
  let v56 : BitVec 32 := Scalar.divsi v1 c256_i32_28
  let c1_i32_34 : BitVec 32 := 1#32
  let v71 : BitVec 32 := Scalar.subi v56 c1_i32_34
  let v72 : BitVec 32 := Scalar.select v70 v71 v56
  let v93 : BitVec 32 := Scalar.subi v92 v72
  let c0_i32_44 : BitVec 32 := 0#32
  let v94 : BitVec 32 := Scalar.select v73 v93 c0_i32_44
  let v107 : BitVec 32 := Scalar.addi v53 v94
  let v109 : BitVec 32 := Scalar.addi v55 v108
  let v127 : BitVec 1 := Scalar.cmpi .sgt v109 v55
  let c256_i32_55 : BitVec 32 := 256#32
  let v128 : BitVec 32 := Scalar.addi v109 c256_i32_55
  let c1_i32_56 : BitVec 32 := 1#32
  let v129 : BitVec 32 := Scalar.subi v128 c1_i32_56
  let c0_i32_58 : BitVec 32 := 0#32
  let v131 : BitVec 1 := Scalar.cmpi .sgt v129 c0_i32_58
  let v132 : BitVec 32 := Scalar.extui v131
  let c0_i32_59 : BitVec 32 := 0#32
  let v133 : BitVec 1 := Scalar.cmpi .slt v129 c0_i32_59
  let v134 : BitVec 32 := Scalar.extui v133
  let v135 : BitVec 32 := Scalar.subi v132 v134
  let c256_i32_57 : BitVec 32 := 256#32
  let c0_i32_60 : BitVec 32 := 0#32
  let v136 : BitVec 1 := Scalar.cmpi .sgt c256_i32_57 c0_i32_60
  let v137 : BitVec 32 := Scalar.extui v136
  let c0_i32_61 : BitVec 32 := 0#32
  let v138 : BitVec 1 := Scalar.cmpi .slt c256_i32_57 c0_i32_61
  let v139 : BitVec 32 := Scalar.extui v138
  let v140 : BitVec 32 := Scalar.subi v137 v139
  let v141 : BitVec 1 := Scalar.cmpi .ne v135 v140
  let v142 : BitVec 32 := Scalar.remsi v129 c256_i32_57
  let c0_i32_62 : BitVec 32 := 0#32
  let v143 : BitVec 1 := Scalar.cmpi .ne v142 c0_i32_62
  let v144 : BitVec 1 := Scalar.andi v141 v143
  let v130 : BitVec 32 := Scalar.divsi v129 c256_i32_57
  let c1_i32_63 : BitVec 32 := 1#32
  let v145 : BitVec 32 := Scalar.subi v130 c1_i32_63
  let v146 : BitVec 32 := Scalar.select v144 v145 v130
  let c0_i32_49 : BitVec 32 := 0#32
  let v111 : BitVec 1 := Scalar.cmpi .sgt v55 c0_i32_49
  let v112 : BitVec 32 := Scalar.extui v111
  let c0_i32_50 : BitVec 32 := 0#32
  let v113 : BitVec 1 := Scalar.cmpi .slt v55 c0_i32_50
  let v114 : BitVec 32 := Scalar.extui v113
  let v115 : BitVec 32 := Scalar.subi v112 v114
  let c256_i32_48 : BitVec 32 := 256#32
  let c0_i32_51 : BitVec 32 := 0#32
  let v116 : BitVec 1 := Scalar.cmpi .sgt c256_i32_48 c0_i32_51
  let v117 : BitVec 32 := Scalar.extui v116
  let c0_i32_52 : BitVec 32 := 0#32
  let v118 : BitVec 1 := Scalar.cmpi .slt c256_i32_48 c0_i32_52
  let v119 : BitVec 32 := Scalar.extui v118
  let v120 : BitVec 32 := Scalar.subi v117 v119
  let v121 : BitVec 1 := Scalar.cmpi .ne v115 v120
  let v122 : BitVec 32 := Scalar.remsi v55 c256_i32_48
  let c0_i32_53 : BitVec 32 := 0#32
  let v123 : BitVec 1 := Scalar.cmpi .ne v122 c0_i32_53
  let v124 : BitVec 1 := Scalar.andi v121 v123
  let v110 : BitVec 32 := Scalar.divsi v55 c256_i32_48
  let c1_i32_54 : BitVec 32 := 1#32
  let v125 : BitVec 32 := Scalar.subi v110 c1_i32_54
  let v126 : BitVec 32 := Scalar.select v124 v125 v110
  let v147 : BitVec 32 := Scalar.subi v146 v126
  let c0_i32_64 : BitVec 32 := 0#32
  let v148 : BitVec 32 := Scalar.select v127 v147 c0_i32_64
  let v161 : BitVec 32 := Scalar.addi v107 v148
  let v163 : BitVec 32 := Scalar.addi v109 v162
  let v181 : BitVec 1 := Scalar.cmpi .sgt v163 v109
  let c256_i32_74 : BitVec 32 := 256#32
  let v182 : BitVec 32 := Scalar.addi v163 c256_i32_74
  let c1_i32_75 : BitVec 32 := 1#32
  let v183 : BitVec 32 := Scalar.subi v182 c1_i32_75
  let c0_i32_77 : BitVec 32 := 0#32
  let v185 : BitVec 1 := Scalar.cmpi .sgt v183 c0_i32_77
  let v186 : BitVec 32 := Scalar.extui v185
  let c0_i32_78 : BitVec 32 := 0#32
  let v187 : BitVec 1 := Scalar.cmpi .slt v183 c0_i32_78
  let v188 : BitVec 32 := Scalar.extui v187
  let v189 : BitVec 32 := Scalar.subi v186 v188
  let c256_i32_76 : BitVec 32 := 256#32
  let c0_i32_79 : BitVec 32 := 0#32
  let v190 : BitVec 1 := Scalar.cmpi .sgt c256_i32_76 c0_i32_79
  let v191 : BitVec 32 := Scalar.extui v190
  let c0_i32_80 : BitVec 32 := 0#32
  let v192 : BitVec 1 := Scalar.cmpi .slt c256_i32_76 c0_i32_80
  let v193 : BitVec 32 := Scalar.extui v192
  let v194 : BitVec 32 := Scalar.subi v191 v193
  let v195 : BitVec 1 := Scalar.cmpi .ne v189 v194
  let v196 : BitVec 32 := Scalar.remsi v183 c256_i32_76
  let c0_i32_81 : BitVec 32 := 0#32
  let v197 : BitVec 1 := Scalar.cmpi .ne v196 c0_i32_81
  let v198 : BitVec 1 := Scalar.andi v195 v197
  let v184 : BitVec 32 := Scalar.divsi v183 c256_i32_76
  let c1_i32_82 : BitVec 32 := 1#32
  let v199 : BitVec 32 := Scalar.subi v184 c1_i32_82
  let v200 : BitVec 32 := Scalar.select v198 v199 v184
  let c0_i32_68 : BitVec 32 := 0#32
  let v165 : BitVec 1 := Scalar.cmpi .sgt v109 c0_i32_68
  let v166 : BitVec 32 := Scalar.extui v165
  let c0_i32_69 : BitVec 32 := 0#32
  let v167 : BitVec 1 := Scalar.cmpi .slt v109 c0_i32_69
  let v168 : BitVec 32 := Scalar.extui v167
  let v169 : BitVec 32 := Scalar.subi v166 v168
  let c256_i32_67 : BitVec 32 := 256#32
  let c0_i32_70 : BitVec 32 := 0#32
  let v170 : BitVec 1 := Scalar.cmpi .sgt c256_i32_67 c0_i32_70
  let v171 : BitVec 32 := Scalar.extui v170
  let c0_i32_71 : BitVec 32 := 0#32
  let v172 : BitVec 1 := Scalar.cmpi .slt c256_i32_67 c0_i32_71
  let v173 : BitVec 32 := Scalar.extui v172
  let v174 : BitVec 32 := Scalar.subi v171 v173
  let v175 : BitVec 1 := Scalar.cmpi .ne v169 v174
  let v176 : BitVec 32 := Scalar.remsi v109 c256_i32_67
  let c0_i32_72 : BitVec 32 := 0#32
  let v177 : BitVec 1 := Scalar.cmpi .ne v176 c0_i32_72
  let v178 : BitVec 1 := Scalar.andi v175 v177
  let v164 : BitVec 32 := Scalar.divsi v109 c256_i32_67
  let c1_i32_73 : BitVec 32 := 1#32
  let v179 : BitVec 32 := Scalar.subi v164 c1_i32_73
  let v180 : BitVec 32 := Scalar.select v178 v179 v164
  let v201 : BitVec 32 := Scalar.subi v200 v180
  let c0_i32_83 : BitVec 32 := 0#32
  let v202 : BitVec 32 := Scalar.select v181 v201 c0_i32_83
  let v215 : BitVec 32 := Scalar.addi v161 v202
  let v216 : BitVec 1 := Scalar.cmpi .slt arg0 v215
  let v407 : BitVec 32 := Scalar.extui v216
  let c0_i32_176 : BitVec 32 := 0#32
  let v408 : BitVec 1 := Scalar.cmpi .ne v407 c0_i32_176
  v408

def cc0_transform_0 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let v1 : BitVec 32 := Scalar.addi c0_i32 v0
  let c0_i32_0 : BitVec 32 := 0#32
  let c256_i32 : BitVec 32 := 256#32
  let v2 : BitVec 32 := Scalar.divsi c0_i32_0 c256_i32
  let c0_i32_1 : BitVec 32 := 0#32
  let v3 : BitVec 1 := Scalar.cmpi .sgt c0_i32_0 c0_i32_1
  let v4 : BitVec 32 := Scalar.extui v3
  let c0_i32_2 : BitVec 32 := 0#32
  let v5 : BitVec 1 := Scalar.cmpi .slt c0_i32_0 c0_i32_2
  let v6 : BitVec 32 := Scalar.extui v5
  let v7 : BitVec 32 := Scalar.subi v4 v6
  let c0_i32_3 : BitVec 32 := 0#32
  let v8 : BitVec 1 := Scalar.cmpi .sgt c256_i32 c0_i32_3
  let v9 : BitVec 32 := Scalar.extui v8
  let c0_i32_4 : BitVec 32 := 0#32
  let v10 : BitVec 1 := Scalar.cmpi .slt c256_i32 c0_i32_4
  let v11 : BitVec 32 := Scalar.extui v10
  let v12 : BitVec 32 := Scalar.subi v9 v11
  let v13 : BitVec 1 := Scalar.cmpi .ne v7 v12
  let v14 : BitVec 32 := Scalar.remsi c0_i32_0 c256_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 1 := Scalar.cmpi .sgt v1 c0_i32_6
  let c256_i32_7 : BitVec 32 := 256#32
  let v20 : BitVec 32 := Scalar.addi v1 c256_i32_7
  let c1_i32_8 : BitVec 32 := 1#32
  let v21 : BitVec 32 := Scalar.subi v20 c1_i32_8
  let c256_i32_9 : BitVec 32 := 256#32
  let v22 : BitVec 32 := Scalar.divsi v21 c256_i32_9
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c0_i32_12 : BitVec 32 := 0#32
  let v28 : BitVec 1 := Scalar.cmpi .sgt c256_i32_9 c0_i32_12
  let v29 : BitVec 32 := Scalar.extui v28
  let c0_i32_13 : BitVec 32 := 0#32
  let v30 : BitVec 1 := Scalar.cmpi .slt c256_i32_9 c0_i32_13
  let v31 : BitVec 32 := Scalar.extui v30
  let v32 : BitVec 32 := Scalar.subi v29 v31
  let v33 : BitVec 1 := Scalar.cmpi .ne v27 v32
  let v34 : BitVec 32 := Scalar.remsi v21 c256_i32_9
  let c0_i32_14 : BitVec 32 := 0#32
  let v35 : BitVec 1 := Scalar.cmpi .ne v34 c0_i32_14
  let v36 : BitVec 1 := Scalar.andi v33 v35
  let c1_i32_15 : BitVec 32 := 1#32
  let v37 : BitVec 32 := Scalar.subi v22 c1_i32_15
  let v38 : BitVec 32 := Scalar.select v36 v37 v22
  let v39 : BitVec 32 := Scalar.subi v38 v18
  let c0_i32_16 : BitVec 32 := 0#32
  let v40 : BitVec 32 := Scalar.select v19 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let v44 : BitVec 32 := Scalar.addi v18 arg0
  let c0_i32_19 : BitVec 32 := 0#32
  let v45 : BitVec 32 := Scalar.subi v44 c0_i32_19
  let v46 : BitVec 32 := Scalar.addi v18 v40
  let c1_i32_20 : BitVec 32 := 1#32
  let v47 : BitVec 32 := Scalar.subi v46 c1_i32_20
  let v48 : BitVec 32 := Scalar.minsi v45 v47
  let c0_i32_21 : BitVec 32 := 0#32
  let v49 : BitVec 32 := Scalar.select v43 v48 c0_i32_21
  let c0_i32_22 : BitVec 32 := 0#32
  let c0_i32_23 : BitVec 32 := 0#32
  let v50 : BitVec 32 := Scalar.select v43 c0_i32_22 c0_i32_23
  let c0_i32_24 : BitVec 32 := 0#32
  let c0_i32_25 : BitVec 32 := 0#32
  let v51 : BitVec 32 := Scalar.select v43 c0_i32_24 c0_i32_25
  let c0_i32_26 : BitVec 32 := 0#32
  let v52 : BitVec 32 := Scalar.select v43 v1 c0_i32_26
  let c0_i32_27 : BitVec 32 := 0#32
  let v53 : BitVec 32 := Scalar.addi c0_i32_27 v40
  let c1 : Index := 1#32
  let v54 : BitVec 32 := pf.at 0 (Rect.unit (s := S4) ![1] S1.size inb_S4_S1_1) numel1_S1
  let v55 : BitVec 32 := Scalar.addi v1 v54
  let c256_i32_28 : BitVec 32 := 256#32
  let v56 : BitVec 32 := Scalar.divsi v1 c256_i32_28
  let c0_i32_29 : BitVec 32 := 0#32
  let v57 : BitVec 1 := Scalar.cmpi .sgt v1 c0_i32_29
  let v58 : BitVec 32 := Scalar.extui v57
  let c0_i32_30 : BitVec 32 := 0#32
  let v59 : BitVec 1 := Scalar.cmpi .slt v1 c0_i32_30
  let v60 : BitVec 32 := Scalar.extui v59
  let v61 : BitVec 32 := Scalar.subi v58 v60
  let c0_i32_31 : BitVec 32 := 0#32
  let v62 : BitVec 1 := Scalar.cmpi .sgt c256_i32_28 c0_i32_31
  let v63 : BitVec 32 := Scalar.extui v62
  let c0_i32_32 : BitVec 32 := 0#32
  let v64 : BitVec 1 := Scalar.cmpi .slt c256_i32_28 c0_i32_32
  let v65 : BitVec 32 := Scalar.extui v64
  let v66 : BitVec 32 := Scalar.subi v63 v65
  let v67 : BitVec 1 := Scalar.cmpi .ne v61 v66
  let v68 : BitVec 32 := Scalar.remsi v1 c256_i32_28
  let c0_i32_33 : BitVec 32 := 0#32
  let v69 : BitVec 1 := Scalar.cmpi .ne v68 c0_i32_33
  let v70 : BitVec 1 := Scalar.andi v67 v69
  let c1_i32_34 : BitVec 32 := 1#32
  let v71 : BitVec 32 := Scalar.subi v56 c1_i32_34
  let v72 : BitVec 32 := Scalar.select v70 v71 v56
  let v73 : BitVec 1 := Scalar.cmpi .sgt v55 v1
  let c256_i32_35 : BitVec 32 := 256#32
  let v74 : BitVec 32 := Scalar.addi v55 c256_i32_35
  let c1_i32_36 : BitVec 32 := 1#32
  let v75 : BitVec 32 := Scalar.subi v74 c1_i32_36
  let c256_i32_37 : BitVec 32 := 256#32
  let v76 : BitVec 32 := Scalar.divsi v75 c256_i32_37
  let c0_i32_38 : BitVec 32 := 0#32
  let v77 : BitVec 1 := Scalar.cmpi .sgt v75 c0_i32_38
  let v78 : BitVec 32 := Scalar.extui v77
  let c0_i32_39 : BitVec 32 := 0#32
  let v79 : BitVec 1 := Scalar.cmpi .slt v75 c0_i32_39
  let v80 : BitVec 32 := Scalar.extui v79
  let v81 : BitVec 32 := Scalar.subi v78 v80
  let c0_i32_40 : BitVec 32 := 0#32
  let v82 : BitVec 1 := Scalar.cmpi .sgt c256_i32_37 c0_i32_40
  let v83 : BitVec 32 := Scalar.extui v82
  let c0_i32_41 : BitVec 32 := 0#32
  let v84 : BitVec 1 := Scalar.cmpi .slt c256_i32_37 c0_i32_41
  let v85 : BitVec 32 := Scalar.extui v84
  let v86 : BitVec 32 := Scalar.subi v83 v85
  let v87 : BitVec 1 := Scalar.cmpi .ne v81 v86
  let v88 : BitVec 32 := Scalar.remsi v75 c256_i32_37
  let c0_i32_42 : BitVec 32 := 0#32
  let v89 : BitVec 1 := Scalar.cmpi .ne v88 c0_i32_42
  let v90 : BitVec 1 := Scalar.andi v87 v89
  let c1_i32_43 : BitVec 32 := 1#32
  let v91 : BitVec 32 := Scalar.subi v76 c1_i32_43
  let v92 : BitVec 32 := Scalar.select v90 v91 v76
  let v93 : BitVec 32 := Scalar.subi v92 v72
  let c0_i32_44 : BitVec 32 := 0#32
  let v94 : BitVec 32 := Scalar.select v73 v93 c0_i32_44
  let v95 : BitVec 1 := Scalar.cmpi .sge arg0 v53
  let c0_i32_45 : BitVec 32 := 0#32
  let v96 : BitVec 1 := Scalar.cmpi .sgt v94 c0_i32_45
  let v97 : BitVec 1 := Scalar.andi v95 v96
  let v98 : BitVec 32 := Scalar.addi v72 arg0
  let v99 : BitVec 32 := Scalar.subi v98 v53
  let v100 : BitVec 32 := Scalar.addi v72 v94
  let c1_i32_46 : BitVec 32 := 1#32
  let v101 : BitVec 32 := Scalar.subi v100 c1_i32_46
  let v102 : BitVec 32 := Scalar.minsi v99 v101
  let v103 : BitVec 32 := Scalar.select v97 v102 v49
  let c1_i32_47 : BitVec 32 := 1#32
  let v104 : BitVec 32 := Scalar.select v97 c1_i32_47 v50
  let v105 : BitVec 32 := Scalar.select v97 v1 v51
  let v106 : BitVec 32 := Scalar.select v97 v55 v52
  let v107 : BitVec 32 := Scalar.addi v53 v94
  let c2 : Index := 2#32
  let v108 : BitVec 32 := pf.at 0 (Rect.unit (s := S4) ![2] S1.size inb_S4_S1_2) numel1_S1
  let v109 : BitVec 32 := Scalar.addi v55 v108
  let c256_i32_48 : BitVec 32 := 256#32
  let v110 : BitVec 32 := Scalar.divsi v55 c256_i32_48
  let c0_i32_49 : BitVec 32 := 0#32
  let v111 : BitVec 1 := Scalar.cmpi .sgt v55 c0_i32_49
  let v112 : BitVec 32 := Scalar.extui v111
  let c0_i32_50 : BitVec 32 := 0#32
  let v113 : BitVec 1 := Scalar.cmpi .slt v55 c0_i32_50
  let v114 : BitVec 32 := Scalar.extui v113
  let v115 : BitVec 32 := Scalar.subi v112 v114
  let c0_i32_51 : BitVec 32 := 0#32
  let v116 : BitVec 1 := Scalar.cmpi .sgt c256_i32_48 c0_i32_51
  let v117 : BitVec 32 := Scalar.extui v116
  let c0_i32_52 : BitVec 32 := 0#32
  let v118 : BitVec 1 := Scalar.cmpi .slt c256_i32_48 c0_i32_52
  let v119 : BitVec 32 := Scalar.extui v118
  let v120 : BitVec 32 := Scalar.subi v117 v119
  let v121 : BitVec 1 := Scalar.cmpi .ne v115 v120
  let v122 : BitVec 32 := Scalar.remsi v55 c256_i32_48
  let c0_i32_53 : BitVec 32 := 0#32
  let v123 : BitVec 1 := Scalar.cmpi .ne v122 c0_i32_53
  let v124 : BitVec 1 := Scalar.andi v121 v123
  let c1_i32_54 : BitVec 32 := 1#32
  let v125 : BitVec 32 := Scalar.subi v110 c1_i32_54
  let v126 : BitVec 32 := Scalar.select v124 v125 v110
  let v127 : BitVec 1 := Scalar.cmpi .sgt v109 v55
  let c256_i32_55 : BitVec 32 := 256#32
  let v128 : BitVec 32 := Scalar.addi v109 c256_i32_55
  let c1_i32_56 : BitVec 32 := 1#32
  let v129 : BitVec 32 := Scalar.subi v128 c1_i32_56
  let c256_i32_57 : BitVec 32 := 256#32
  let v130 : BitVec 32 := Scalar.divsi v129 c256_i32_57
  let c0_i32_58 : BitVec 32 := 0#32
  let v131 : BitVec 1 := Scalar.cmpi .sgt v129 c0_i32_58
  let v132 : BitVec 32 := Scalar.extui v131
  let c0_i32_59 : BitVec 32 := 0#32
  let v133 : BitVec 1 := Scalar.cmpi .slt v129 c0_i32_59
  let v134 : BitVec 32 := Scalar.extui v133
  let v135 : BitVec 32 := Scalar.subi v132 v134
  let c0_i32_60 : BitVec 32 := 0#32
  let v136 : BitVec 1 := Scalar.cmpi .sgt c256_i32_57 c0_i32_60
  let v137 : BitVec 32 := Scalar.extui v136
  let c0_i32_61 : BitVec 32 := 0#32
  let v138 : BitVec 1 := Scalar.cmpi .slt c256_i32_57 c0_i32_61
  let v139 : BitVec 32 := Scalar.extui v138
  let v140 : BitVec 32 := Scalar.subi v137 v139
  let v141 : BitVec 1 := Scalar.cmpi .ne v135 v140
  let v142 : BitVec 32 := Scalar.remsi v129 c256_i32_57
  let c0_i32_62 : BitVec 32 := 0#32
  let v143 : BitVec 1 := Scalar.cmpi .ne v142 c0_i32_62
  let v144 : BitVec 1 := Scalar.andi v141 v143
  let c1_i32_63 : BitVec 32 := 1#32
  let v145 : BitVec 32 := Scalar.subi v130 c1_i32_63
  let v146 : BitVec 32 := Scalar.select v144 v145 v130
  let v147 : BitVec 32 := Scalar.subi v146 v126
  let c0_i32_64 : BitVec 32 := 0#32
  let v148 : BitVec 32 := Scalar.select v127 v147 c0_i32_64
  let v149 : BitVec 1 := Scalar.cmpi .sge arg0 v107
  let c0_i32_65 : BitVec 32 := 0#32
  let v150 : BitVec 1 := Scalar.cmpi .sgt v148 c0_i32_65
  let v151 : BitVec 1 := Scalar.andi v149 v150
  let v152 : BitVec 32 := Scalar.addi v126 arg0
  let v153 : BitVec 32 := Scalar.subi v152 v107
  let v154 : BitVec 32 := Scalar.addi v126 v148
  let c1_i32_66 : BitVec 32 := 1#32
  let v155 : BitVec 32 := Scalar.subi v154 c1_i32_66
  let v156 : BitVec 32 := Scalar.minsi v153 v155
  let v157 : BitVec 32 := Scalar.select v151 v156 v103
  let c2_i32 : BitVec 32 := 2#32
  let v158 : BitVec 32 := Scalar.select v151 c2_i32 v104
  let v159 : BitVec 32 := Scalar.select v151 v55 v105
  let v160 : BitVec 32 := Scalar.select v151 v109 v106
  let v161 : BitVec 32 := Scalar.addi v107 v148
  let c3 : Index := 3#32
  let v162 : BitVec 32 := pf.at 0 (Rect.unit (s := S4) ![3] S1.size inb_S4_S1_3) numel1_S1
  let v163 : BitVec 32 := Scalar.addi v109 v162
  let c256_i32_67 : BitVec 32 := 256#32
  let v164 : BitVec 32 := Scalar.divsi v109 c256_i32_67
  let c0_i32_68 : BitVec 32 := 0#32
  let v165 : BitVec 1 := Scalar.cmpi .sgt v109 c0_i32_68
  let v166 : BitVec 32 := Scalar.extui v165
  let c0_i32_69 : BitVec 32 := 0#32
  let v167 : BitVec 1 := Scalar.cmpi .slt v109 c0_i32_69
  let v168 : BitVec 32 := Scalar.extui v167
  let v169 : BitVec 32 := Scalar.subi v166 v168
  let c0_i32_70 : BitVec 32 := 0#32
  let v170 : BitVec 1 := Scalar.cmpi .sgt c256_i32_67 c0_i32_70
  let v171 : BitVec 32 := Scalar.extui v170
  let c0_i32_71 : BitVec 32 := 0#32
  let v172 : BitVec 1 := Scalar.cmpi .slt c256_i32_67 c0_i32_71
  let v173 : BitVec 32 := Scalar.extui v172
  let v174 : BitVec 32 := Scalar.subi v171 v173
  let v175 : BitVec 1 := Scalar.cmpi .ne v169 v174
  let v176 : BitVec 32 := Scalar.remsi v109 c256_i32_67
  let c0_i32_72 : BitVec 32 := 0#32
  let v177 : BitVec 1 := Scalar.cmpi .ne v176 c0_i32_72
  let v178 : BitVec 1 := Scalar.andi v175 v177
  let c1_i32_73 : BitVec 32 := 1#32
  let v179 : BitVec 32 := Scalar.subi v164 c1_i32_73
  let v180 : BitVec 32 := Scalar.select v178 v179 v164
  let v181 : BitVec 1 := Scalar.cmpi .sgt v163 v109
  let c256_i32_74 : BitVec 32 := 256#32
  let v182 : BitVec 32 := Scalar.addi v163 c256_i32_74
  let c1_i32_75 : BitVec 32 := 1#32
  let v183 : BitVec 32 := Scalar.subi v182 c1_i32_75
  let c256_i32_76 : BitVec 32 := 256#32
  let v184 : BitVec 32 := Scalar.divsi v183 c256_i32_76
  let c0_i32_77 : BitVec 32 := 0#32
  let v185 : BitVec 1 := Scalar.cmpi .sgt v183 c0_i32_77
  let v186 : BitVec 32 := Scalar.extui v185
  let c0_i32_78 : BitVec 32 := 0#32
  let v187 : BitVec 1 := Scalar.cmpi .slt v183 c0_i32_78
  let v188 : BitVec 32 := Scalar.extui v187
  let v189 : BitVec 32 := Scalar.subi v186 v188
  let c0_i32_79 : BitVec 32 := 0#32
  let v190 : BitVec 1 := Scalar.cmpi .sgt c256_i32_76 c0_i32_79
  let v191 : BitVec 32 := Scalar.extui v190
  let c0_i32_80 : BitVec 32 := 0#32
  let v192 : BitVec 1 := Scalar.cmpi .slt c256_i32_76 c0_i32_80
  let v193 : BitVec 32 := Scalar.extui v192
  let v194 : BitVec 32 := Scalar.subi v191 v193
  let v195 : BitVec 1 := Scalar.cmpi .ne v189 v194
  let v196 : BitVec 32 := Scalar.remsi v183 c256_i32_76
  let c0_i32_81 : BitVec 32 := 0#32
  let v197 : BitVec 1 := Scalar.cmpi .ne v196 c0_i32_81
  let v198 : BitVec 1 := Scalar.andi v195 v197
  let c1_i32_82 : BitVec 32 := 1#32
  let v199 : BitVec 32 := Scalar.subi v184 c1_i32_82
  let v200 : BitVec 32 := Scalar.select v198 v199 v184
  let v201 : BitVec 32 := Scalar.subi v200 v180
  let c0_i32_83 : BitVec 32 := 0#32
  let v202 : BitVec 32 := Scalar.select v181 v201 c0_i32_83
  let v203 : BitVec 1 := Scalar.cmpi .sge arg0 v161
  let c0_i32_84 : BitVec 32 := 0#32
  let v204 : BitVec 1 := Scalar.cmpi .sgt v202 c0_i32_84
  let v205 : BitVec 1 := Scalar.andi v203 v204
  let v206 : BitVec 32 := Scalar.addi v180 arg0
  let v207 : BitVec 32 := Scalar.subi v206 v161
  let v208 : BitVec 32 := Scalar.addi v180 v202
  let c1_i32_85 : BitVec 32 := 1#32
  let v209 : BitVec 32 := Scalar.subi v208 c1_i32_85
  let v210 : BitVec 32 := Scalar.minsi v207 v209
  let v211 : BitVec 32 := Scalar.select v205 v210 v157
  let c3_i32 : BitVec 32 := 3#32
  let v212 : BitVec 32 := Scalar.select v205 c3_i32 v158
  let v213 : BitVec 32 := Scalar.select v205 v109 v159
  let v214 : BitVec 32 := Scalar.select v205 v163 v160
  let v215 : BitVec 32 := Scalar.addi v161 v202
  let v216 : BitVec 1 := Scalar.cmpi .slt arg0 v215
  let c0_i32_86 : BitVec 32 := 0#32
  let c0_i32_87 : BitVec 32 := 0#32
  ![v211.toNat, c0_i32_86.toNat]

def cc0_transform_1 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let v1 : BitVec 32 := Scalar.addi c0_i32 v0
  let c0_i32_0 : BitVec 32 := 0#32
  let c256_i32 : BitVec 32 := 256#32
  let v2 : BitVec 32 := Scalar.divsi c0_i32_0 c256_i32
  let c0_i32_1 : BitVec 32 := 0#32
  let v3 : BitVec 1 := Scalar.cmpi .sgt c0_i32_0 c0_i32_1
  let v4 : BitVec 32 := Scalar.extui v3
  let c0_i32_2 : BitVec 32 := 0#32
  let v5 : BitVec 1 := Scalar.cmpi .slt c0_i32_0 c0_i32_2
  let v6 : BitVec 32 := Scalar.extui v5
  let v7 : BitVec 32 := Scalar.subi v4 v6
  let c0_i32_3 : BitVec 32 := 0#32
  let v8 : BitVec 1 := Scalar.cmpi .sgt c256_i32 c0_i32_3
  let v9 : BitVec 32 := Scalar.extui v8
  let c0_i32_4 : BitVec 32 := 0#32
  let v10 : BitVec 1 := Scalar.cmpi .slt c256_i32 c0_i32_4
  let v11 : BitVec 32 := Scalar.extui v10
  let v12 : BitVec 32 := Scalar.subi v9 v11
  let v13 : BitVec 1 := Scalar.cmpi .ne v7 v12
  let v14 : BitVec 32 := Scalar.remsi c0_i32_0 c256_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 1 := Scalar.cmpi .sgt v1 c0_i32_6
  let c256_i32_7 : BitVec 32 := 256#32
  let v20 : BitVec 32 := Scalar.addi v1 c256_i32_7
  let c1_i32_8 : BitVec 32 := 1#32
  let v21 : BitVec 32 := Scalar.subi v20 c1_i32_8
  let c256_i32_9 : BitVec 32 := 256#32
  let v22 : BitVec 32 := Scalar.divsi v21 c256_i32_9
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c0_i32_12 : BitVec 32 := 0#32
  let v28 : BitVec 1 := Scalar.cmpi .sgt c256_i32_9 c0_i32_12
  let v29 : BitVec 32 := Scalar.extui v28
  let c0_i32_13 : BitVec 32 := 0#32
  let v30 : BitVec 1 := Scalar.cmpi .slt c256_i32_9 c0_i32_13
  let v31 : BitVec 32 := Scalar.extui v30
  let v32 : BitVec 32 := Scalar.subi v29 v31
  let v33 : BitVec 1 := Scalar.cmpi .ne v27 v32
  let v34 : BitVec 32 := Scalar.remsi v21 c256_i32_9
  let c0_i32_14 : BitVec 32 := 0#32
  let v35 : BitVec 1 := Scalar.cmpi .ne v34 c0_i32_14
  let v36 : BitVec 1 := Scalar.andi v33 v35
  let c1_i32_15 : BitVec 32 := 1#32
  let v37 : BitVec 32 := Scalar.subi v22 c1_i32_15
  let v38 : BitVec 32 := Scalar.select v36 v37 v22
  let v39 : BitVec 32 := Scalar.subi v38 v18
  let c0_i32_16 : BitVec 32 := 0#32
  let v40 : BitVec 32 := Scalar.select v19 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let v44 : BitVec 32 := Scalar.addi v18 arg0
  let c0_i32_19 : BitVec 32 := 0#32
  let v45 : BitVec 32 := Scalar.subi v44 c0_i32_19
  let v46 : BitVec 32 := Scalar.addi v18 v40
  let c1_i32_20 : BitVec 32 := 1#32
  let v47 : BitVec 32 := Scalar.subi v46 c1_i32_20
  let v48 : BitVec 32 := Scalar.minsi v45 v47
  let c0_i32_21 : BitVec 32 := 0#32
  let v49 : BitVec 32 := Scalar.select v43 v48 c0_i32_21
  let c0_i32_22 : BitVec 32 := 0#32
  let c0_i32_23 : BitVec 32 := 0#32
  let v50 : BitVec 32 := Scalar.select v43 c0_i32_22 c0_i32_23
  let c0_i32_24 : BitVec 32 := 0#32
  let c0_i32_25 : BitVec 32 := 0#32
  let v51 : BitVec 32 := Scalar.select v43 c0_i32_24 c0_i32_25
  let c0_i32_26 : BitVec 32 := 0#32
  let v52 : BitVec 32 := Scalar.select v43 v1 c0_i32_26
  let c0_i32_27 : BitVec 32 := 0#32
  let v53 : BitVec 32 := Scalar.addi c0_i32_27 v40
  let c1 : Index := 1#32
  let v54 : BitVec 32 := pf.at 0 (Rect.unit (s := S4) ![1] S1.size inb_S4_S1_1) numel1_S1
  let v55 : BitVec 32 := Scalar.addi v1 v54
  let c256_i32_28 : BitVec 32 := 256#32
  let v56 : BitVec 32 := Scalar.divsi v1 c256_i32_28
  let c0_i32_29 : BitVec 32 := 0#32
  let v57 : BitVec 1 := Scalar.cmpi .sgt v1 c0_i32_29
  let v58 : BitVec 32 := Scalar.extui v57
  let c0_i32_30 : BitVec 32 := 0#32
  let v59 : BitVec 1 := Scalar.cmpi .slt v1 c0_i32_30
  let v60 : BitVec 32 := Scalar.extui v59
  let v61 : BitVec 32 := Scalar.subi v58 v60
  let c0_i32_31 : BitVec 32 := 0#32
  let v62 : BitVec 1 := Scalar.cmpi .sgt c256_i32_28 c0_i32_31
  let v63 : BitVec 32 := Scalar.extui v62
  let c0_i32_32 : BitVec 32 := 0#32
  let v64 : BitVec 1 := Scalar.cmpi .slt c256_i32_28 c0_i32_32
  let v65 : BitVec 32 := Scalar.extui v64
  let v66 : BitVec 32 := Scalar.subi v63 v65
  let v67 : BitVec 1 := Scalar.cmpi .ne v61 v66
  let v68 : BitVec 32 := Scalar.remsi v1 c256_i32_28
  let c0_i32_33 : BitVec 32 := 0#32
  let v69 : BitVec 1 := Scalar.cmpi .ne v68 c0_i32_33
  let v70 : BitVec 1 := Scalar.andi v67 v69
  let c1_i32_34 : BitVec 32 := 1#32
  let v71 : BitVec 32 := Scalar.subi v56 c1_i32_34
  let v72 : BitVec 32 := Scalar.select v70 v71 v56
  let v73 : BitVec 1 := Scalar.cmpi .sgt v55 v1
  let c256_i32_35 : BitVec 32 := 256#32
  let v74 : BitVec 32 := Scalar.addi v55 c256_i32_35
  let c1_i32_36 : BitVec 32 := 1#32
  let v75 : BitVec 32 := Scalar.subi v74 c1_i32_36
  let c256_i32_37 : BitVec 32 := 256#32
  let v76 : BitVec 32 := Scalar.divsi v75 c256_i32_37
  let c0_i32_38 : BitVec 32 := 0#32
  let v77 : BitVec 1 := Scalar.cmpi .sgt v75 c0_i32_38
  let v78 : BitVec 32 := Scalar.extui v77
  let c0_i32_39 : BitVec 32 := 0#32
  let v79 : BitVec 1 := Scalar.cmpi .slt v75 c0_i32_39
  let v80 : BitVec 32 := Scalar.extui v79
  let v81 : BitVec 32 := Scalar.subi v78 v80
  let c0_i32_40 : BitVec 32 := 0#32
  let v82 : BitVec 1 := Scalar.cmpi .sgt c256_i32_37 c0_i32_40
  let v83 : BitVec 32 := Scalar.extui v82
  let c0_i32_41 : BitVec 32 := 0#32
  let v84 : BitVec 1 := Scalar.cmpi .slt c256_i32_37 c0_i32_41
  let v85 : BitVec 32 := Scalar.extui v84
  let v86 : BitVec 32 := Scalar.subi v83 v85
  let v87 : BitVec 1 := Scalar.cmpi .ne v81 v86
  let v88 : BitVec 32 := Scalar.remsi v75 c256_i32_37
  let c0_i32_42 : BitVec 32 := 0#32
  let v89 : BitVec 1 := Scalar.cmpi .ne v88 c0_i32_42
  let v90 : BitVec 1 := Scalar.andi v87 v89
  let c1_i32_43 : BitVec 32 := 1#32
  let v91 : BitVec 32 := Scalar.subi v76 c1_i32_43
  let v92 : BitVec 32 := Scalar.select v90 v91 v76
  let v93 : BitVec 32 := Scalar.subi v92 v72
  let c0_i32_44 : BitVec 32 := 0#32
  let v94 : BitVec 32 := Scalar.select v73 v93 c0_i32_44
  let v95 : BitVec 1 := Scalar.cmpi .sge arg0 v53
  let c0_i32_45 : BitVec 32 := 0#32
  let v96 : BitVec 1 := Scalar.cmpi .sgt v94 c0_i32_45
  let v97 : BitVec 1 := Scalar.andi v95 v96
  let v98 : BitVec 32 := Scalar.addi v72 arg0
  let v99 : BitVec 32 := Scalar.subi v98 v53
  let v100 : BitVec 32 := Scalar.addi v72 v94
  let c1_i32_46 : BitVec 32 := 1#32
  let v101 : BitVec 32 := Scalar.subi v100 c1_i32_46
  let v102 : BitVec 32 := Scalar.minsi v99 v101
  let v103 : BitVec 32 := Scalar.select v97 v102 v49
  let c1_i32_47 : BitVec 32 := 1#32
  let v104 : BitVec 32 := Scalar.select v97 c1_i32_47 v50
  let v105 : BitVec 32 := Scalar.select v97 v1 v51
  let v106 : BitVec 32 := Scalar.select v97 v55 v52
  let v107 : BitVec 32 := Scalar.addi v53 v94
  let c2 : Index := 2#32
  let v108 : BitVec 32 := pf.at 0 (Rect.unit (s := S4) ![2] S1.size inb_S4_S1_2) numel1_S1
  let v109 : BitVec 32 := Scalar.addi v55 v108
  let c256_i32_48 : BitVec 32 := 256#32
  let v110 : BitVec 32 := Scalar.divsi v55 c256_i32_48
  let c0_i32_49 : BitVec 32 := 0#32
  let v111 : BitVec 1 := Scalar.cmpi .sgt v55 c0_i32_49
  let v112 : BitVec 32 := Scalar.extui v111
  let c0_i32_50 : BitVec 32 := 0#32
  let v113 : BitVec 1 := Scalar.cmpi .slt v55 c0_i32_50
  let v114 : BitVec 32 := Scalar.extui v113
  let v115 : BitVec 32 := Scalar.subi v112 v114
  let c0_i32_51 : BitVec 32 := 0#32
  let v116 : BitVec 1 := Scalar.cmpi .sgt c256_i32_48 c0_i32_51
  let v117 : BitVec 32 := Scalar.extui v116
  let c0_i32_52 : BitVec 32 := 0#32
  let v118 : BitVec 1 := Scalar.cmpi .slt c256_i32_48 c0_i32_52
  let v119 : BitVec 32 := Scalar.extui v118
  let v120 : BitVec 32 := Scalar.subi v117 v119
  let v121 : BitVec 1 := Scalar.cmpi .ne v115 v120
  let v122 : BitVec 32 := Scalar.remsi v55 c256_i32_48
  let c0_i32_53 : BitVec 32 := 0#32
  let v123 : BitVec 1 := Scalar.cmpi .ne v122 c0_i32_53
  let v124 : BitVec 1 := Scalar.andi v121 v123
  let c1_i32_54 : BitVec 32 := 1#32
  let v125 : BitVec 32 := Scalar.subi v110 c1_i32_54
  let v126 : BitVec 32 := Scalar.select v124 v125 v110
  let v127 : BitVec 1 := Scalar.cmpi .sgt v109 v55
  let c256_i32_55 : BitVec 32 := 256#32
  let v128 : BitVec 32 := Scalar.addi v109 c256_i32_55
  let c1_i32_56 : BitVec 32 := 1#32
  let v129 : BitVec 32 := Scalar.subi v128 c1_i32_56
  let c256_i32_57 : BitVec 32 := 256#32
  let v130 : BitVec 32 := Scalar.divsi v129 c256_i32_57
  let c0_i32_58 : BitVec 32 := 0#32
  let v131 : BitVec 1 := Scalar.cmpi .sgt v129 c0_i32_58
  let v132 : BitVec 32 := Scalar.extui v131
  let c0_i32_59 : BitVec 32 := 0#32
  let v133 : BitVec 1 := Scalar.cmpi .slt v129 c0_i32_59
  let v134 : BitVec 32 := Scalar.extui v133
  let v135 : BitVec 32 := Scalar.subi v132 v134
  let c0_i32_60 : BitVec 32 := 0#32
  let v136 : BitVec 1 := Scalar.cmpi .sgt c256_i32_57 c0_i32_60
  let v137 : BitVec 32 := Scalar.extui v136
  let c0_i32_61 : BitVec 32 := 0#32
  let v138 : BitVec 1 := Scalar.cmpi .slt c256_i32_57 c0_i32_61
  let v139 : BitVec 32 := Scalar.extui v138
  let v140 : BitVec 32 := Scalar.subi v137 v139
  let v141 : BitVec 1 := Scalar.cmpi .ne v135 v140
  let v142 : BitVec 32 := Scalar.remsi v129 c256_i32_57
  let c0_i32_62 : BitVec 32 := 0#32
  let v143 : BitVec 1 := Scalar.cmpi .ne v142 c0_i32_62
  let v144 : BitVec 1 := Scalar.andi v141 v143
  let c1_i32_63 : BitVec 32 := 1#32
  let v145 : BitVec 32 := Scalar.subi v130 c1_i32_63
  let v146 : BitVec 32 := Scalar.select v144 v145 v130
  let v147 : BitVec 32 := Scalar.subi v146 v126
  let c0_i32_64 : BitVec 32 := 0#32
  let v148 : BitVec 32 := Scalar.select v127 v147 c0_i32_64
  let v149 : BitVec 1 := Scalar.cmpi .sge arg0 v107
  let c0_i32_65 : BitVec 32 := 0#32
  let v150 : BitVec 1 := Scalar.cmpi .sgt v148 c0_i32_65
  let v151 : BitVec 1 := Scalar.andi v149 v150
  let v152 : BitVec 32 := Scalar.addi v126 arg0
  let v153 : BitVec 32 := Scalar.subi v152 v107
  let v154 : BitVec 32 := Scalar.addi v126 v148
  let c1_i32_66 : BitVec 32 := 1#32
  let v155 : BitVec 32 := Scalar.subi v154 c1_i32_66
  let v156 : BitVec 32 := Scalar.minsi v153 v155
  let v157 : BitVec 32 := Scalar.select v151 v156 v103
  let c2_i32 : BitVec 32 := 2#32
  let v158 : BitVec 32 := Scalar.select v151 c2_i32 v104
  let v159 : BitVec 32 := Scalar.select v151 v55 v105
  let v160 : BitVec 32 := Scalar.select v151 v109 v106
  let v161 : BitVec 32 := Scalar.addi v107 v148
  let c3 : Index := 3#32
  let v162 : BitVec 32 := pf.at 0 (Rect.unit (s := S4) ![3] S1.size inb_S4_S1_3) numel1_S1
  let v163 : BitVec 32 := Scalar.addi v109 v162
  let c256_i32_67 : BitVec 32 := 256#32
  let v164 : BitVec 32 := Scalar.divsi v109 c256_i32_67
  let c0_i32_68 : BitVec 32 := 0#32
  let v165 : BitVec 1 := Scalar.cmpi .sgt v109 c0_i32_68
  let v166 : BitVec 32 := Scalar.extui v165
  let c0_i32_69 : BitVec 32 := 0#32
  let v167 : BitVec 1 := Scalar.cmpi .slt v109 c0_i32_69
  let v168 : BitVec 32 := Scalar.extui v167
  let v169 : BitVec 32 := Scalar.subi v166 v168
  let c0_i32_70 : BitVec 32 := 0#32
  let v170 : BitVec 1 := Scalar.cmpi .sgt c256_i32_67 c0_i32_70
  let v171 : BitVec 32 := Scalar.extui v170
  let c0_i32_71 : BitVec 32 := 0#32
  let v172 : BitVec 1 := Scalar.cmpi .slt c256_i32_67 c0_i32_71
  let v173 : BitVec 32 := Scalar.extui v172
  let v174 : BitVec 32 := Scalar.subi v171 v173
  let v175 : BitVec 1 := Scalar.cmpi .ne v169 v174
  let v176 : BitVec 32 := Scalar.remsi v109 c256_i32_67
  let c0_i32_72 : BitVec 32 := 0#32
  let v177 : BitVec 1 := Scalar.cmpi .ne v176 c0_i32_72
  let v178 : BitVec 1 := Scalar.andi v175 v177
  let c1_i32_73 : BitVec 32 := 1#32
  let v179 : BitVec 32 := Scalar.subi v164 c1_i32_73
  let v180 : BitVec 32 := Scalar.select v178 v179 v164
  let v181 : BitVec 1 := Scalar.cmpi .sgt v163 v109
  let c256_i32_74 : BitVec 32 := 256#32
  let v182 : BitVec 32 := Scalar.addi v163 c256_i32_74
  let c1_i32_75 : BitVec 32 := 1#32
  let v183 : BitVec 32 := Scalar.subi v182 c1_i32_75
  let c256_i32_76 : BitVec 32 := 256#32
  let v184 : BitVec 32 := Scalar.divsi v183 c256_i32_76
  let c0_i32_77 : BitVec 32 := 0#32
  let v185 : BitVec 1 := Scalar.cmpi .sgt v183 c0_i32_77
  let v186 : BitVec 32 := Scalar.extui v185
  let c0_i32_78 : BitVec 32 := 0#32
  let v187 : BitVec 1 := Scalar.cmpi .slt v183 c0_i32_78
  let v188 : BitVec 32 := Scalar.extui v187
  let v189 : BitVec 32 := Scalar.subi v186 v188
  let c0_i32_79 : BitVec 32 := 0#32
  let v190 : BitVec 1 := Scalar.cmpi .sgt c256_i32_76 c0_i32_79
  let v191 : BitVec 32 := Scalar.extui v190
  let c0_i32_80 : BitVec 32 := 0#32
  let v192 : BitVec 1 := Scalar.cmpi .slt c256_i32_76 c0_i32_80
  let v193 : BitVec 32 := Scalar.extui v192
  let v194 : BitVec 32 := Scalar.subi v191 v193
  let v195 : BitVec 1 := Scalar.cmpi .ne v189 v194
  let v196 : BitVec 32 := Scalar.remsi v183 c256_i32_76
  let c0_i32_81 : BitVec 32 := 0#32
  let v197 : BitVec 1 := Scalar.cmpi .ne v196 c0_i32_81
  let v198 : BitVec 1 := Scalar.andi v195 v197
  let c1_i32_82 : BitVec 32 := 1#32
  let v199 : BitVec 32 := Scalar.subi v184 c1_i32_82
  let v200 : BitVec 32 := Scalar.select v198 v199 v184
  let v201 : BitVec 32 := Scalar.subi v200 v180
  let c0_i32_83 : BitVec 32 := 0#32
  let v202 : BitVec 32 := Scalar.select v181 v201 c0_i32_83
  let v203 : BitVec 1 := Scalar.cmpi .sge arg0 v161
  let c0_i32_84 : BitVec 32 := 0#32
  let v204 : BitVec 1 := Scalar.cmpi .sgt v202 c0_i32_84
  let v205 : BitVec 1 := Scalar.andi v203 v204
  let v206 : BitVec 32 := Scalar.addi v180 arg0
  let v207 : BitVec 32 := Scalar.subi v206 v161
  let v208 : BitVec 32 := Scalar.addi v180 v202
  let c1_i32_85 : BitVec 32 := 1#32
  let v209 : BitVec 32 := Scalar.subi v208 c1_i32_85
  let v210 : BitVec 32 := Scalar.minsi v207 v209
  let v211 : BitVec 32 := Scalar.select v205 v210 v157
  let c3_i32 : BitVec 32 := 3#32
  let v212 : BitVec 32 := Scalar.select v205 c3_i32 v158
  let v213 : BitVec 32 := Scalar.select v205 v109 v159
  let v214 : BitVec 32 := Scalar.select v205 v163 v160
  let v215 : BitVec 32 := Scalar.addi v161 v202
  let v216 : BitVec 1 := Scalar.cmpi .slt arg0 v215
  let c0_i32_86 : BitVec 32 := 0#32
  let c0_i32_87 : BitVec 32 := 0#32
  let c0_i32_88 : BitVec 32 := 0#32
  ![v212.toNat, c0_i32_86.toNat, c0_i32_87.toNat]

def cc0_transform_2 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let v1 : BitVec 32 := Scalar.addi c0_i32 v0
  let c0_i32_0 : BitVec 32 := 0#32
  let c256_i32 : BitVec 32 := 256#32
  let v2 : BitVec 32 := Scalar.divsi c0_i32_0 c256_i32
  let c0_i32_1 : BitVec 32 := 0#32
  let v3 : BitVec 1 := Scalar.cmpi .sgt c0_i32_0 c0_i32_1
  let v4 : BitVec 32 := Scalar.extui v3
  let c0_i32_2 : BitVec 32 := 0#32
  let v5 : BitVec 1 := Scalar.cmpi .slt c0_i32_0 c0_i32_2
  let v6 : BitVec 32 := Scalar.extui v5
  let v7 : BitVec 32 := Scalar.subi v4 v6
  let c0_i32_3 : BitVec 32 := 0#32
  let v8 : BitVec 1 := Scalar.cmpi .sgt c256_i32 c0_i32_3
  let v9 : BitVec 32 := Scalar.extui v8
  let c0_i32_4 : BitVec 32 := 0#32
  let v10 : BitVec 1 := Scalar.cmpi .slt c256_i32 c0_i32_4
  let v11 : BitVec 32 := Scalar.extui v10
  let v12 : BitVec 32 := Scalar.subi v9 v11
  let v13 : BitVec 1 := Scalar.cmpi .ne v7 v12
  let v14 : BitVec 32 := Scalar.remsi c0_i32_0 c256_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 1 := Scalar.cmpi .sgt v1 c0_i32_6
  let c256_i32_7 : BitVec 32 := 256#32
  let v20 : BitVec 32 := Scalar.addi v1 c256_i32_7
  let c1_i32_8 : BitVec 32 := 1#32
  let v21 : BitVec 32 := Scalar.subi v20 c1_i32_8
  let c256_i32_9 : BitVec 32 := 256#32
  let v22 : BitVec 32 := Scalar.divsi v21 c256_i32_9
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c0_i32_12 : BitVec 32 := 0#32
  let v28 : BitVec 1 := Scalar.cmpi .sgt c256_i32_9 c0_i32_12
  let v29 : BitVec 32 := Scalar.extui v28
  let c0_i32_13 : BitVec 32 := 0#32
  let v30 : BitVec 1 := Scalar.cmpi .slt c256_i32_9 c0_i32_13
  let v31 : BitVec 32 := Scalar.extui v30
  let v32 : BitVec 32 := Scalar.subi v29 v31
  let v33 : BitVec 1 := Scalar.cmpi .ne v27 v32
  let v34 : BitVec 32 := Scalar.remsi v21 c256_i32_9
  let c0_i32_14 : BitVec 32 := 0#32
  let v35 : BitVec 1 := Scalar.cmpi .ne v34 c0_i32_14
  let v36 : BitVec 1 := Scalar.andi v33 v35
  let c1_i32_15 : BitVec 32 := 1#32
  let v37 : BitVec 32 := Scalar.subi v22 c1_i32_15
  let v38 : BitVec 32 := Scalar.select v36 v37 v22
  let v39 : BitVec 32 := Scalar.subi v38 v18
  let c0_i32_16 : BitVec 32 := 0#32
  let v40 : BitVec 32 := Scalar.select v19 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let v44 : BitVec 32 := Scalar.addi v18 arg0
  let c0_i32_19 : BitVec 32 := 0#32
  let v45 : BitVec 32 := Scalar.subi v44 c0_i32_19
  let v46 : BitVec 32 := Scalar.addi v18 v40
  let c1_i32_20 : BitVec 32 := 1#32
  let v47 : BitVec 32 := Scalar.subi v46 c1_i32_20
  let v48 : BitVec 32 := Scalar.minsi v45 v47
  let c0_i32_21 : BitVec 32 := 0#32
  let v49 : BitVec 32 := Scalar.select v43 v48 c0_i32_21
  let c0_i32_22 : BitVec 32 := 0#32
  let c0_i32_23 : BitVec 32 := 0#32
  let v50 : BitVec 32 := Scalar.select v43 c0_i32_22 c0_i32_23
  let c0_i32_24 : BitVec 32 := 0#32
  let c0_i32_25 : BitVec 32 := 0#32
  let v51 : BitVec 32 := Scalar.select v43 c0_i32_24 c0_i32_25
  let c0_i32_26 : BitVec 32 := 0#32
  let v52 : BitVec 32 := Scalar.select v43 v1 c0_i32_26
  let c0_i32_27 : BitVec 32 := 0#32
  let v53 : BitVec 32 := Scalar.addi c0_i32_27 v40
  let c1 : Index := 1#32
  let v54 : BitVec 32 := pf.at 0 (Rect.unit (s := S4) ![1] S1.size inb_S4_S1_1) numel1_S1
  let v55 : BitVec 32 := Scalar.addi v1 v54
  let c256_i32_28 : BitVec 32 := 256#32
  let v56 : BitVec 32 := Scalar.divsi v1 c256_i32_28
  let c0_i32_29 : BitVec 32 := 0#32
  let v57 : BitVec 1 := Scalar.cmpi .sgt v1 c0_i32_29
  let v58 : BitVec 32 := Scalar.extui v57
  let c0_i32_30 : BitVec 32 := 0#32
  let v59 : BitVec 1 := Scalar.cmpi .slt v1 c0_i32_30
  let v60 : BitVec 32 := Scalar.extui v59
  let v61 : BitVec 32 := Scalar.subi v58 v60
  let c0_i32_31 : BitVec 32 := 0#32
  let v62 : BitVec 1 := Scalar.cmpi .sgt c256_i32_28 c0_i32_31
  let v63 : BitVec 32 := Scalar.extui v62
  let c0_i32_32 : BitVec 32 := 0#32
  let v64 : BitVec 1 := Scalar.cmpi .slt c256_i32_28 c0_i32_32
  let v65 : BitVec 32 := Scalar.extui v64
  let v66 : BitVec 32 := Scalar.subi v63 v65
  let v67 : BitVec 1 := Scalar.cmpi .ne v61 v66
  let v68 : BitVec 32 := Scalar.remsi v1 c256_i32_28
  let c0_i32_33 : BitVec 32 := 0#32
  let v69 : BitVec 1 := Scalar.cmpi .ne v68 c0_i32_33
  let v70 : BitVec 1 := Scalar.andi v67 v69
  let c1_i32_34 : BitVec 32 := 1#32
  let v71 : BitVec 32 := Scalar.subi v56 c1_i32_34
  let v72 : BitVec 32 := Scalar.select v70 v71 v56
  let v73 : BitVec 1 := Scalar.cmpi .sgt v55 v1
  let c256_i32_35 : BitVec 32 := 256#32
  let v74 : BitVec 32 := Scalar.addi v55 c256_i32_35
  let c1_i32_36 : BitVec 32 := 1#32
  let v75 : BitVec 32 := Scalar.subi v74 c1_i32_36
  let c256_i32_37 : BitVec 32 := 256#32
  let v76 : BitVec 32 := Scalar.divsi v75 c256_i32_37
  let c0_i32_38 : BitVec 32 := 0#32
  let v77 : BitVec 1 := Scalar.cmpi .sgt v75 c0_i32_38
  let v78 : BitVec 32 := Scalar.extui v77
  let c0_i32_39 : BitVec 32 := 0#32
  let v79 : BitVec 1 := Scalar.cmpi .slt v75 c0_i32_39
  let v80 : BitVec 32 := Scalar.extui v79
  let v81 : BitVec 32 := Scalar.subi v78 v80
  let c0_i32_40 : BitVec 32 := 0#32
  let v82 : BitVec 1 := Scalar.cmpi .sgt c256_i32_37 c0_i32_40
  let v83 : BitVec 32 := Scalar.extui v82
  let c0_i32_41 : BitVec 32 := 0#32
  let v84 : BitVec 1 := Scalar.cmpi .slt c256_i32_37 c0_i32_41
  let v85 : BitVec 32 := Scalar.extui v84
  let v86 : BitVec 32 := Scalar.subi v83 v85
  let v87 : BitVec 1 := Scalar.cmpi .ne v81 v86
  let v88 : BitVec 32 := Scalar.remsi v75 c256_i32_37
  let c0_i32_42 : BitVec 32 := 0#32
  let v89 : BitVec 1 := Scalar.cmpi .ne v88 c0_i32_42
  let v90 : BitVec 1 := Scalar.andi v87 v89
  let c1_i32_43 : BitVec 32 := 1#32
  let v91 : BitVec 32 := Scalar.subi v76 c1_i32_43
  let v92 : BitVec 32 := Scalar.select v90 v91 v76
  let v93 : BitVec 32 := Scalar.subi v92 v72
  let c0_i32_44 : BitVec 32 := 0#32
  let v94 : BitVec 32 := Scalar.select v73 v93 c0_i32_44
  let v95 : BitVec 1 := Scalar.cmpi .sge arg0 v53
  let c0_i32_45 : BitVec 32 := 0#32
  let v96 : BitVec 1 := Scalar.cmpi .sgt v94 c0_i32_45
  let v97 : BitVec 1 := Scalar.andi v95 v96
  let v98 : BitVec 32 := Scalar.addi v72 arg0
  let v99 : BitVec 32 := Scalar.subi v98 v53
  let v100 : BitVec 32 := Scalar.addi v72 v94
  let c1_i32_46 : BitVec 32 := 1#32
  let v101 : BitVec 32 := Scalar.subi v100 c1_i32_46
  let v102 : BitVec 32 := Scalar.minsi v99 v101
  let v103 : BitVec 32 := Scalar.select v97 v102 v49
  let c1_i32_47 : BitVec 32 := 1#32
  let v104 : BitVec 32 := Scalar.select v97 c1_i32_47 v50
  let v105 : BitVec 32 := Scalar.select v97 v1 v51
  let v106 : BitVec 32 := Scalar.select v97 v55 v52
  let v107 : BitVec 32 := Scalar.addi v53 v94
  let c2 : Index := 2#32
  let v108 : BitVec 32 := pf.at 0 (Rect.unit (s := S4) ![2] S1.size inb_S4_S1_2) numel1_S1
  let v109 : BitVec 32 := Scalar.addi v55 v108
  let c256_i32_48 : BitVec 32 := 256#32
  let v110 : BitVec 32 := Scalar.divsi v55 c256_i32_48
  let c0_i32_49 : BitVec 32 := 0#32
  let v111 : BitVec 1 := Scalar.cmpi .sgt v55 c0_i32_49
  let v112 : BitVec 32 := Scalar.extui v111
  let c0_i32_50 : BitVec 32 := 0#32
  let v113 : BitVec 1 := Scalar.cmpi .slt v55 c0_i32_50
  let v114 : BitVec 32 := Scalar.extui v113
  let v115 : BitVec 32 := Scalar.subi v112 v114
  let c0_i32_51 : BitVec 32 := 0#32
  let v116 : BitVec 1 := Scalar.cmpi .sgt c256_i32_48 c0_i32_51
  let v117 : BitVec 32 := Scalar.extui v116
  let c0_i32_52 : BitVec 32 := 0#32
  let v118 : BitVec 1 := Scalar.cmpi .slt c256_i32_48 c0_i32_52
  let v119 : BitVec 32 := Scalar.extui v118
  let v120 : BitVec 32 := Scalar.subi v117 v119
  let v121 : BitVec 1 := Scalar.cmpi .ne v115 v120
  let v122 : BitVec 32 := Scalar.remsi v55 c256_i32_48
  let c0_i32_53 : BitVec 32 := 0#32
  let v123 : BitVec 1 := Scalar.cmpi .ne v122 c0_i32_53
  let v124 : BitVec 1 := Scalar.andi v121 v123
  let c1_i32_54 : BitVec 32 := 1#32
  let v125 : BitVec 32 := Scalar.subi v110 c1_i32_54
  let v126 : BitVec 32 := Scalar.select v124 v125 v110
  let v127 : BitVec 1 := Scalar.cmpi .sgt v109 v55
  let c256_i32_55 : BitVec 32 := 256#32
  let v128 : BitVec 32 := Scalar.addi v109 c256_i32_55
  let c1_i32_56 : BitVec 32 := 1#32
  let v129 : BitVec 32 := Scalar.subi v128 c1_i32_56
  let c256_i32_57 : BitVec 32 := 256#32
  let v130 : BitVec 32 := Scalar.divsi v129 c256_i32_57
  let c0_i32_58 : BitVec 32 := 0#32
  let v131 : BitVec 1 := Scalar.cmpi .sgt v129 c0_i32_58
  let v132 : BitVec 32 := Scalar.extui v131
  let c0_i32_59 : BitVec 32 := 0#32
  let v133 : BitVec 1 := Scalar.cmpi .slt v129 c0_i32_59
  let v134 : BitVec 32 := Scalar.extui v133
  let v135 : BitVec 32 := Scalar.subi v132 v134
  let c0_i32_60 : BitVec 32 := 0#32
  let v136 : BitVec 1 := Scalar.cmpi .sgt c256_i32_57 c0_i32_60
  let v137 : BitVec 32 := Scalar.extui v136
  let c0_i32_61 : BitVec 32 := 0#32
  let v138 : BitVec 1 := Scalar.cmpi .slt c256_i32_57 c0_i32_61
  let v139 : BitVec 32 := Scalar.extui v138
  let v140 : BitVec 32 := Scalar.subi v137 v139
  let v141 : BitVec 1 := Scalar.cmpi .ne v135 v140
  let v142 : BitVec 32 := Scalar.remsi v129 c256_i32_57
  let c0_i32_62 : BitVec 32 := 0#32
  let v143 : BitVec 1 := Scalar.cmpi .ne v142 c0_i32_62
  let v144 : BitVec 1 := Scalar.andi v141 v143
  let c1_i32_63 : BitVec 32 := 1#32
  let v145 : BitVec 32 := Scalar.subi v130 c1_i32_63
  let v146 : BitVec 32 := Scalar.select v144 v145 v130
  let v147 : BitVec 32 := Scalar.subi v146 v126
  let c0_i32_64 : BitVec 32 := 0#32
  let v148 : BitVec 32 := Scalar.select v127 v147 c0_i32_64
  let v149 : BitVec 1 := Scalar.cmpi .sge arg0 v107
  let c0_i32_65 : BitVec 32 := 0#32
  let v150 : BitVec 1 := Scalar.cmpi .sgt v148 c0_i32_65
  let v151 : BitVec 1 := Scalar.andi v149 v150
  let v152 : BitVec 32 := Scalar.addi v126 arg0
  let v153 : BitVec 32 := Scalar.subi v152 v107
  let v154 : BitVec 32 := Scalar.addi v126 v148
  let c1_i32_66 : BitVec 32 := 1#32
  let v155 : BitVec 32 := Scalar.subi v154 c1_i32_66
  let v156 : BitVec 32 := Scalar.minsi v153 v155
  let v157 : BitVec 32 := Scalar.select v151 v156 v103
  let c2_i32 : BitVec 32 := 2#32
  let v158 : BitVec 32 := Scalar.select v151 c2_i32 v104
  let v159 : BitVec 32 := Scalar.select v151 v55 v105
  let v160 : BitVec 32 := Scalar.select v151 v109 v106
  let v161 : BitVec 32 := Scalar.addi v107 v148
  let c3 : Index := 3#32
  let v162 : BitVec 32 := pf.at 0 (Rect.unit (s := S4) ![3] S1.size inb_S4_S1_3) numel1_S1
  let v163 : BitVec 32 := Scalar.addi v109 v162
  let c256_i32_67 : BitVec 32 := 256#32
  let v164 : BitVec 32 := Scalar.divsi v109 c256_i32_67
  let c0_i32_68 : BitVec 32 := 0#32
  let v165 : BitVec 1 := Scalar.cmpi .sgt v109 c0_i32_68
  let v166 : BitVec 32 := Scalar.extui v165
  let c0_i32_69 : BitVec 32 := 0#32
  let v167 : BitVec 1 := Scalar.cmpi .slt v109 c0_i32_69
  let v168 : BitVec 32 := Scalar.extui v167
  let v169 : BitVec 32 := Scalar.subi v166 v168
  let c0_i32_70 : BitVec 32 := 0#32
  let v170 : BitVec 1 := Scalar.cmpi .sgt c256_i32_67 c0_i32_70
  let v171 : BitVec 32 := Scalar.extui v170
  let c0_i32_71 : BitVec 32 := 0#32
  let v172 : BitVec 1 := Scalar.cmpi .slt c256_i32_67 c0_i32_71
  let v173 : BitVec 32 := Scalar.extui v172
  let v174 : BitVec 32 := Scalar.subi v171 v173
  let v175 : BitVec 1 := Scalar.cmpi .ne v169 v174
  let v176 : BitVec 32 := Scalar.remsi v109 c256_i32_67
  let c0_i32_72 : BitVec 32 := 0#32
  let v177 : BitVec 1 := Scalar.cmpi .ne v176 c0_i32_72
  let v178 : BitVec 1 := Scalar.andi v175 v177
  let c1_i32_73 : BitVec 32 := 1#32
  let v179 : BitVec 32 := Scalar.subi v164 c1_i32_73
  let v180 : BitVec 32 := Scalar.select v178 v179 v164
  let v181 : BitVec 1 := Scalar.cmpi .sgt v163 v109
  let c256_i32_74 : BitVec 32 := 256#32
  let v182 : BitVec 32 := Scalar.addi v163 c256_i32_74
  let c1_i32_75 : BitVec 32 := 1#32
  let v183 : BitVec 32 := Scalar.subi v182 c1_i32_75
  let c256_i32_76 : BitVec 32 := 256#32
  let v184 : BitVec 32 := Scalar.divsi v183 c256_i32_76
  let c0_i32_77 : BitVec 32 := 0#32
  let v185 : BitVec 1 := Scalar.cmpi .sgt v183 c0_i32_77
  let v186 : BitVec 32 := Scalar.extui v185
  let c0_i32_78 : BitVec 32 := 0#32
  let v187 : BitVec 1 := Scalar.cmpi .slt v183 c0_i32_78
  let v188 : BitVec 32 := Scalar.extui v187
  let v189 : BitVec 32 := Scalar.subi v186 v188
  let c0_i32_79 : BitVec 32 := 0#32
  let v190 : BitVec 1 := Scalar.cmpi .sgt c256_i32_76 c0_i32_79
  let v191 : BitVec 32 := Scalar.extui v190
  let c0_i32_80 : BitVec 32 := 0#32
  let v192 : BitVec 1 := Scalar.cmpi .slt c256_i32_76 c0_i32_80
  let v193 : BitVec 32 := Scalar.extui v192
  let v194 : BitVec 32 := Scalar.subi v191 v193
  let v195 : BitVec 1 := Scalar.cmpi .ne v189 v194
  let v196 : BitVec 32 := Scalar.remsi v183 c256_i32_76
  let c0_i32_81 : BitVec 32 := 0#32
  let v197 : BitVec 1 := Scalar.cmpi .ne v196 c0_i32_81
  let v198 : BitVec 1 := Scalar.andi v195 v197
  let c1_i32_82 : BitVec 32 := 1#32
  let v199 : BitVec 32 := Scalar.subi v184 c1_i32_82
  let v200 : BitVec 32 := Scalar.select v198 v199 v184
  let v201 : BitVec 32 := Scalar.subi v200 v180
  let c0_i32_83 : BitVec 32 := 0#32
  let v202 : BitVec 32 := Scalar.select v181 v201 c0_i32_83
  let v203 : BitVec 1 := Scalar.cmpi .sge arg0 v161
  let c0_i32_84 : BitVec 32 := 0#32
  let v204 : BitVec 1 := Scalar.cmpi .sgt v202 c0_i32_84
  let v205 : BitVec 1 := Scalar.andi v203 v204
  let v206 : BitVec 32 := Scalar.addi v180 arg0
  let v207 : BitVec 32 := Scalar.subi v206 v161
  let v208 : BitVec 32 := Scalar.addi v180 v202
  let c1_i32_85 : BitVec 32 := 1#32
  let v209 : BitVec 32 := Scalar.subi v208 c1_i32_85
  let v210 : BitVec 32 := Scalar.minsi v207 v209
  let v211 : BitVec 32 := Scalar.select v205 v210 v157
  let c3_i32 : BitVec 32 := 3#32
  let v212 : BitVec 32 := Scalar.select v205 c3_i32 v158
  let v213 : BitVec 32 := Scalar.select v205 v109 v159
  let v214 : BitVec 32 := Scalar.select v205 v163 v160
  let v215 : BitVec 32 := Scalar.addi v161 v202
  let v216 : BitVec 1 := Scalar.cmpi .slt arg0 v215
  let c0_i32_86 : BitVec 32 := 0#32
  let c0_i32_87 : BitVec 32 := 0#32
  let c0_i32_88 : BitVec 32 := 0#32
  ![v212.toNat, c0_i32_86.toNat, c0_i32_87.toNat]

def cc0_transform_3 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let v1 : BitVec 32 := Scalar.addi c0_i32 v0
  let c0_i32_0 : BitVec 32 := 0#32
  let c256_i32 : BitVec 32 := 256#32
  let v2 : BitVec 32 := Scalar.divsi c0_i32_0 c256_i32
  let c0_i32_1 : BitVec 32 := 0#32
  let v3 : BitVec 1 := Scalar.cmpi .sgt c0_i32_0 c0_i32_1
  let v4 : BitVec 32 := Scalar.extui v3
  let c0_i32_2 : BitVec 32 := 0#32
  let v5 : BitVec 1 := Scalar.cmpi .slt c0_i32_0 c0_i32_2
  let v6 : BitVec 32 := Scalar.extui v5
  let v7 : BitVec 32 := Scalar.subi v4 v6
  let c0_i32_3 : BitVec 32 := 0#32
  let v8 : BitVec 1 := Scalar.cmpi .sgt c256_i32 c0_i32_3
  let v9 : BitVec 32 := Scalar.extui v8
  let c0_i32_4 : BitVec 32 := 0#32
  let v10 : BitVec 1 := Scalar.cmpi .slt c256_i32 c0_i32_4
  let v11 : BitVec 32 := Scalar.extui v10
  let v12 : BitVec 32 := Scalar.subi v9 v11
  let v13 : BitVec 1 := Scalar.cmpi .ne v7 v12
  let v14 : BitVec 32 := Scalar.remsi c0_i32_0 c256_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let v19 : BitVec 1 := Scalar.cmpi .sgt v1 c0_i32_6
  let c256_i32_7 : BitVec 32 := 256#32
  let v20 : BitVec 32 := Scalar.addi v1 c256_i32_7
  let c1_i32_8 : BitVec 32 := 1#32
  let v21 : BitVec 32 := Scalar.subi v20 c1_i32_8
  let c256_i32_9 : BitVec 32 := 256#32
  let v22 : BitVec 32 := Scalar.divsi v21 c256_i32_9
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c0_i32_12 : BitVec 32 := 0#32
  let v28 : BitVec 1 := Scalar.cmpi .sgt c256_i32_9 c0_i32_12
  let v29 : BitVec 32 := Scalar.extui v28
  let c0_i32_13 : BitVec 32 := 0#32
  let v30 : BitVec 1 := Scalar.cmpi .slt c256_i32_9 c0_i32_13
  let v31 : BitVec 32 := Scalar.extui v30
  let v32 : BitVec 32 := Scalar.subi v29 v31
  let v33 : BitVec 1 := Scalar.cmpi .ne v27 v32
  let v34 : BitVec 32 := Scalar.remsi v21 c256_i32_9
  let c0_i32_14 : BitVec 32 := 0#32
  let v35 : BitVec 1 := Scalar.cmpi .ne v34 c0_i32_14
  let v36 : BitVec 1 := Scalar.andi v33 v35
  let c1_i32_15 : BitVec 32 := 1#32
  let v37 : BitVec 32 := Scalar.subi v22 c1_i32_15
  let v38 : BitVec 32 := Scalar.select v36 v37 v22
  let v39 : BitVec 32 := Scalar.subi v38 v18
  let c0_i32_16 : BitVec 32 := 0#32
  let v40 : BitVec 32 := Scalar.select v19 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let v44 : BitVec 32 := Scalar.addi v18 arg0
  let c0_i32_19 : BitVec 32 := 0#32
  let v45 : BitVec 32 := Scalar.subi v44 c0_i32_19
  let v46 : BitVec 32 := Scalar.addi v18 v40
  let c1_i32_20 : BitVec 32 := 1#32
  let v47 : BitVec 32 := Scalar.subi v46 c1_i32_20
  let v48 : BitVec 32 := Scalar.minsi v45 v47
  let c0_i32_21 : BitVec 32 := 0#32
  let v49 : BitVec 32 := Scalar.select v43 v48 c0_i32_21
  let c0_i32_22 : BitVec 32 := 0#32
  let c0_i32_23 : BitVec 32 := 0#32
  let v50 : BitVec 32 := Scalar.select v43 c0_i32_22 c0_i32_23
  let c0_i32_24 : BitVec 32 := 0#32
  let c0_i32_25 : BitVec 32 := 0#32
  let v51 : BitVec 32 := Scalar.select v43 c0_i32_24 c0_i32_25
  let c0_i32_26 : BitVec 32 := 0#32
  let v52 : BitVec 32 := Scalar.select v43 v1 c0_i32_26
  let c0_i32_27 : BitVec 32 := 0#32
  let v53 : BitVec 32 := Scalar.addi c0_i32_27 v40
  let c1 : Index := 1#32
  let v54 : BitVec 32 := pf.at 0 (Rect.unit (s := S4) ![1] S1.size inb_S4_S1_1) numel1_S1
  let v55 : BitVec 32 := Scalar.addi v1 v54
  let c256_i32_28 : BitVec 32 := 256#32
  let v56 : BitVec 32 := Scalar.divsi v1 c256_i32_28
  let c0_i32_29 : BitVec 32 := 0#32
  let v57 : BitVec 1 := Scalar.cmpi .sgt v1 c0_i32_29
  let v58 : BitVec 32 := Scalar.extui v57
  let c0_i32_30 : BitVec 32 := 0#32
  let v59 : BitVec 1 := Scalar.cmpi .slt v1 c0_i32_30
  let v60 : BitVec 32 := Scalar.extui v59
  let v61 : BitVec 32 := Scalar.subi v58 v60
  let c0_i32_31 : BitVec 32 := 0#32
  let v62 : BitVec 1 := Scalar.cmpi .sgt c256_i32_28 c0_i32_31
  let v63 : BitVec 32 := Scalar.extui v62
  let c0_i32_32 : BitVec 32 := 0#32
  let v64 : BitVec 1 := Scalar.cmpi .slt c256_i32_28 c0_i32_32
  let v65 : BitVec 32 := Scalar.extui v64
  let v66 : BitVec 32 := Scalar.subi v63 v65
  let v67 : BitVec 1 := Scalar.cmpi .ne v61 v66
  let v68 : BitVec 32 := Scalar.remsi v1 c256_i32_28
  let c0_i32_33 : BitVec 32 := 0#32
  let v69 : BitVec 1 := Scalar.cmpi .ne v68 c0_i32_33
  let v70 : BitVec 1 := Scalar.andi v67 v69
  let c1_i32_34 : BitVec 32 := 1#32
  let v71 : BitVec 32 := Scalar.subi v56 c1_i32_34
  let v72 : BitVec 32 := Scalar.select v70 v71 v56
  let v73 : BitVec 1 := Scalar.cmpi .sgt v55 v1
  let c256_i32_35 : BitVec 32 := 256#32
  let v74 : BitVec 32 := Scalar.addi v55 c256_i32_35
  let c1_i32_36 : BitVec 32 := 1#32
  let v75 : BitVec 32 := Scalar.subi v74 c1_i32_36
  let c256_i32_37 : BitVec 32 := 256#32
  let v76 : BitVec 32 := Scalar.divsi v75 c256_i32_37
  let c0_i32_38 : BitVec 32 := 0#32
  let v77 : BitVec 1 := Scalar.cmpi .sgt v75 c0_i32_38
  let v78 : BitVec 32 := Scalar.extui v77
  let c0_i32_39 : BitVec 32 := 0#32
  let v79 : BitVec 1 := Scalar.cmpi .slt v75 c0_i32_39
  let v80 : BitVec 32 := Scalar.extui v79
  let v81 : BitVec 32 := Scalar.subi v78 v80
  let c0_i32_40 : BitVec 32 := 0#32
  let v82 : BitVec 1 := Scalar.cmpi .sgt c256_i32_37 c0_i32_40
  let v83 : BitVec 32 := Scalar.extui v82
  let c0_i32_41 : BitVec 32 := 0#32
  let v84 : BitVec 1 := Scalar.cmpi .slt c256_i32_37 c0_i32_41
  let v85 : BitVec 32 := Scalar.extui v84
  let v86 : BitVec 32 := Scalar.subi v83 v85
  let v87 : BitVec 1 := Scalar.cmpi .ne v81 v86
  let v88 : BitVec 32 := Scalar.remsi v75 c256_i32_37
  let c0_i32_42 : BitVec 32 := 0#32
  let v89 : BitVec 1 := Scalar.cmpi .ne v88 c0_i32_42
  let v90 : BitVec 1 := Scalar.andi v87 v89
  let c1_i32_43 : BitVec 32 := 1#32
  let v91 : BitVec 32 := Scalar.subi v76 c1_i32_43
  let v92 : BitVec 32 := Scalar.select v90 v91 v76
  let v93 : BitVec 32 := Scalar.subi v92 v72
  let c0_i32_44 : BitVec 32 := 0#32
  let v94 : BitVec 32 := Scalar.select v73 v93 c0_i32_44
  let v95 : BitVec 1 := Scalar.cmpi .sge arg0 v53
  let c0_i32_45 : BitVec 32 := 0#32
  let v96 : BitVec 1 := Scalar.cmpi .sgt v94 c0_i32_45
  let v97 : BitVec 1 := Scalar.andi v95 v96
  let v98 : BitVec 32 := Scalar.addi v72 arg0
  let v99 : BitVec 32 := Scalar.subi v98 v53
  let v100 : BitVec 32 := Scalar.addi v72 v94
  let c1_i32_46 : BitVec 32 := 1#32
  let v101 : BitVec 32 := Scalar.subi v100 c1_i32_46
  let v102 : BitVec 32 := Scalar.minsi v99 v101
  let v103 : BitVec 32 := Scalar.select v97 v102 v49
  let c1_i32_47 : BitVec 32 := 1#32
  let v104 : BitVec 32 := Scalar.select v97 c1_i32_47 v50
  let v105 : BitVec 32 := Scalar.select v97 v1 v51
  let v106 : BitVec 32 := Scalar.select v97 v55 v52
  let v107 : BitVec 32 := Scalar.addi v53 v94
  let c2 : Index := 2#32
  let v108 : BitVec 32 := pf.at 0 (Rect.unit (s := S4) ![2] S1.size inb_S4_S1_2) numel1_S1
  let v109 : BitVec 32 := Scalar.addi v55 v108
  let c256_i32_48 : BitVec 32 := 256#32
  let v110 : BitVec 32 := Scalar.divsi v55 c256_i32_48
  let c0_i32_49 : BitVec 32 := 0#32
  let v111 : BitVec 1 := Scalar.cmpi .sgt v55 c0_i32_49
  let v112 : BitVec 32 := Scalar.extui v111
  let c0_i32_50 : BitVec 32 := 0#32
  let v113 : BitVec 1 := Scalar.cmpi .slt v55 c0_i32_50
  let v114 : BitVec 32 := Scalar.extui v113
  let v115 : BitVec 32 := Scalar.subi v112 v114
  let c0_i32_51 : BitVec 32 := 0#32
  let v116 : BitVec 1 := Scalar.cmpi .sgt c256_i32_48 c0_i32_51
  let v117 : BitVec 32 := Scalar.extui v116
  let c0_i32_52 : BitVec 32 := 0#32
  let v118 : BitVec 1 := Scalar.cmpi .slt c256_i32_48 c0_i32_52
  let v119 : BitVec 32 := Scalar.extui v118
  let v120 : BitVec 32 := Scalar.subi v117 v119
  let v121 : BitVec 1 := Scalar.cmpi .ne v115 v120
  let v122 : BitVec 32 := Scalar.remsi v55 c256_i32_48
  let c0_i32_53 : BitVec 32 := 0#32
  let v123 : BitVec 1 := Scalar.cmpi .ne v122 c0_i32_53
  let v124 : BitVec 1 := Scalar.andi v121 v123
  let c1_i32_54 : BitVec 32 := 1#32
  let v125 : BitVec 32 := Scalar.subi v110 c1_i32_54
  let v126 : BitVec 32 := Scalar.select v124 v125 v110
  let v127 : BitVec 1 := Scalar.cmpi .sgt v109 v55
  let c256_i32_55 : BitVec 32 := 256#32
  let v128 : BitVec 32 := Scalar.addi v109 c256_i32_55
  let c1_i32_56 : BitVec 32 := 1#32
  let v129 : BitVec 32 := Scalar.subi v128 c1_i32_56
  let c256_i32_57 : BitVec 32 := 256#32
  let v130 : BitVec 32 := Scalar.divsi v129 c256_i32_57
  let c0_i32_58 : BitVec 32 := 0#32
  let v131 : BitVec 1 := Scalar.cmpi .sgt v129 c0_i32_58
  let v132 : BitVec 32 := Scalar.extui v131
  let c0_i32_59 : BitVec 32 := 0#32
  let v133 : BitVec 1 := Scalar.cmpi .slt v129 c0_i32_59
  let v134 : BitVec 32 := Scalar.extui v133
  let v135 : BitVec 32 := Scalar.subi v132 v134
  let c0_i32_60 : BitVec 32 := 0#32
  let v136 : BitVec 1 := Scalar.cmpi .sgt c256_i32_57 c0_i32_60
  let v137 : BitVec 32 := Scalar.extui v136
  let c0_i32_61 : BitVec 32 := 0#32
  let v138 : BitVec 1 := Scalar.cmpi .slt c256_i32_57 c0_i32_61
  let v139 : BitVec 32 := Scalar.extui v138
  let v140 : BitVec 32 := Scalar.subi v137 v139
  let v141 : BitVec 1 := Scalar.cmpi .ne v135 v140
  let v142 : BitVec 32 := Scalar.remsi v129 c256_i32_57
  let c0_i32_62 : BitVec 32 := 0#32
  let v143 : BitVec 1 := Scalar.cmpi .ne v142 c0_i32_62
  let v144 : BitVec 1 := Scalar.andi v141 v143
  let c1_i32_63 : BitVec 32 := 1#32
  let v145 : BitVec 32 := Scalar.subi v130 c1_i32_63
  let v146 : BitVec 32 := Scalar.select v144 v145 v130
  let v147 : BitVec 32 := Scalar.subi v146 v126
  let c0_i32_64 : BitVec 32 := 0#32
  let v148 : BitVec 32 := Scalar.select v127 v147 c0_i32_64
  let v149 : BitVec 1 := Scalar.cmpi .sge arg0 v107
  let c0_i32_65 : BitVec 32 := 0#32
  let v150 : BitVec 1 := Scalar.cmpi .sgt v148 c0_i32_65
  let v151 : BitVec 1 := Scalar.andi v149 v150
  let v152 : BitVec 32 := Scalar.addi v126 arg0
  let v153 : BitVec 32 := Scalar.subi v152 v107
  let v154 : BitVec 32 := Scalar.addi v126 v148
  let c1_i32_66 : BitVec 32 := 1#32
  let v155 : BitVec 32 := Scalar.subi v154 c1_i32_66
  let v156 : BitVec 32 := Scalar.minsi v153 v155
  let v157 : BitVec 32 := Scalar.select v151 v156 v103
  let c2_i32 : BitVec 32 := 2#32
  let v158 : BitVec 32 := Scalar.select v151 c2_i32 v104
  let v159 : BitVec 32 := Scalar.select v151 v55 v105
  let v160 : BitVec 32 := Scalar.select v151 v109 v106
  let v161 : BitVec 32 := Scalar.addi v107 v148
  let c3 : Index := 3#32
  let v162 : BitVec 32 := pf.at 0 (Rect.unit (s := S4) ![3] S1.size inb_S4_S1_3) numel1_S1
  let v163 : BitVec 32 := Scalar.addi v109 v162
  let c256_i32_67 : BitVec 32 := 256#32
  let v164 : BitVec 32 := Scalar.divsi v109 c256_i32_67
  let c0_i32_68 : BitVec 32 := 0#32
  let v165 : BitVec 1 := Scalar.cmpi .sgt v109 c0_i32_68
  let v166 : BitVec 32 := Scalar.extui v165
  let c0_i32_69 : BitVec 32 := 0#32
  let v167 : BitVec 1 := Scalar.cmpi .slt v109 c0_i32_69
  let v168 : BitVec 32 := Scalar.extui v167
  let v169 : BitVec 32 := Scalar.subi v166 v168
  let c0_i32_70 : BitVec 32 := 0#32
  let v170 : BitVec 1 := Scalar.cmpi .sgt c256_i32_67 c0_i32_70
  let v171 : BitVec 32 := Scalar.extui v170
  let c0_i32_71 : BitVec 32 := 0#32
  let v172 : BitVec 1 := Scalar.cmpi .slt c256_i32_67 c0_i32_71
  let v173 : BitVec 32 := Scalar.extui v172
  let v174 : BitVec 32 := Scalar.subi v171 v173
  let v175 : BitVec 1 := Scalar.cmpi .ne v169 v174
  let v176 : BitVec 32 := Scalar.remsi v109 c256_i32_67
  let c0_i32_72 : BitVec 32 := 0#32
  let v177 : BitVec 1 := Scalar.cmpi .ne v176 c0_i32_72
  let v178 : BitVec 1 := Scalar.andi v175 v177
  let c1_i32_73 : BitVec 32 := 1#32
  let v179 : BitVec 32 := Scalar.subi v164 c1_i32_73
  let v180 : BitVec 32 := Scalar.select v178 v179 v164
  let v181 : BitVec 1 := Scalar.cmpi .sgt v163 v109
  let c256_i32_74 : BitVec 32 := 256#32
  let v182 : BitVec 32 := Scalar.addi v163 c256_i32_74
  let c1_i32_75 : BitVec 32 := 1#32
  let v183 : BitVec 32 := Scalar.subi v182 c1_i32_75
  let c256_i32_76 : BitVec 32 := 256#32
  let v184 : BitVec 32 := Scalar.divsi v183 c256_i32_76
  let c0_i32_77 : BitVec 32 := 0#32
  let v185 : BitVec 1 := Scalar.cmpi .sgt v183 c0_i32_77
  let v186 : BitVec 32 := Scalar.extui v185
  let c0_i32_78 : BitVec 32 := 0#32
  let v187 : BitVec 1 := Scalar.cmpi .slt v183 c0_i32_78
  let v188 : BitVec 32 := Scalar.extui v187
  let v189 : BitVec 32 := Scalar.subi v186 v188
  let c0_i32_79 : BitVec 32 := 0#32
  let v190 : BitVec 1 := Scalar.cmpi .sgt c256_i32_76 c0_i32_79
  let v191 : BitVec 32 := Scalar.extui v190
  let c0_i32_80 : BitVec 32 := 0#32
  let v192 : BitVec 1 := Scalar.cmpi .slt c256_i32_76 c0_i32_80
  let v193 : BitVec 32 := Scalar.extui v192
  let v194 : BitVec 32 := Scalar.subi v191 v193
  let v195 : BitVec 1 := Scalar.cmpi .ne v189 v194
  let v196 : BitVec 32 := Scalar.remsi v183 c256_i32_76
  let c0_i32_81 : BitVec 32 := 0#32
  let v197 : BitVec 1 := Scalar.cmpi .ne v196 c0_i32_81
  let v198 : BitVec 1 := Scalar.andi v195 v197
  let c1_i32_82 : BitVec 32 := 1#32
  let v199 : BitVec 32 := Scalar.subi v184 c1_i32_82
  let v200 : BitVec 32 := Scalar.select v198 v199 v184
  let v201 : BitVec 32 := Scalar.subi v200 v180
  let c0_i32_83 : BitVec 32 := 0#32
  let v202 : BitVec 32 := Scalar.select v181 v201 c0_i32_83
  let v203 : BitVec 1 := Scalar.cmpi .sge arg0 v161
  let c0_i32_84 : BitVec 32 := 0#32
  let v204 : BitVec 1 := Scalar.cmpi .sgt v202 c0_i32_84
  let v205 : BitVec 1 := Scalar.andi v203 v204
  let v206 : BitVec 32 := Scalar.addi v180 arg0
  let v207 : BitVec 32 := Scalar.subi v206 v161
  let v208 : BitVec 32 := Scalar.addi v180 v202
  let c1_i32_85 : BitVec 32 := 1#32
  let v209 : BitVec 32 := Scalar.subi v208 c1_i32_85
  let v210 : BitVec 32 := Scalar.minsi v207 v209
  let v211 : BitVec 32 := Scalar.select v205 v210 v157
  let c3_i32 : BitVec 32 := 3#32
  let v212 : BitVec 32 := Scalar.select v205 c3_i32 v158
  let v213 : BitVec 32 := Scalar.select v205 v109 v159
  let v214 : BitVec 32 := Scalar.select v205 v163 v160
  let v215 : BitVec 32 := Scalar.addi v161 v202
  let v216 : BitVec 1 := Scalar.cmpi .slt arg0 v215
  let c0_i32_86 : BitVec 32 := 0#32
  let c0_i32_87 : BitVec 32 := 0#32
  ![v211.toNat, c0_i32_86.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5120x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x40x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S12288x5120 : Shape := ⟨2, ![12288, 5120]⟩
abbrev S4 : Shape := ⟨1, ![4]⟩
abbrev S4x5120x768 : Shape := ⟨3, ![4, 5120, 768]⟩
abbrev S4x40x6 : Shape := ⟨3, ![4, 40, 6]⟩
abbrev S262 : Shape := ⟨1, ![262]⟩
abbrev S12288x40x128 : Shape := ⟨3, ![12288, 40, 128]⟩
abbrev S_ : Shape := ⟨0, ![]⟩
abbrev S12288x40 : Shape := ⟨2, ![12288, 40]⟩
abbrev S12288x40x1 : Shape := ⟨3, ![12288, 40, 1]⟩
abbrev S1x1x262 : Shape := ⟨3, ![1, 1, 262]⟩
abbrev S12288x40x262 : Shape := ⟨3, ![12288, 40, 262]⟩
abbrev S4x40x1x6x1 : Shape := ⟨5, ![4, 40, 1, 6, 1]⟩
abbrev S4x40x128x6x128 : Shape := ⟨5, ![4, 40, 128, 6, 128]⟩
abbrev S1x4 : Shape := ⟨2, ![1, 4]⟩
abbrev S12288 : Shape := ⟨1, ![12288]⟩
abbrev S12288x1 : Shape := ⟨2, ![12288, 1]⟩
abbrev S12288x4 : Shape := ⟨2, ![12288, 4]⟩
abbrev S12288x768 : Shape := ⟨2, ![12288, 768]⟩
abbrev S1x5120x768 : Shape := ⟨3, ![1, 5120, 768]⟩
abbrev S5120x768 : Shape := ⟨2, ![5120, 768]⟩

abbrev nBuf : Space → Nat
  | .hbm => 69
  | .vmem => 6
  | .smem => 0
  | _ => 0

abbrev bufTy : (tb : Table) → Fin (tcTables nBuf tb) → BufTy
  | .hbm, ⟨0, _⟩ => ⟨S12288x5120, .bf16⟩
  | .hbm, ⟨1, _⟩ => ⟨S4, .i32⟩
  | .hbm, ⟨2, _⟩ => ⟨S4x5120x768, .fp8e4m3⟩
  | .hbm, ⟨3, _⟩ => ⟨S4x40x6, .f32⟩
  | .hbm, ⟨4, _⟩ => ⟨S262, .f32⟩
  | .hbm, ⟨5, _⟩ => ⟨S12288x5120, .f32⟩
  | .hbm, ⟨6, _⟩ => ⟨S12288x40x128, .f32⟩
  | .hbm, ⟨7, _⟩ => ⟨S12288x40x128, .f32⟩
  | .hbm, ⟨8, _⟩ => ⟨S_, .f32⟩
  | .hbm, ⟨9, _⟩ => ⟨S12288x40, .f32⟩
  | .hbm, ⟨10, _⟩ => ⟨S_, .f32⟩
  | .hbm, ⟨11, _⟩ => ⟨S12288x40, .f32⟩
  | .hbm, ⟨12, _⟩ => ⟨S12288x40, .f32⟩
  | .hbm, ⟨13, _⟩ => ⟨S12288x40x1, .f32⟩
  | .hbm, ⟨14, _⟩ => ⟨S1x1x262, .f32⟩
  | .hbm, ⟨15, _⟩ => ⟨S12288x40x262, .f32⟩
  | .hbm, ⟨16, _⟩ => ⟨S12288x40x262, .f32⟩
  | .hbm, ⟨17, _⟩ => ⟨S12288x40x262, .i1⟩
  | .hbm, ⟨18, _⟩ => ⟨S_, .f32⟩
  | .hbm, ⟨19, _⟩ => ⟨S_, .f32⟩
  | .hbm, ⟨20, _⟩ => ⟨S12288x40x262, .f32⟩
  | .hbm, ⟨21, _⟩ => ⟨S12288x40x262, .f32⟩
  | .hbm, ⟨22, _⟩ => ⟨S12288x40x262, .f32⟩
  | .hbm, ⟨23, _⟩ => ⟨S_, .f32⟩
  | .hbm, ⟨24, _⟩ => ⟨S12288x40, .f32⟩
  | .hbm, ⟨25, _⟩ => ⟨S_, .f32⟩
  | .hbm, ⟨26, _⟩ => ⟨S12288x40, .f32⟩
  | .hbm, ⟨27, _⟩ => ⟨S12288x40, .i1⟩
  | .hbm, ⟨28, _⟩ => ⟨S_, .f32⟩
  | .hbm, ⟨29, _⟩ => ⟨S_, .f32⟩
  | .hbm, ⟨30, _⟩ => ⟨S12288x40, .f32⟩
  | .hbm, ⟨31, _⟩ => ⟨S12288x40, .f32⟩
  | .hbm, ⟨32, _⟩ => ⟨S_, .f32⟩
  | .hbm, ⟨33, _⟩ => ⟨S12288x40, .f32⟩
  | .hbm, ⟨34, _⟩ => ⟨S12288x40, .f32⟩
  | .hbm, ⟨35, _⟩ => ⟨S12288x40x1, .f32⟩
  | .hbm, ⟨36, _⟩ => ⟨S12288x40x128, .f32⟩
  | .hbm, ⟨37, _⟩ => ⟨S12288x40x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S12288x40x128, .f32⟩
  | .hbm, ⟨42, _⟩ => ⟨S12288x40x128, .f32⟩
  | .hbm, ⟨43, _⟩ => ⟨S_, .f32⟩
  | .hbm, ⟨44, _⟩ => ⟨S12288x40x128, .f32⟩
  | .hbm, ⟨45, _⟩ => ⟨S12288x40x128, .f32⟩
  | .hbm, ⟨46, _⟩ => ⟨S12288x5120, .f32⟩
  | .hbm, ⟨47, _⟩ => ⟨S12288x40, .bf16⟩
  | .hbm, ⟨48, _⟩ => ⟨S12288x40x1, .bf16⟩
  | .hbm, ⟨49, _⟩ => ⟨S12288x40x128, .bf16⟩
  | .hbm, ⟨50, _⟩ => ⟨S12288x5120, .bf16⟩
  | .hbm, ⟨51, _⟩ => ⟨S4x40x6, .bf16⟩
  | .hbm, ⟨52, _⟩ => ⟨S4x40x1x6x1, .bf16⟩
  | .hbm, ⟨53, _⟩ => ⟨S4x40x128x6x128, .bf16⟩
  | .hbm, ⟨54, _⟩ => ⟨S4x5120x768, .bf16⟩
  | .hbm, ⟨55, _⟩ => ⟨S_, .i32⟩
  | .hbm, ⟨56, _⟩ => ⟨S_, .i32⟩
  | .hbm, ⟨57, _⟩ => ⟨S4, .i32⟩
  | .hbm, ⟨58, _⟩ => ⟨S1x4, .i32⟩
  | .hbm, ⟨59, _⟩ => ⟨S12288, .i32⟩
  | .hbm, ⟨60, _⟩ => ⟨S12288x1, .i32⟩
  | .hbm, ⟨61, _⟩ => ⟨S12288x4, .i32⟩
  | .hbm, ⟨62, _⟩ => ⟨S12288x4, .i32⟩
  | .hbm, ⟨63, _⟩ => ⟨S12288x4, .i1⟩
  | .hbm, ⟨64, _⟩ => ⟨S12288x4, .i32⟩
  | .hbm, ⟨65, _⟩ => ⟨S_, .i32⟩
  | .hbm, ⟨66, _⟩ => ⟨S12288, .i32⟩
  | .hbm, ⟨67, _⟩ => ⟨S12288x1, .i32⟩
  | .hbm, ⟨68, _⟩ => ⟨S12288x768, .bf16⟩
  | .local _ .vmem, ⟨0, _⟩ => ⟨S12288x5120, .f32⟩
  | .local _ .vmem, ⟨1, _⟩ => ⟨S12288x5120, .bf16⟩
  | .local _ .vmem, ⟨2, _⟩ => ⟨S12288x1, .i32⟩
  | .local _ .vmem, ⟨3, _⟩ => ⟨S4x5120x768, .fp8e4m3⟩
  | .local _ .vmem, ⟨4, _⟩ => ⟨S4x5120x768, .bf16⟩
  | .local _ .vmem, ⟨5, _⟩ => ⟨S12288x768, .bf16⟩
  | _, _ => ⟨S12288x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_cst_8 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_call0_c : Ref sig .tc := ⟨.hbm, 55, rfl⟩
abbrev main_call3_call0_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x5120x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5120x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
module

public import Idealize.ShloMosaic.Lib.Affine

/-!
# The schedule's words

The kernel and its index maps compute the same schedule from the four group sizes: one step per expert.
Here is that step over words, the step over natural numbers it means, and the proof that the words mean
the numbers when the sizes are not negative and do not pass 12288 in sum.
-/

@[expose] public section

namespace Cert.Sched

open Idealize.ShloMosaic Affine

/-- The quotient by 256 rounded down, as it is printed: the quotient rounded to zero, less one where the
    signs differ and a remainder is left. -/
def fdiv (a : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt 256#32 0#32)) (Scalar.extui (Scalar.cmpi .slt 256#32 0#32))))
      (Scalar.cmpi .ne (Scalar.remsi a 256#32) 0#32))
    (Scalar.subi (Scalar.divsi a 256#32) 1#32) (Scalar.divsi a 256#32)

/-- Where the schedule stands after some experts: the rows and the items passed, and the item's tile,
    expert and row bounds so far. -/
structure St where
  start : BitVec 32
  done : BitVec 32
  tile : BitVec 32
  expert : BitVec 32
  lo : BitVec 32
  hi : BitVec 32

/-- The row after the expert's last. -/
def fin (size : BitVec 32) (s : St) : BitVec 32 := Scalar.addi s.start size

/-- How many tiles the expert's rows touch. -/
def num (size : BitVec 32) (s : St) : BitVec 32 :=
  Scalar.select (Scalar.cmpi .sgt (fin size s) s.start)
    (Scalar.subi (fdiv (Scalar.subi (Scalar.addi (fin size s) 256#32) 1#32)) (fdiv s.start)) 0#32

/-- Whether the item belongs to this expert or a later one. -/
def here (item size : BitVec 32) (s : St) : BitVec 1 :=
  Scalar.andi (Scalar.cmpi .sge item s.done) (Scalar.cmpi .sgt (num size s) 0#32)

/-- One expert of the schedule. -/
def step (e item size : BitVec 32) (s : St) : St where
  start := fin size s
  done := Scalar.addi s.done (num size s)
  tile := Scalar.select (here item size s)
    (Scalar.minsi (Scalar.subi (Scalar.addi (fdiv s.start) item) s.done)
      (Scalar.subi (Scalar.addi (fdiv s.start) (num size s)) 1#32)) s.tile
  expert := Scalar.select (here item size s) e s.expert
  lo := Scalar.select (here item size s) s.start s.lo
  hi := Scalar.select (here item size s) (fin size s) s.hi

/-- The schedule of an item: the four experts in turn. -/
def sched (item a b c d : BitVec 32) : St :=
  step 3#32 item d (step 2#32 item c (step 1#32 item b (step 0#32 item a ⟨0#32, 0#32, 0#32, 0#32, 0#32, 0#32⟩)))

/-- The same over natural numbers. -/
structure NSt where
  start : ℕ
  done : ℕ
  tile : ℕ
  expert : ℕ
  lo : ℕ
  hi : ℕ

/-- How many tiles the expert's rows touch, over natural numbers. -/
def nnum (size : ℕ) (m : NSt) : ℕ := if 0 < size then (m.start + size + 255) / 256 - m.start / 256 else 0

/-- One expert of the schedule, over natural numbers. -/
def nstep (e item size : ℕ) (m : NSt) : NSt :=
  if m.done ≤ item ∧ 0 < nnum size m then
    ⟨m.start + size, m.done + nnum size m,
      min (m.start / 256 + item - m.done) (m.start / 256 + nnum size m - 1), e, m.start, m.start + size⟩
  else ⟨m.start + size, m.done + nnum size m, m.tile, m.expert, m.lo, m.hi⟩

/-- The schedule of an item, over natural numbers. -/
def nsched (item a b c d : ℕ) : NSt :=
  nstep 3 item d (nstep 2 item c (nstep 1 item b (nstep 0 item a ⟨0, 0, 0, 0, 0, 0⟩)))

/-- The words of a state mean the numbers of another. -/
structure Rep (s : St) (m : NSt) : Prop where
  start : IsInt s.start m.start
  done : IsInt s.done m.done
  tile : IsInt s.tile m.tile
  expert : IsInt s.expert m.expert
  lo : IsInt s.lo m.lo
  hi : IsInt s.hi m.hi

/-- A small literal word means itself. -/
theorem lit (n : ℕ) (h : n < 2 ^ 31) : IsInt (BitVec.ofNat 32 n) (n : ℤ) := ofNat n ⟨rfl, h⟩

/-- The printed quotient of a word that is not negative is the quotient. -/
theorem fdiv_rep {a : BitVec 32} {n : ℕ} (h : IsInt a (n : ℤ)) : IsInt (fdiv a) ((n / 256 : ℕ) : ℤ) := by
  have h0 : IsInt 0#32 (0 : ℤ) := ofNat 0 ⟨rfl, by omega⟩
  have h1 : IsInt 1#32 (1 : ℤ) := ofNat 1 ⟨rfl, by omega⟩
  have h256 : IsInt 256#32 (256 : ℤ) := ofNat 256 ⟨rfl, by omega⟩
  have hq : IsInt (Scalar.divsi a 256#32) ((n / 256 : ℕ) : ℤ) := divsi h h256 ⟨by omega, by omega, by omega⟩
  have hr : IsInt (Scalar.remsi a 256#32) ((n : ℤ) % 256) := remsi h h256 ⟨rfl, by omega, by omega⟩
  have hsl : Fails (Scalar.cmpi .slt a 0#32) := slt_fails h h0 (by omega)
  have hs : IsInt (Scalar.subi (Scalar.extui (Scalar.cmpi .sgt 256#32 0#32)) (Scalar.extui (Scalar.cmpi .slt 256#32 0#32)) : BitVec 32)
      (1 : ℤ) := subi (extui_holds (sgt_holds h256 h0 (by omega)) rfl) (extui_fails (slt_fails h256 h0 (by omega)) rfl)
        ⟨by omega, by omega, by omega⟩
  have hb := word_range a
  have hc : Fails (Scalar.andi
      (Scalar.cmpi .ne
        (Scalar.subi (Scalar.extui (Scalar.cmpi .sgt a 0#32)) (Scalar.extui (Scalar.cmpi .slt a 0#32)))
        (Scalar.subi (Scalar.extui (Scalar.cmpi .sgt 256#32 0#32)) (Scalar.extui (Scalar.cmpi .slt 256#32 0#32))))
      (Scalar.cmpi .ne (Scalar.remsi a 256#32) 0#32)) := by
    rcases Nat.eq_zero_or_pos n with hz | hz
    · exact andi_fails_right trivial (ne_fails hr h0 (by omega))
    · exact andi_fails_left (ne_fails (subi (extui_holds (sgt_holds h h0 (by omega)) rfl) (extui_fails hsl rfl)
        (e := 1) ⟨by omega, by omega, by omega⟩) hs rfl) trivial
  exact select_fails hc (word _) hq rfl

/-- The words of the next state mean the numbers of the next state. -/
theorem step_rep {e item size : BitVec 32} {ne ni k : ℕ} {s : St} {m : NSt} (h : Rep s m)
    (he : IsInt e (ne : ℤ)) (hi : IsInt item (ni : ℤ)) (hk : IsInt size (k : ℤ))
    (hs : m.start + k ≤ 12288) (hd : m.done ≤ 1000) (hn : ni ≤ 1000) :
    Rep (step e item size s) (nstep ne ni k m) := by
  have h0 : IsInt 0#32 (0 : ℤ) := ofNat 0 ⟨rfl, by omega⟩
  have h1 : IsInt 1#32 (1 : ℤ) := ofNat 1 ⟨rfl, by omega⟩
  have h256 : IsInt 256#32 (256 : ℤ) := ofNat 256 ⟨rfl, by omega⟩
  have hfin : IsInt (fin size s) ((m.start + k : ℕ) : ℤ) := addi h.start hk ⟨by omega, by omega, by omega⟩
  have hup : IsInt (Scalar.subi (Scalar.addi (fin size s) 256#32) 1#32) ((m.start + k + 255 : ℕ) : ℤ) :=
    subi (addi hfin h256 (e := ((m.start + k + 256 : ℕ) : ℤ)) ⟨by omega, by omega, by omega⟩) h1
      ⟨by omega, by omega, by omega⟩
  have hfs := fdiv_rep h.start
  have hsub : IsInt (Scalar.subi (fdiv (Scalar.subi (Scalar.addi (fin size s) 256#32) 1#32)) (fdiv s.start))
      (((m.start + k + 255) / 256 - m.start / 256 : ℕ) : ℤ) :=
    subi (fdiv_rep hup) hfs ⟨by omega, by omega, by omega⟩
  have hnum : IsInt (num size s) ((nnum k m : ℕ) : ℤ) := by
    unfold num nnum
    rcases Nat.eq_zero_or_pos k with hz | hz
    · exact select_fails (sgt_fails hfin h.start (by omega)) hsub h0 (by simp [hz])
    · exact select_holds (sgt_holds hfin h.start (by omega)) hsub h0 (by rw [if_pos hz])
  have hnb : nnum k m ≤ 49 := by unfold nnum; split <;> omega
  have hdone : IsInt (Scalar.addi s.done (num size s)) ((m.done + nnum k m : ℕ) : ℤ) :=
    addi h.done hnum ⟨by omega, by omega, by omega⟩
  by_cases hc : m.done ≤ ni ∧ 0 < nnum k m
  · have hh : here item size s = 1 :=
      andi_holds (sge_holds hi h.done (by omega)) (sgt_holds hnum h0 (by omega))
    have hm : nstep ne ni k m = ⟨m.start + k, m.done + nnum k m,
      min (m.start / 256 + ni - m.done) (m.start / 256 + nnum k m - 1), ne, m.start, m.start + k⟩ := if_pos hc
    rw [hm]
    have ht : IsInt (Scalar.minsi (Scalar.subi (Scalar.addi (fdiv s.start) item) s.done)
        (Scalar.subi (Scalar.addi (fdiv s.start) (num size s)) 1#32))
        ((min (m.start / 256 + ni - m.done) (m.start / 256 + nnum k m - 1) : ℕ) : ℤ) :=
      minsi (subi (addi hfs hi (e := ((m.start / 256 + ni : ℕ) : ℤ)) ⟨by omega, by omega, by omega⟩) h.done
          (e := ((m.start / 256 + ni - m.done : ℕ) : ℤ)) ⟨by omega, by omega, by omega⟩)
        (subi (addi hfs hnum (e := ((m.start / 256 + nnum k m : ℕ) : ℤ)) ⟨by omega, by omega, by omega⟩) h1
          (e := ((m.start / 256 + nnum k m - 1 : ℕ) : ℤ)) ⟨by omega, by omega, by omega⟩)
        (by omega)
    exact ⟨hfin, hdone, select_holds hh ht h.tile rfl, select_holds hh he h.expert rfl,
      select_holds hh h.start h.lo rfl, select_holds hh hfin h.hi rfl⟩
  · have hh : Fails (here item size s) := by
      rcases not_and_or.1 hc with h' | h'
      · exact andi_fails_left (sge_fails hi h.done (by omega)) trivial
      · exact andi_fails_right trivial (sgt_fails hnum h0 (by omega))
    have hm : nstep ne ni k m = ⟨m.start + k, m.done + nnum k m, m.tile, m.expert, m.lo, m.hi⟩ := if_neg hc
    rw [hm]
    exact ⟨hfin, hdone, select_fails hh (word _) h.tile rfl, select_fails hh he h.expert rfl,
      select_fails hh h.start h.lo rfl, select_fails hh hfin h.hi rfl⟩

/-- The rows passed after a step. -/
theorem nstep_start (e i k : ℕ) (m : NSt) : (nstep e i k m).start = m.start + k := by unfold nstep; split <;> rfl

/-- The items passed after a step. -/
theorem nstep_done (e i k : ℕ) (m : NSt) : (nstep e i k m).done = m.done + nnum k m := by unfold nstep; split <;> rfl

theorem nnum_le (k : ℕ) (m : NSt) (hs : m.start + k ≤ 12288) : nnum k m ≤ 49 := by unfold nnum; split <;> omega

/-- The schedule's words mean the schedule's numbers. -/
theorem sched_rep {item a b c d : BitVec 32} {ni na nb nc nd : ℕ} (hi : IsInt item (ni : ℤ)) (hn : ni ≤ 1000)
    (ha : IsInt a (na : ℤ)) (hb : IsInt b (nb : ℤ)) (hc : IsInt c (nc : ℤ)) (hd : IsInt d (nd : ℤ))
    (hs : na + nb + nc + nd ≤ 12288) : Rep (sched item a b c d) (nsched ni na nb nc nd) := by
  have z : IsInt 0#32 ((0 : ℕ) : ℤ) := lit 0 (by omega)
  have r0 : Rep ⟨0#32, 0#32, 0#32, 0#32, 0#32, 0#32⟩ ⟨0, 0, 0, 0, 0, 0⟩ := ⟨z, z, z, z, z, z⟩
  unfold sched nsched
  generalize hm0 : (⟨0, 0, 0, 0, 0, 0⟩ : NSt) = m0 at r0
  have e0 : m0.start = 0 := by rw [← hm0]
  have f0 : m0.done = 0 := by rw [← hm0]
  have r1 := step_rep (e := 0#32) (ne := 0) r0 z hi ha (by omega) (by omega) hn
  have n1 := nnum_le na m0 (by omega)
  have s1 := nstep_start 0 ni na m0
  have d1 := nstep_done 0 ni na m0
  generalize nstep 0 ni na m0 = m1 at r1 s1 d1 ⊢
  have r2 := step_rep (e := 1#32) (ne := 1) r1 (lit 1 (by omega)) hi hb (by omega) (by omega) hn
  have n2 := nnum_le nb m1 (by omega)
  have s2 := nstep_start 1 ni nb m1
  have d2 := nstep_done 1 ni nb m1
  generalize nstep 1 ni nb m1 = m2 at r2 s2 d2 ⊢
  have r3 := step_rep (e := 2#32) (ne := 2) r2 (lit 2 (by omega)) hi hc (by omega) (by omega) hn
  have n3 := nnum_le nc m2 (by omega)
  have s3 := nstep_start 2 ni nc m2
  have d3 := nstep_done 2 ni nc m2
  generalize nstep 2 ni nc m2 = m3 at r3 s3 d3 ⊢
  exact step_rep (e := 3#32) (ne := 3) r3 (lit 3 (by omega)) hi hd (by omega) (by omega) hn

/-- A word that means a natural number is that number. -/
theorem toNat_of_rep {x : BitVec 32} {n : ℕ} (h : IsInt x (n : ℤ)) : x.toNat = n := by
  unfold IsInt at h
  rw [BitVec.toInt_eq_toNat_cond] at h
  have := x.isLt
  split at h <;> omega

/-! ## The schedule's numbers -/

/-- How far two items' walks through the same experts agree. -/
structure Pair (m m' : NSt) : Prop where
  start : m'.start = m.start
  done : m'.done = m.done
  le : m.tile ≤ m'.tile
  lo : 256 * m'.tile ≤ m.start
  lo' : 256 * m.tile ≤ m.start
  top : m.tile < 48
  top' : m'.tile < 48

/-- One expert keeps a later item's tile at or after an earlier item's. -/
theorem pair_step {m m' : NSt} {e i j k : ℕ} (h : Pair m m') (hij : i ≤ j) (hs : m.start + k ≤ 12288) :
    Pair (nstep e i k m) (nstep e j k m') := by
  obtain ⟨h1, h2, h3, h4, h5, h6, h7⟩ := h
  have hn : nnum k m' = nnum k m := by unfold nnum; rw [h1]
  have hv : nnum k m = 0 ∨ nnum k m = (m.start + k + 255) / 256 - m.start / 256 := by
    unfold nnum; split <;> simp
  unfold nstep
  rw [hn]
  generalize nnum k m = n at *
  split_ifs with ha hb hb <;> refine ⟨?_, ?_, ?_, ?_, ?_, ?_, ?_⟩ <;> simp only <;> omega

/-- A later item's tile is at or after an earlier item's, and both are tiles. -/
theorem nsched_pair {i j a b c d : ℕ} (hij : i ≤ j) (hs : a + b + c + d ≤ 12288) :
    Pair (nsched i a b c d) (nsched j a b c d) := by
  have p0 : Pair ⟨0, 0, 0, 0, 0, 0⟩ ⟨0, 0, 0, 0, 0, 0⟩ := ⟨rfl, rfl, le_rfl, by simp, by simp, by simp, by simp⟩
  unfold nsched
  generalize hm0 : (⟨0, 0, 0, 0, 0, 0⟩ : NSt) = m0 at p0
  have e0 : m0.start = 0 := by rw [← hm0]
  have p1 := pair_step (e := 0) (k := a) p0 hij (by omega)
  have s1 := nstep_start 0 i a m0
  generalize nstep 0 i a m0 = m1 at *
  have p2 := pair_step (e := 1) (k := b) p1 hij (by omega)
  have s2 := nstep_start 1 i b m1
  generalize nstep 1 i b m1 = m2 at *
  have p3 := pair_step (e := 2) (k := c) p2 hij (by omega)
  have s3 := nstep_start 2 i c m2
  generalize nstep 2 i c m2 = m3 at *
  exact pair_step (e := 3) (k := d) p3 hij (by omega)

/-- The row an expert's rows begin at. -/
def off (a b c d : ℕ) : ℕ → ℕ
  | 0 => 0
  | 1 => a
  | 2 => a + b
  | 3 => a + b + c
  | _ => a + b + c + d

/-- An item's row bounds are its expert's first row and the next expert's, or no rows at all. -/
structure Own (o : ℕ → ℕ) (m : NSt) : Prop where
  expert : m.expert < 4
  rows : m.lo = m.hi ∨ m.lo = o m.expert ∧ m.hi = o (m.expert + 1)

theorem own_step {o : ℕ → ℕ} {m : NSt} {e i k : ℕ} (h : Own o m) (he : e < 4) (h1 : m.start = o e)
    (h2 : m.start + k = o (e + 1)) : Own o (nstep e i k m) := by
  unfold nstep
  split
  · exact ⟨he, .inr ⟨h1, h2⟩⟩
  · exact ⟨h.expert, h.rows⟩

/-- An item's expert is one of the four, and its row bounds are that expert's. -/
theorem nsched_own (i a b c d : ℕ) : Own (off a b c d) (nsched i a b c d) := by
  have p0 : Own (off a b c d) ⟨0, 0, 0, 0, 0, 0⟩ := ⟨by simp, .inl rfl⟩
  unfold nsched
  generalize hm0 : (⟨0, 0, 0, 0, 0, 0⟩ : NSt) = m0 at p0
  have e0 : m0.start = 0 := by rw [← hm0]
  have p1 := own_step (e := 0) (k := a) (i := i) p0 (by omega) e0 (by rw [e0]; simp [off])
  have s1 := nstep_start 0 i a m0
  generalize nstep 0 i a m0 = m1 at *
  have p2 := own_step (e := 1) (k := b) (i := i) p1 (by omega) (by simp [off]; omega) (by simp [off]; omega)
  have s2 := nstep_start 1 i b m1
  generalize nstep 1 i b m1 = m2 at *
  have p3 := own_step (e := 2) (k := c) (i := i) p2 (by omega) (by simp [off]; omega) (by simp [off]; omega)
  have s3 := nstep_start 2 i c m2
  generalize nstep 2 i c m2 = m3 at *
  exact own_step (e := 3) (k := d) (i := i) p3 (by omega) (by simp [off]; omega) (by simp [off]; omega)

/-- The state with the item's own part left out is the same for every item. -/
theorem nstep_later {e i k : ℕ} {m : NSt} (h : i < m.done) :
    (nstep e i k m).tile = m.tile ∧ (nstep e i k m).expert = m.expert ∧ (nstep e i k m).lo = m.lo
      ∧ (nstep e i k m).hi = m.hi ∧ i < (nstep e i k m).done := by
  rw [nstep_done]
  unfold nstep
  rw [if_neg (by omega)]
  exact ⟨rfl, rfl, rfl, rfl, by omega⟩

/-- The expert a row belongs to has an item for the row's tile. -/
theorem nstep_hit {e k r : ℕ} {m : NSt} (h1 : m.start ≤ r) (h2 : r < m.start + k) :
    let i := m.done + (r / 256 - m.start / 256)
    (nstep e i k m).tile = r / 256 ∧ (nstep e i k m).expert = e ∧ (nstep e i k m).lo = m.start
      ∧ (nstep e i k m).hi = m.start + k ∧ i < (nstep e i k m).done := by
  intro i
  have hn : nnum k m = (m.start + k + 255) / 256 - m.start / 256 := if_pos (by omega)
  have hp : 0 < nnum k m := by omega
  rw [nstep_done]
  unfold nstep
  rw [if_pos ⟨by omega, hp⟩]
  refine ⟨?_, rfl, rfl, rfl, by omega⟩
  simp only
  omega

/-- The items passed never exceed the tiles passed by more than one an expert. -/
theorem nstep_few {e i k f : ℕ} {m : NSt} (h : m.done ≤ (m.start + 255) / 256 + f) :
    (nstep e i k m).done ≤ ((nstep e i k m).start + 255) / 256 + (f + 1) := by
  rw [nstep_done, nstep_start]
  have hv : nnum k m = 0 ∨ nnum k m = (m.start + k + 255) / 256 - m.start / 256 := by
    unfold nnum; split <;> simp
  omega

/-- Every row belongs to the row bounds of some item of the row's tile. -/
theorem nsched_cover {a b c d r : ℕ} (hs : a + b + c + d = 12288) (hr : r < 12288) :
    ∃ i, i < 51 ∧ i < (nsched i a b c d).done ∧ (nsched i a b c d).tile = r / 256
      ∧ (nsched i a b c d).lo ≤ r ∧ r < (nsched i a b c d).hi := by
  obtain ⟨q1, h1⟩ : ∃ q, q = nnum a ⟨0, 0, 0, 0, 0, 0⟩ := ⟨_, rfl⟩
  obtain ⟨q2, h2⟩ : ∃ q, q = nnum b ⟨a, 0, 0, 0, 0, 0⟩ := ⟨_, rfl⟩
  obtain ⟨q3, h3⟩ : ∃ q, q = nnum c ⟨a + b, 0, 0, 0, 0, 0⟩ := ⟨_, rfl⟩
  obtain ⟨q4, h4⟩ : ∃ q, q = nnum d ⟨a + b + c, 0, 0, 0, 0, 0⟩ := ⟨_, rfl⟩
  have key : ∀ i, ∃ m1 m2 m3 : NSt, m1 = nstep 0 i a ⟨0, 0, 0, 0, 0, 0⟩ ∧ m2 = nstep 1 i b m1 ∧ m3 = nstep 2 i c m2
      ∧ nsched i a b c d = nstep 3 i d m3 ∧ m1.start = a ∧ m2.start = a + b ∧ m3.start = a + b + c
      ∧ m1.done = q1 ∧ m2.done = q1 + q2 ∧ m3.done = q1 + q2 + q3 ∧ (nstep 3 i d m3).done = q1 + q2 + q3 + q4 := by
    intro i
    refine ⟨_, _, _, rfl, rfl, rfl, rfl, ?_, ?_, ?_, ?_, ?_, ?_, ?_⟩ <;>
      simp only [nstep_start, nstep_done, nnum, h1, h2, h3, h4, Nat.zero_add]
  have hq : q1 + q2 + q3 + q4 ≤ 51 := by
    have e1 : q1 ≤ (a + 255) / 256 := by rw [h1]; unfold nnum; split <;> simp
    have e2 : q2 = 0 ∨ q2 = (a + b + 255) / 256 - a / 256 := by rw [h2]; unfold nnum; split <;> simp
    have e3 : q3 = 0 ∨ q3 = (a + b + c + 255) / 256 - (a + b) / 256 := by rw [h3]; unfold nnum; split <;> simp
    have e4 : q4 = 0 ∨ q4 = (a + b + c + d + 255) / 256 - (a + b + c) / 256 := by
      rw [h4]; unfold nnum; split <;> simp
    clear key h1 h2 h3 h4
    have f2 : q1 + q2 ≤ (a + b + 255) / 256 + 1 := by omega
    have f3 : q1 + q2 + q3 ≤ (a + b + c + 255) / 256 + 2 := by omega
    omega
  rcases Nat.lt_or_ge r a with c1 | c1
  · have hit := nstep_hit (e := 0) (k := a) (r := r) (m := ⟨0, 0, 0, 0, 0, 0⟩) (Nat.zero_le r) (show r < 0 + a by omega)
    simp only at hit
    obtain ⟨m1, m2, m3, g1, g2, g3, g, -, -, -, -, -, -, gd⟩ := key (0 + (r / 256 - 0 / 256))
    obtain ⟨t1, -, l1, u1, i1⟩ := hit
    refine ⟨0 + (r / 256 - 0 / 256), ?_⟩
    rw [g]
    rw [← g1] at t1 l1 u1 i1
    obtain ⟨t2, -, l2, u2, i2⟩ := nstep_later (e := 1) (k := b) i1
    rw [← g2] at t2 l2 u2 i2
    obtain ⟨t3, -, l3, u3, i3⟩ := nstep_later (e := 2) (k := c) i2
    rw [← g3] at t3 l3 u3 i3
    obtain ⟨t4, -, l4, u4, i4⟩ := nstep_later (e := 3) (k := d) i3
    refine ⟨by omega, i4, by omega, by omega, by omega⟩
  rcases Nat.lt_or_ge r (a + b) with c2 | c2
  · obtain ⟨m1, m2, m3, g1, g2, g3, g, s1, -, -, d1, -, -, gd⟩ := key (q1 + (r / 256 - a / 256))
    have hit := nstep_hit (e := 1) (k := b) (r := r) (m := m1) (by omega) (by omega)
    rw [d1, s1] at hit
    obtain ⟨t2, -, l2, u2, i2⟩ := hit
    refine ⟨q1 + (r / 256 - a / 256), ?_⟩
    rw [g]
    rw [← g2] at t2 l2 u2 i2
    obtain ⟨t3, -, l3, u3, i3⟩ := nstep_later (e := 2) (k := c) i2
    rw [← g3] at t3 l3 u3 i3
    obtain ⟨t4, -, l4, u4, i4⟩ := nstep_later (e := 3) (k := d) i3
    refine ⟨by omega, i4, by omega, by omega, by omega⟩
  rcases Nat.lt_or_ge r (a + b + c) with c3 | c3
  · obtain ⟨m1, m2, m3, g1, g2, g3, g, s1, s2, -, -, d2, -, gd⟩ := key (q1 + q2 + (r / 256 - (a + b) / 256))
    have hit := nstep_hit (e := 2) (k := c) (r := r) (m := m2) (by omega) (by omega)
    rw [d2, s2] at hit
    obtain ⟨t3, -, l3, u3, i3⟩ := hit
    refine ⟨q1 + q2 + (r / 256 - (a + b) / 256), ?_⟩
    rw [g]
    rw [← g3] at t3 l3 u3 i3
    obtain ⟨t4, -, l4, u4, i4⟩ := nstep_later (e := 3) (k := d) i3
    refine ⟨by omega, i4, by omega, by omega, by omega⟩
  · obtain ⟨m1, m2, m3, g1, g2, g3, g, s1, s2, s3, -, -, d3, gd⟩ := key (q1 + q2 + q3 + (r / 256 - (a + b + c) / 256))
    have hit := nstep_hit (e := 3) (k := d) (r := r) (m := m3) (by omega) (by omega)
    rw [d3, s3] at hit
    obtain ⟨t4, -, l4, u4, i4⟩ := hit
    refine ⟨q1 + q2 + q3 + (r / 256 - (a + b + c) / 256), ?_⟩
    rw [g]
    refine ⟨by omega, i4, t4, by omega, by omega⟩

end Cert.Sched

end
-- ==== Proof.K.Sched.lean ====
module

public import proofs.«01_k».proof.Proof.Gen.Kernel.Loops
public import proofs.«01_k».proof.Proof.Gen.Kernel.Launch
public import proofs.«01_k».proof.Proof.Words

/-!
# The printed schedule

The index maps, the condition under which an item is live and the body's own schedule, as the schedule's
words (`Sched.sched`), each by unfolding; and what they are when the table's sizes sum to the rows.
-/

@[expose] public section

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem
open Cert.Sched

variable {F : FTy → Type} [FloatOps F]

/-- A grid point's item as a word. -/
abbrev item (i : grid0.Coords) : BitVec 32 := BitVec.ofNat 32 (i 0).val

/-- Group `e`'s size, as the index maps read it. -/
abbrev size0 (pf : pre0.Contents (Elt F)) : BitVec 32 := pf.at 0 (Rect.unit (s := S4) ![0] S1.size inb_S4_S1_0) numel1_S1
abbrev size1 (pf : pre0.Contents (Elt F)) : BitVec 32 := pf.at 0 (Rect.unit (s := S4) ![1] S1.size inb_S4_S1_1) numel1_S1
abbrev size2 (pf : pre0.Contents (Elt F)) : BitVec 32 := pf.at 0 (Rect.unit (s := S4) ![2] S1.size inb_S4_S1_2) numel1_S1
abbrev size3 (pf : pre0.Contents (Elt F)) : BitVec 32 := pf.at 0 (Rect.unit (s := S4) ![3] S1.size inb_S4_S1_3) numel1_S1

/-- The schedule of a grid point under a table. -/
abbrev schedAt (pf : pre0.Contents (Elt F)) (i : grid0.Coords) : St := sched (item i) (size0 pf) (size1 pf) (size2 pf) (size3 pf)

set_option maxRecDepth 65536 in
theorem transform0_eq (pf : pre0.Contents (Elt F)) (i : grid0.Coords) :
    cc0_transform_0 inb_S4_S1_0 numel1_S1 inb_S4_S1_1 inb_S4_S1_2 inb_S4_S1_3 pf i = ![(schedAt pf i).tile.toNat, (0#32).toNat] := rfl

set_option maxRecDepth 65536 in
theorem transform1_eq (pf : pre0.Contents (Elt F)) (i : grid0.Coords) :
    cc0_transform_1 inb_S4_S1_0 numel1_S1 inb_S4_S1_1 inb_S4_S1_2 inb_S4_S1_3 pf i
      = ![(schedAt pf i).expert.toNat, (0#32).toNat, (0#32).toNat] := rfl

set_option maxRecDepth 65536 in
theorem transform2_eq (pf : pre0.Contents (Elt F)) (i : grid0.Coords) :
    cc0_transform_2 inb_S4_S1_0 numel1_S1 inb_S4_S1_1 inb_S4_S1_2 inb_S4_S1_3 pf i
      = ![(schedAt pf i).expert.toNat, (0#32).toNat, (0#32).toNat] := rfl

set_option maxRecDepth 65536 in
theorem transform3_eq (pf : pre0.Contents (Elt F)) (i : grid0.Coords) :
    cc0_transform_3 inb_S4_S1_0 numel1_S1 inb_S4_S1_1 inb_S4_S1_2 inb_S4_S1_3 pf i = ![(schedAt pf i).tile.toNat, (0#32).toNat] := rfl

/-- Whether an item is live: before the items end. -/
abbrev live (i : grid0.Coords) (a b c d : BitVec 32) : BitVec 1 := Scalar.cmpi .slt (item i) (sched (item i) a b c d).done

set_option maxRecDepth 65536 in
theorem cond2_eq (i : grid0.Coords) (a b c d : BitVec 32) :
    k0_cond2 i a b c d = Scalar.cmpi .ne (Scalar.extui (live i a b c d)) 0#32 := rfl

/-- Whether the item's expert is another than the item before's, or the item is the first. -/
abbrev fresh (i : grid0.Coords) (a b c d a' b' c' d' : BitVec 32) : BitVec 32 :=
  Scalar.extui (Scalar.ori (Scalar.cmpi .eq (item i) 0#32)
    (Scalar.cmpi .ne (sched (item i) a b c d).expert (sched (Scalar.maxsi (Scalar.subi (item i) 1#32) 0#32) a' b' c' d').expert))

/-- The body's schedule: the sizes loaded, twice, and the schedule's words of them. -/
def head (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    Prog (TpuEff nD τ sig (Elt F) Λ₀ .tc) (Σ' (v0 : Elt F .i32) (v54 : Elt F .i32) (v108 : Elt F .i32) (v162 : Elt F .i32) (v211 : BitVec 32) (v213 : BitVec 32) (v214 : BitVec 32) (v216 : BitVec 1), BitVec 32) := do
  let v0 : Elt F .i32 ← smemLoad arg1 (Rect.unit (s := S4) ![0] S1.size inb_S4_S1_0) numel1_S1 rfl
  let v54 : Elt F .i32 ← smemLoad arg1 (Rect.unit (s := S4) ![1] S1.size inb_S4_S1_1) numel1_S1 rfl
  let v108 : Elt F .i32 ← smemLoad arg1 (Rect.unit (s := S4) ![2] S1.size inb_S4_S1_2) numel1_S1 rfl
  let v162 : Elt F .i32 ← smemLoad arg1 (Rect.unit (s := S4) ![3] S1.size inb_S4_S1_3) numel1_S1 rfl
  let v219 : Elt F .i32 ← smemLoad arg1 (Rect.unit (s := S4) ![0] S1.size inb_S4_S1_0) numel1_S1 rfl
  let v265 : Elt F .i32 ← smemLoad arg1 (Rect.unit (s := S4) ![1] S1.size inb_S4_S1_1) numel1_S1 rfl
  let v311 : Elt F .i32 ← smemLoad arg1 (Rect.unit (s := S4) ![2] S1.size inb_S4_S1_2) numel1_S1 rfl
  let v357 : Elt F .i32 ← smemLoad arg1 (Rect.unit (s := S4) ![3] S1.size inb_S4_S1_3) numel1_S1 rfl
  pure ⟨v0, v54, v108, v162, (sched (item i) v0 v54 v108 v162).tile, (sched (item i) v0 v54 v108 v162).lo,
    (sched (item i) v0 v54 v108 v162).hi, live i v0 v54 v108 v162, fresh i v0 v54 v108 v162 v219 v265 v311 v357⟩

set_option maxRecDepth 65536 in
set_option maxHeartbeats 1000000 in
/-- The printed schedule is that: by unfolding. -/
theorem part13_eq (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    k0_part13 (F := F) i arg1 harg1 arg2 harg2 arg3 harg3 arg4 harg4 arg5 harg5 arg6 harg6 arg7 harg7 = head i arg1 harg1 arg2 harg2 arg3 harg3 arg4 harg4 arg5 harg5 arg6 harg6 arg7 harg7 := rfl

/-- The body with its schedule's words in place: the sizes loaded, then the two conditionals. -/
def bodyL (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    Prog (TpuEff nD τ sig (Elt F) Λ₀ .tc) PUnit := do
  let v0 : Elt F .i32 ← smemLoad arg1 (Rect.unit (s := S4) ![0] S1.size inb_S4_S1_0) numel1_S1 rfl
  let v54 : Elt F .i32 ← smemLoad arg1 (Rect.unit (s := S4) ![1] S1.size inb_S4_S1_1) numel1_S1 rfl
  let v108 : Elt F .i32 ← smemLoad arg1 (Rect.unit (s := S4) ![2] S1.size inb_S4_S1_2) numel1_S1 rfl
  let v162 : Elt F .i32 ← smemLoad arg1 (Rect.unit (s := S4) ![3] S1.size inb_S4_S1_3) numel1_S1 rfl
  let v219 : Elt F .i32 ← smemLoad arg1 (Rect.unit (s := S4) ![0] S1.size inb_S4_S1_0) numel1_S1 rfl
  let v265 : Elt F .i32 ← smemLoad arg1 (Rect.unit (s := S4) ![1] S1.size inb_S4_S1_1) numel1_S1 rfl
  let v311 : Elt F .i32 ← smemLoad arg1 (Rect.unit (s := S4) ![2] S1.size inb_S4_S1_2) numel1_S1 rfl
  let v357 : Elt F .i32 ← smemLoad arg1 (Rect.unit (s := S4) ![3] S1.size inb_S4_S1_3) numel1_S1 rfl
    if Scalar.cmpi .ne (fresh i v0 v54 v108 v162 v219 v265 v311 v357) 0#32 = 1#1 then do
    Scf.Loop.for k0_t1_loop k0_t1_ok ⟨⟩ (k0_t1_body i arg1 harg1 arg2 harg2 arg3 harg3 arg4 harg4 arg5 harg5 arg6 harg6 arg7 harg7)
    pure ⟨⟩
  else do
    pure ⟨⟩
  if k0_h2 : k0_cond2 i v0 v54 v108 v162 = 1#1 then do
    Scf.Loop.for k0_t2_loop k0_t2_ok ⟨⟩ (k0_t2_body i arg1 harg1 arg2 harg2 arg3 harg3 arg4 harg4 arg5 harg5 arg6 harg6 arg7 harg7)
    let v410 : Vec F S256x5120 .bf16 ← Prog.lift (.load arg7 (Rect.unit (s := S256x5120) ![0, 0] S256x5120.size inb_S256x5120_S256x5120_0_0).toLoadRect (View.loadsAt_vmem h_S256x5120))
    let v411 : Vec F S5120x768 .bf16 ← Prog.lift (.load arg6 (Rect.unit (s := S5120x768) ![0, 0] S5120x768.size inb_S5120x768_S5120x768_0_0).toLoadRect (View.loadsAt_vmem h_S5120x768))
    let v422 : Vec F S256x768 .bf16 ← Prog.lift (.load arg5 (Rect.unit (s := S256x768) ![0, 0] S256x768.size inb_S256x768_S256x768_0_0).toLoadRect (View.loadsAt_vmem h_S256x768))
    let v429 : Vec F S256x768 .bf16 ← Prog.lift (.load arg5 (Rect.unit (s := S256x768) ![0, 0] S256x768.size inb_S256x768_S256x768_0_0).toLoadRect (View.loadsAt_vmem h_S256x768))
    Prog.lift (.store arg5 (Rect.unit (s := S256x768) ![0, 0] S256x768.size inb_S256x768_S256x768_0_0) (k0_pay5 (sched (item i) v0 v54 v108 v162).tile (sched (item i) v0 v54 v108 v162).lo (sched (item i) v0 v54 v108 v162).hi v410 v411 v422) Finset.univ (View.stores_vmem h_S256x768 (harg5.storeExact_slice rfl _ packedbf16_S256x768_S256x768_0_0) (fun _ => rfl)) (.inl rfl)) -- tpu.vector_store %arg5[%c0_187, %c0_188], %428 {strides = array<i32>} : memref<256x768xbf16, #tpu.memory_space<vmem>>, vector<256x768xbf16>,  @ test_k:85
    pure ⟨⟩
  else do
    pure ⟨⟩
  pure ⟨⟩

set_option maxRecDepth 65536 in
set_option maxHeartbeats 1000000 in
/-- The printed body is that: by unfolding. -/
theorem body_eq (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    cc0_moe_matmul (F := F) i arg1 harg1 arg2 harg2 arg3 harg3 arg4 harg4 arg5 harg5 arg6 harg6 arg7 harg7 = bodyL i arg1 harg1 arg2 harg2 arg3 harg3 arg4 harg4 arg5 harg5 arg6 harg6 arg7 harg7 := by
  rw [cc0_moe_matmul_eq_skeleton]; unfold cc0_moe_matmul_skel; rw [part13_eq]; rfl

end Cert.Kernel.Gen

end
-- ==== Proof.K.Body.lean ====
module

public import proofs.«01_k».proof.Proof.K.Sched
public import Idealize.ShloMosaic.Lib.Pipeline.FrameBody
public import Idealize.ShloMosaic.Lib.Tactic

/-!
# The body's run

One item: the weights dequantised into the scratch where the expert is fresh, the slab quantised and
multiplied into the output tile where the item is live.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sched

variable {F : FTy → Type} [FloatOps F]

local notation "𝕄" => MT nD τ sig Unit (Elt F) ℕ (UR sig nD τ) ℕ

/-- A word of the sizes, as the body loads it from the table's contents. -/
abbrev word0 (arg1 : Memref sig .tc .smem S4 .i32) (T : BufTy.Contents (Elt F) arg1.view.ty) : BitVec 32 :=
  View.readAt (Elt F) arg1.view (Rect.unit (s := S4) ![0] S1.size inb_S4_S1_0).toLoadRect T (Shape.Idx.first (numel1_S1.symm ▸ Nat.one_pos))
abbrev word1 (arg1 : Memref sig .tc .smem S4 .i32) (T : BufTy.Contents (Elt F) arg1.view.ty) : BitVec 32 :=
  View.readAt (Elt F) arg1.view (Rect.unit (s := S4) ![1] S1.size inb_S4_S1_1).toLoadRect T (Shape.Idx.first (numel1_S1.symm ▸ Nat.one_pos))
abbrev word2 (arg1 : Memref sig .tc .smem S4 .i32) (T : BufTy.Contents (Elt F) arg1.view.ty) : BitVec 32 :=
  View.readAt (Elt F) arg1.view (Rect.unit (s := S4) ![2] S1.size inb_S4_S1_2).toLoadRect T (Shape.Idx.first (numel1_S1.symm ▸ Nat.one_pos))
abbrev word3 (arg1 : Memref sig .tc .smem S4 .i32) (T : BufTy.Contents (Elt F) arg1.view.ty) : BitVec 32 :=
  View.readAt (Elt F) arg1.view (Rect.unit (s := S4) ![3] S1.size inb_S4_S1_3).toLoadRect T (Shape.Idx.first (numel1_S1.symm ▸ Nat.one_pos))

/-- The body's own condition for a fresh expert, at the table's contents. -/
abbrev Fresh (i : grid0.Coords) (arg1 : Memref sig .tc .smem S4 .i32) (T : BufTy.Contents (Elt F) arg1.view.ty) : Prop :=
  Scalar.cmpi .ne (fresh i (word0 arg1 T) (word1 arg1 T) (word2 arg1 T) (word3 arg1 T) (word0 arg1 T) (word1 arg1 T) (word2 arg1 T) (word3 arg1 T)) 0#32 = 1#1

/-- The body's own condition for a live item, at the table's contents. -/
abbrev Live (i : grid0.Coords) (arg1 : Memref sig .tc .smem S4 .i32) (T : BufTy.Contents (Elt F) arg1.view.ty) : Prop :=
  k0_cond2 i (word0 arg1 T) (word1 arg1 T) (word2 arg1 T) (word3 arg1 T) = 1#1

/-- The item's schedule, at the table's contents. -/
abbrev schedT (i : grid0.Coords) (arg1 : Memref sig .tc .smem S4 .i32) (T : BufTy.Contents (Elt F) arg1.view.ty) : St :=
  sched (item i) (word0 arg1 T) (word1 arg1 T) (word2 arg1 T) (word3 arg1 T)

/-- What the weights' loop leaves in the scratch. -/
abbrev weights (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (X3 : BufTy.Contents (Elt F) arg3.view.ty)
    (X4 : BufTy.Contents (Elt F) arg4.view.ty) (X6 : BufTy.Contents (Elt F) arg6.view.ty) : BufTy.Contents (Elt F) arg6.view.ty :=
  arg6.view.writes (Elt F) X6 (pb_k0_t1 Variants.none c none i arg1 harg1 arg2 harg2 arg3 harg3 arg4 harg4 arg5 harg5 arg6 harg6 arg7 harg7 X3 X4 (Scf.trips k0_t1_loop.lb k0_t1_loop.ub k0_t1_loop.st))

/-- What the slab's loop leaves in the scratch. -/
abbrev slab (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (X2 : BufTy.Contents (Elt F) arg2.view.ty)
    (X7 : BufTy.Contents (Elt F) arg7.view.ty) : BufTy.Contents (Elt F) arg7.view.ty :=
  arg7.view.writes (Elt F) X7 (pb_k0_t2 Variants.none c none i arg1 harg1 arg2 harg2 arg3 harg3 arg4 harg4 arg5 harg5 arg6 harg6 arg7 harg7 X2 (Scf.trips k0_t2_loop.lb k0_t2_loop.ub k0_t2_loop.st))

/-- What a live item leaves in the output tile. -/
abbrev merged (i : grid0.Coords) (arg1 : Memref sig .tc .smem S4 .i32) (arg5 : Memref sig .tc .vmem S256x768 .bf16)
    (arg6 : Memref sig .tc .vmem S5120x768 .bf16) (arg7 : Memref sig .tc .vmem S256x5120 .bf16)
    (T : BufTy.Contents (Elt F) arg1.view.ty) (X5 : BufTy.Contents (Elt F) arg5.view.ty) (Y6 : BufTy.Contents (Elt F) arg6.view.ty)
    (Y7 : BufTy.Contents (Elt F) arg7.view.ty) : BufTy.Contents (Elt F) arg5.view.ty :=
  arg5.view.writes (Elt F) X5
    [⟨Rect.unit (s := S256x768) ![0, 0] S256x768.size inb_S256x768_S256x768_0_0,
      k0_pay5 (schedT i arg1 T).tile (schedT i arg1 T).lo (schedT i arg1 T).hi
        (View.readAt (Elt F) arg7.view (Rect.unit (s := S256x5120) ![0, 0] S256x5120.size inb_S256x5120_S256x5120_0_0).toLoadRect Y7)
        (View.readAt (Elt F) arg6.view (Rect.unit (s := S5120x768) ![0, 0] S5120x768.size inb_S5120x768_S5120x768_0_0).toLoadRect Y6)
        (View.readAt (Elt F) arg5.view (Rect.unit (s := S256x768) ![0, 0] S256x768.size inb_S256x768_S256x768_0_0).toLoadRect X5)⟩]

open Classical in
/-- The weights' scratch after an item. -/
def wb' (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (T : BufTy.Contents (Elt F) arg1.view.ty)
    (X3 : BufTy.Contents (Elt F) arg3.view.ty) (X4 : BufTy.Contents (Elt F) arg4.view.ty) (X6 : BufTy.Contents (Elt F) arg6.view.ty) :
    BufTy.Contents (Elt F) arg6.view.ty :=
  if Fresh i arg1 T then weights c i arg1 harg1 arg2 harg2 arg3 harg3 arg4 harg4 arg5 harg5 arg6 harg6 arg7 harg7 X3 X4 X6 else X6

open Classical in
/-- The slab's scratch after an item. -/
def lhs' (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (T : BufTy.Contents (Elt F) arg1.view.ty)
    (X2 : BufTy.Contents (Elt F) arg2.view.ty) (X7 : BufTy.Contents (Elt F) arg7.view.ty) : BufTy.Contents (Elt F) arg7.view.ty :=
  if Live i arg1 T then slab c i arg1 harg1 arg2 harg2 arg3 harg3 arg4 harg4 arg5 harg5 arg6 harg6 arg7 harg7 X2 X7 else X7

open Classical in
/-- The output tile after an item. -/
def out' (i : grid0.Coords) (arg1 : Memref sig .tc .smem S4 .i32) (arg5 : Memref sig .tc .vmem S256x768 .bf16)
    (arg6 : Memref sig .tc .vmem S5120x768 .bf16) (arg7 : Memref sig .tc .vmem S256x5120 .bf16)
    (T : BufTy.Contents (Elt F) arg1.view.ty) (X5 : BufTy.Contents (Elt F) arg5.view.ty) (Y6 : BufTy.Contents (Elt F) arg6.view.ty)
    (Y7 : BufTy.Contents (Elt F) arg7.view.ty) : BufTy.Contents (Elt F) arg5.view.ty :=
  if Live i arg1 T then merged i arg1 arg5 arg6 arg7 T X5 Y6 Y7 else X5

set_option maxHeartbeats 8000000 in
/-- One item's run: the four buffers it reads keep their contents, the three it writes end at the above. -/
theorem run (c : Dev nD) (E : Set ℕ) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (q : PosShare TreeShare)
    (T : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (K : PUnit → sProp 𝕄) :
    iprop((arg1.view.loc (c : Thread nD τ) ↦[arg1.view.set]{q} T) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5) ∗ (arg6.view.loc (c : Thread nD τ) ↦[arg6.view.set]{fullShare} X6)
        ∗ (arg7.view.loc (c : Thread nD τ) ↦[arg7.view.set]{fullShare} X7)
        ∗ (((arg1.view.loc (c : Thread nD τ) ↦[arg1.view.set]{q} T) ∗ (arg2.view.loc (c : Thread nD τ) ↦[arg2.view.set]{fullShare} X2)
            ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} out' i arg1 arg5 arg6 arg7 T X5 (wb' c i arg1 harg1 arg2 harg2 arg3 harg3 arg4 harg4 arg5 harg5 arg6 harg6 arg7 harg7 T X3 X4 X6) (lhs' c i arg1 harg1 arg2 harg2 arg3 harg3 arg4 harg4 arg5 harg5 arg6 harg6 arg7 harg7 T X2 X7))
            ∗ (arg6.view.loc (c : Thread nD τ) ↦[arg6.view.set]{fullShare} wb' c i arg1 harg1 arg2 harg2 arg3 harg3 arg4 harg4 arg5 harg5 arg6 harg6 arg7 harg7 T X3 X4 X6)
            ∗ (arg7.view.loc (c : Thread nD τ) ↦[arg7.view.set]{fullShare} lhs' c i arg1 harg1 arg2 harg2 arg3 harg3 arg4 harg4 arg5 harg5 arg6 harg6 arg7 harg7 T X2 X7)) -∗ K ⟨⟩))
      ⊢ wp frame (wpE (defs₀ (F := F)) Variants.none c none) E (cc0_moe_matmul i arg1 harg1 arg2 harg2 arg3 harg3 arg4 harg4 arg5 harg5 arg6 harg6 arg7 harg7) K := by
  rw [body_eq]; unfold bodyL
  iintro ⟨H1, H2, H3, H4, H5, H6, H7, Hk⟩
  by_cases hf : Fresh i arg1 T <;> by_cases hl : Live i arg1 T
  · rw [wb', lhs', out', if_pos hf, if_pos hl, if_pos hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_pos hf, if_neg hl, if_neg hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_neg hf, if_pos hl, if_pos hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_neg hf, if_neg hl, if_neg hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7

end Cert.Kernel.Gen

end
-- ==== Proof.K.Frame.lean ====
module

public import proofs.«01_k».proof.Proof.K.Body
public import proofs.«01_k».proof.Proof.Gen.Kernel.Launch

/-!
# The region's run

The proof's data of the one region, over a relation `R` for the output tile and a property `W` of the weights'
scratch, and the run they give once one item's step is shown to keep them (`Step`).
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Sched

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer as the region finds it: as launched. -/
abbrev V (c : Dev nD) (b : Ref sig .tc) : Buf (Elt F) ((c : Thread nD τ).loc b) := m ((c : Thread nD τ).loc b)

/-- The sizes' table, as launched. -/
def tbl : pre0.Contents (Elt F) := fun k => m (((0 : Dev nD) : Thread nD τ).loc (pre0.ref k))

/-- The table at which the region runs. -/
abbrev adm (h : ok0 (tbl m)) : (p : Fin 1) → (pcfgs (F := F) p).Adm := fun _ => ⟨tbl m, h⟩

/-- The region's pipeline there. -/
abbrev CF (h : ok0 (tbl m)) : Cfg sig Λ₀ := cfg0 (F := F) ⟨tbl m, h⟩

variable (h : ok0 (tbl m))

/-- An input window's block at a point, read off its array as launched. -/
def iblk (c : Dev nD) (w : Fin 4) (t : Fin (CF m h).N) :
    (((CF m h).win w).xblock ((CF m h).grid.coords t)).Idx → Elt F ((CF m h).win w).elt :=
  (((CF m h).win w).blk t).view.read (Elt F) (V m c (Pipeline.arrRef spec0 w))

/-- The relations of the four windows: an input's buffer stays as found, the output's is held to `R`. -/
def rel (R : Fin (CF m h).N → Vec F S256x768 .bf16 → Vec F S256x768 .bf16 → Prop) :
    (w : Fin (CF m h).W) → Fin (CF m h).N → (Y X : ((CF m h).win w).block.Idx → Elt F ((CF m h).win w).elt) → Prop
  | 0 => fun _ Y X => X = Y
  | 1 => fun _ Y X => X = Y
  | 2 => fun _ Y X => X = Y
  | 3 => fun t Y X => R t Y X
  | ⟨_ + 4, h⟩ => absurd h (Nat.not_lt.2 (Nat.le_add_left _ _))

/-- A buffer held whole, as the body is handed it. -/
abbrev wpt (c : Dev nD) (b : Ref sig .tc) (q : PosShare TreeShare) (f : BufTy.Contents (Elt F) (Memref.whole b).view.ty) : sProp 𝕄 :=
  iprop((Memref.whole b).view.loc (c : Thread nD τ) ↦[(Memref.whole b).view.set]{q} f)

theorem wpt_eq (c : Dev nD) (b : Ref sig .tc) (q : PosShare TreeShare) (f : Buf (Elt F) ((c : Thread nD τ).loc b)) :
    wpt c b q f = iprop(((c : Thread nD τ).loc b) ↦{q} f) := by
  unfold wpt; simp only [Memref.view_whole, View.set_whole]

/-- The proof's data. -/
def rdat (R : Fin (CF m h).N → Vec F S256x768 .bf16 → Vec F S256x768 .bf16 → Prop) (W : Nat → Vec F S5120x768 .bf16 → Prop)
    (c : Dev nD) : RDat τ (Elt F) Unit ℕ (UR sig nD τ) ℕ (CF m h) c where
  A w := V m c (Pipeline.arrRef spec0 w)
  after := rel m h R
  Φ t := iprop((∃ f : BufTy.Contents (Elt F) (Memref.whole cc0_scratch0).view.ty, ⌜W t.val f⌝ ∗ wpt c cc0_scratch0 fullShare f)
      ∗ (∃ f, wpt c cc0_scratch1 fullShare f)
      ∗ (∃ r, prngReg c r)
      ∗ wpt c main_arg1 fullShare.right (tbl m 0))
  q _ := fullShare
  owed _ := 0

variable (R : Fin (CF m h).N → Vec F S256x768 .bf16 → Vec F S256x768 .bf16 → Prop) (W : Nat → Vec F S5120x768 .bf16 → Prop)

/-- What an input window's buffer holds wherever the body is handed it: its block. -/
theorem finds_in0 (c : Dev nD) (t : Fin (CF m h).N) (Y : ((CF m h).win 0).block.Idx → Elt F ((CF m h).win 0).elt)
    (hY : (rdat m h R W c).Finds 0 t Y) : Y = iblk m h c 0 t := by
  obtain ⟨d, hd⟩ := (rdat m h R W c).finds_in_eq_fetched 0 rfl (fun _ _ _ => rfl) (fun t Y X hx => hx) t Y hY
  rw [hd]; unfold RDat.fetched RDat.blockOf iblk; rfl
theorem finds_in1 (c : Dev nD) (t : Fin (CF m h).N) (Y : ((CF m h).win 1).block.Idx → Elt F ((CF m h).win 1).elt)
    (hY : (rdat m h R W c).Finds 1 t Y) : Y = iblk m h c 1 t := by
  obtain ⟨d, hd⟩ := (rdat m h R W c).finds_in_eq_fetched 1 rfl (fun _ _ _ => rfl) (fun t Y X hx => hx) t Y hY
  rw [hd]; unfold RDat.fetched RDat.blockOf iblk; rfl
theorem finds_in2 (c : Dev nD) (t : Fin (CF m h).N) (Y : ((CF m h).win 2).block.Idx → Elt F ((CF m h).win 2).elt)
    (hY : (rdat m h R W c).Finds 2 t Y) : Y = iblk m h c 2 t := by
  obtain ⟨d, hd⟩ := (rdat m h R W c).finds_in_eq_fetched 2 rfl (fun _ _ _ => rfl) (fun t Y X hx => hx) t Y hY
  rw [hd]; unfold RDat.fetched RDat.blockOf iblk; rfl

/-- The staging memrefs' slots at a point. -/
abbrev sl (t : Fin (CF m h).N) (w : Fin 4) := (CF m h).slots t w

set_option backward.isDefEq.respectTransparency.types false in
/-- The body at a point. -/
abbrev bodyAt (t : Fin (CF m h).N) : Prog (TpuEff nD τ sig (Elt F) Λ₀ .tc) PUnit :=
  cc0_moe_matmul (F := F) (grid0.coords t) (Memref.whole main_arg1) (Memref.isWhole_whole _) (spec0_0.stage ((CF m h).slots t 0)) (hstage0_0 (((CF m h).slots t 0).cast nbuf0_0)) (spec0_1.stage ((CF m h).slots t 1)) (hstage0_1 (((CF m h).slots t 1).cast nbuf0_1)) (spec0_2.stage ((CF m h).slots t 2)) (hstage0_2 (((CF m h).slots t 2).cast nbuf0_2)) (spec0_3.stage ((CF m h).slots t 3)) (hstage0_3 (((CF m h).slots t 3).cast nbuf0_3)) (Memref.whole cc0_scratch0) (Memref.isWhole_whole _) (Memref.whole cc0_scratch1) (Memref.isWhole_whole _)

theorem defs₀_row (t : Fin (CF m h).N) :
    defs₀ (F := F) .tc (CF m h).body ((CF m h).bodyArgs t ((CF m h).slots t)) = bodyAt m h t := by
  unfold defs₀; rw [Defs.onTc_tc]

/-- One item's step keeps `R` and `W`: whatever the staging memrefs are and whatever the scratch of the slab holds. -/
def Step (c : Dev nD) : Prop :=
  ∀ (t : Fin (CF m h).N) (arg2 : Memref sig .tc .vmem S256x5120 .bf16) (harg2 : arg2.IsWhole) (arg3 : Memref sig .tc .vmem S1x5120x768 .fp8e4m3) (harg3 : arg3.IsWhole)
    (arg4 : Memref sig .tc .smem S1x40x6 .f32) (harg4 : arg4.IsWhole) (arg5 : Memref sig .tc .vmem S256x768 .bf16) (harg5 : arg5.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : Vec F S5120x768 .bf16) (f7 : Vec F S256x5120 .bf16),
    arg2.view.read (Elt F) f2 = iblk m h c 0 t → arg3.view.read (Elt F) f3 = iblk m h c 1 t →
    arg4.view.read (Elt F) f4 = iblk m h c 2 t → W t.val f6 →
    W (t.val + 1) (wb' c (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) (tbl m 0) f3 f4 f6)
      ∧ R t (arg5.view.read (Elt F) f5) (arg5.view.read (Elt F) (out' (grid0.coords t) (Memref.whole main_arg1) arg5 (Memref.whole cc0_scratch0) (Memref.whole cc0_scratch1) (tbl m 0) f5
          (wb' c (grid0.coords t) (Memref.whole main_arg1) (Memref.isWhole_whole _) arg2 harg2 arg3 harg3 arg4 harg4 arg5 harg5
            (Memref.whole cc0_scratch0) (Memref.isWhole_whole _) (Memref.whole cc0_scratch1) (Memref.isWhole_whole _) (tbl m 0) f3 f4 f6)
          (lhs' c (grid0.coords t) (Memref.whole main_arg1) (Memref.isWhole_whole _) arg2 harg2 arg3 harg3 arg4 harg4 arg5 harg5
            (Memref.whole cc0_scratch0) (Memref.isWhole_whole _) (Memref.whole cc0_scratch1) (Memref.isWhole_whole _) (tbl m 0) f2 f7)))

/-- What the body is called with at a point, the windows one by one, -/
def bodyPre (c : Dev nD) (t : Fin (CF m h).N) (Y : (w : Fin (CF m h).W) → ((CF m h).win w).block.Idx → Elt F ((CF m h).win w).elt) : sProp 𝕄 :=
  iprop((rdat m h R W c).Φ t.castSucc ∗ (rdat m h R W c).owesAt () t.castSucc
    ∗ owns (c : Thread nD τ) (spec0_0.stage ((CF m h).slots t 0)) fullShare (Y 0)
    ∗ owns (c : Thread nD τ) (spec0_1.stage ((CF m h).slots t 1)) fullShare (Y 1)
    ∗ owns (c : Thread nD τ) (spec0_2.stage ((CF m h).slots t 2)) fullShare (Y 2)
    ∗ owns (c : Thread nD τ) (spec0_3.stage ((CF m h).slots t 3)) fullShare (Y 3))

/-- and what it returns. -/
def bodyPost (c : Dev nD) (t : Fin (CF m h).N) (Y : (w : Fin (CF m h).W) → ((CF m h).win w).block.Idx → Elt F ((CF m h).win w).elt) : sProp 𝕄 :=
  iprop((rdat m h R W c).Φ t.succ ∗ (rdat m h R W c).owesAt () t.succ
    ∗ (∃ X, ⌜(rdat m h R W c).after 0 t (Y 0) X⌝ ∗ owns (c : Thread nD τ) (spec0_0.stage ((CF m h).slots t 0)) fullShare X)
    ∗ (∃ X, ⌜(rdat m h R W c).after 1 t (Y 1) X⌝ ∗ owns (c : Thread nD τ) (spec0_1.stage ((CF m h).slots t 1)) fullShare X)
    ∗ (∃ X, ⌜(rdat m h R W c).after 2 t (Y 2) X⌝ ∗ owns (c : Thread nD τ) (spec0_2.stage ((CF m h).slots t 2)) fullShare X)
    ∗ (∃ X, ⌜(rdat m h R W c).after 3 t (Y 3) X⌝ ∗ owns (c : Thread nD τ) (spec0_3.stage ((CF m h).slots t 3)) fullShare X))

set_option maxHeartbeats 1000000 in
theorem sound_body (c : Dev nD) (hs : Step m h R W c) (t : Fin (CF m h).N)
    (Y : (w : Fin (CF m h).W) → ((CF m h).win w).block.Idx → Elt F ((CF m h).win w).elt) (hY : ∀ w, (rdat m h R W c).Finds w t (Y w)) :
    bodyPre m h R W c t Y ⊢ wp frame (wpE (defs₀ (F := F)) Variants.none c none) Set.univ (bodyAt m h t) (fun _ => bodyPost m h R W c t Y) := by
  have e0 := finds_in0 m h R W c t (Y 0) (hY 0)
  have e1 := finds_in1 m h R W c t (Y 1) (hY 1)
  have e2 := finds_in2 m h R W c t (Y 2) (hY 2)
  unfold bodyPre bodyPost bodyAt
  rw [show (rdat m h R W c).owesAt () t.succ = (rdat m h R W c).owesAt () t.castSucc from rfl]
  dsimp only [rdat]
  unfold owns
  iintro ⟨⟨⟨%f6, %h6, H6⟩, ⟨%f7, H7⟩, Hp, H1⟩, Ho, ⟨%f2, %h2, H2⟩, ⟨%f3, %h3, H3⟩, ⟨%f4, %h4, H4⟩, ⟨%f5, %h5, H5⟩⟩
  have hstep := hs t _ (hstage0_0 (((CF m h).slots t 0).cast nbuf0_0)) _ (hstage0_1 (((CF m h).slots t 1).cast nbuf0_1)) _ (hstage0_2 (((CF m h).slots t 2).cast nbuf0_2)) _ (hstage0_3 (((CF m h).slots t 3).cast nbuf0_3)) f2 f3 f4 f5 f6 f7 (h2.trans e0) (h3.trans e1) (h4.trans e2) h6
  iapply (run c Set.univ (grid0.coords t) (Memref.whole main_arg1) (Memref.isWhole_whole _) (spec0_0.stage ((CF m h).slots t 0)) (hstage0_0 (((CF m h).slots t 0).cast nbuf0_0)) (spec0_1.stage ((CF m h).slots t 1)) (hstage0_1 (((CF m h).slots t 1).cast nbuf0_1)) (spec0_2.stage ((CF m h).slots t 2)) (hstage0_2 (((CF m h).slots t 2).cast nbuf0_2)) (spec0_3.stage ((CF m h).slots t 3)) (hstage0_3 (((CF m h).slots t 3).cast nbuf0_3)) (Memref.whole cc0_scratch0) (Memref.isWhole_whole _) (Memref.whole cc0_scratch1) (Memref.isWhole_whole _) fullShare.right (tbl m 0) f2 f3 f4 f5 f6 f7 _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [H1 H6 H7 Hp]
  · isplitl [H6]
    · iexists _; isplitr
      swap; · iexact H6
      ipureintro; exact hstep.1
    isplitl [H7]; · iexists _; iexact H7
    isplitl [Hp]; · iexact Hp
    iexact H1
  isplitl [Ho]; · iexact Ho
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  iexists _; isplitr
  swap
  · iexists _; isplitr
    swap; · iexact H5
    ipureintro; rfl
  ipureintro
  rw [← h5]; exact hstep.2

/-- The body's obligation, at every point. -/
theorem body_obligation (c : Dev nD) (hs : Step m h R W c) :
    (rdat m h R W c).BodyObligation (defs₀ (F := F)) Variants.none () Set.univ := fun t Y hY => by
  rw [bigSep_W0, bigSep_W0, defs₀_row]
  exact triple_restated (sound_body m h R W c hs t Y hY) rfl .rfl fun _ => .rfl

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
set_option maxHeartbeats 800000 in
/-- The run: every array at contents the relations allow, every other buffer and every counter as launched. -/
theorem run_main (hs : ∀ c, Step m h R W c) (h0 : ∀ f, W 0 f) : θ_run defs (onTc (τ := τ) (main (F := F))) (s₀ m ρ)
    (fun r => RDat.FramePost (CF m h) (rdat m h R W) (V m) r ∧ r.2.sem = fun _ => 0) :=
  RDat.θ_run_frameP_track (Q' := _) pcfgs (adm m h) (0 : Fin 1) launch0 defs₀ Variants.none (rdat m h R W) m ρ main
    (hbody := fun c => body_obligation m h R W c (hs c)) (hshare := fun c w => by unfold RDat.share; split <;> rfl)
    (howed := fun _ _ => rfl) (V := V m) (hmain := hmain m Variants.none) (hA := fun _ _ => rfl)
    (hpf := fun c k => by obtain rfl : c = 0 := Subsingleton.elim _ _; rfl)
    (hin := fun c => by
      unfold Pipeline.ΦA Pipeline.ΦT Pipeline.prefHeld
      rw [scopedRest0_eq]
      dsimp only [rdat]
      simp only [wpt_eq]
      rw [show (Finset.univ : Finset (Fin 1)) = {0} from rfl, bigSep_singleton]
      iintro ⟨⟨⟨⟨%f6, H6⟩, ⟨%f7, H7⟩⟩, Hp⟩, H1⟩
      isplitl [H6]
      · iexists f6; isplitr; · ipureintro; exact h0 f6
        iexact H6
      isplitl [H7]; · iexists f7; iexact H7
      isplitl [Hp]; · iexact Hp
      iexact H1)
    (hout := fun c => by
      unfold Pipeline.ΦA
      rw [scopedRest0_eq]
      dsimp only [rdat]
      simp only [wpt_eq]
      iintro ⟨⟨%f6, -, H6⟩, ⟨%f7, H7⟩, Hp, -⟩
      isplitr [Hp]
      · isplitl [H6]
        · iexists f6; iexact H6
        iexists f7; iexact H7
      iexact Hp)

include h in
/-- The frame: from a table at which the region runs, every weakly fair execution terminates, nothing faults, the
    arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => ⟨hr.1.arr_in c 0 rfl, (hr.1 c).2 main_arg1 (Pipeline.mem_restRefs_of main_arg1 rfl (show ∀ w : Fin 4, (spec0 w).arr.view.ref ≠ main_arg1 by decide)),
      hr.1.arr_in c 1 rfl, hr.1.arr_in c 2 rfl⟩, hr.2⟩)
    (run_main m ρ h (fun _ _ _ => True) (fun _ _ => True) (fun _ => fun _ _ _ _ _ _ _ _ _ _ _ _ _ _ _ _ _ _ _ => ⟨trivial, trivial⟩) (fun _ => trivial))

end Cert.Kernel.Gen

end
-- ==== Proof.Sizes.lean ====
module

public import proofs.«01_k».proof.Proof.Words
public import proofs.«01_k».proof.Proof.Gen.Pre_groups_cover_rows
public import Idealize.ShloMosaic.Lib.StableHlo.Predicate
public import Idealize.ShloMosaic.Lib.ReduceAll
public import Idealize.ShloMosaic.Lib.Affine

/-!
# The group sizes a precondition admits

Four sizes that are at most the rows each and sum to the rows, read off the printed precondition.
-/

@[expose] public section

noncomputable section

namespace Cert.Sched

open Idealize.ShloMosaic

/-- The sizes' shape. -/
abbrev S4 : Shape := ⟨1, ![4]⟩

/-- Group `e`'s place in the sizes. -/
def at4 (e : Fin 4) : S4.Idx := fun a => ⟨e.val, by obtain rfl : a = 0 := Subsingleton.elim _ _; exact e.isLt⟩

theorem at4_eta (x : S4.Idx) : x = at4 (x 0) := by
  funext a; obtain rfl : a = 0 := Subsingleton.elim _ _; rfl

/-- Group `e`'s size as a number. -/
def cnt (v : S4.Idx → BitVec 32) (e : Fin 4) : ℕ := (v (at4 e)).toNat

/-- Four sizes, none negative, that sum to the rows. -/
structure Good (v : S4.Idx → BitVec 32) : Prop where
  le : ∀ e, cnt v e ≤ 12288
  sum : cnt v 0 + cnt v 1 + cnt v 2 + cnt v 3 = 12288

theorem Good.int {v : S4.Idx → BitVec 32} (h : Good v) (e : Fin 4) : Affine.IsInt (v (at4 e)) ((cnt v e : ℕ) : ℤ) := by
  have h1 := h.le e
  unfold Affine.IsInt
  rw [BitVec.toInt_eq_toNat_of_lt (by unfold cnt at h1; omega)]; rfl

/-- The fold by `+` over the four sizes. -/
theorem reduce_four {u t : Shape} [Subsingleton t.Idx] {axes : List (Fin S4.rank)} (x : IVec S4 32) (init : IVec u 32) (h : S4.ReducesTo axes t) (hu : 0 < u.numel) (j : t.Idx) :
    Host.reduce IntOp.addi x init h hu j
      = IntOp.addi (IntOp.addi (IntOp.addi (IntOp.addi (init (Shape.Idx.first hu)) (x (at4 0))) (x (at4 1))) (x (at4 2))) (x (at4 3)) := by
  rw [Host.reduce_eq_foldl, List.filter_eq_self.2 (fun i _ => by simp only [decide_eq_true_eq]; exact Subsingleton.elim _ _), List.foldl_map]
  have f : ∀ k : Fin 4, (S4.rowMajor (at4 k) : Fin 4) = k := by intro k; fin_cases k <;> rfl
  have e : ∀ k : Fin 4, (S4.rowMajor.symm (show Fin S4.numel from k)) = at4 k := fun k => (Equiv.symm_apply_eq S4.rowMajor).2 (f k).symm
  rw [show (fun r (k : Fin S4.numel) => IntOp.addi r (x (S4.rowMajor.symm k))) = fun r (k : Fin S4.numel) => IntOp.addi r (x (at4 k)) from
    funext fun r => funext fun k => congrArg _ (congrArg x (e k))]
  rfl

/-- The decoded condition: each size between 0 and the rows, and the words' sum the rows. -/
theorem good_of (v : S4.Idx → BitVec 32) (h0 : ∀ e, IntOp.cmpi .sge (v (at4 e)) 0#32 = 1#1) (h1 : ∀ e, IntOp.cmpi .sle (v (at4 e)) 12288#32 = 1#1)
    (h2 : IntOp.addi (IntOp.addi (IntOp.addi (IntOp.addi 0#32 (v (at4 0))) (v (at4 1))) (v (at4 2))) (v (at4 3)) = 12288#32) : Good v := by
  have hle : ∀ e, cnt v e ≤ 12288 := by
    intro e
    have a0 := IntOp.cmpi_sge.1 (h0 e); have a1 := IntOp.cmpi_sle.1 (h1 e)
    have b0 : (0#32 : BitVec 32).toInt = 0 := by decide
    have b1 : (12288#32 : BitVec 32).toInt = 12288 := by decide
    rw [b0] at a0; rw [b1] at a1
    unfold cnt
    have := BitVec.toInt_eq_toNat_cond (v (at4 e))
    have h32 := (v (at4 e)).isLt
    split at this <;> omega
  refine ⟨hle, ?_⟩
  have h3 := congrArg BitVec.toNat h2
  simp only [IntOp.addi, BitVec.toNat_add] at h3
  have a0 := hle 0; have a1 := hle 1; have a2 := hle 2; have a3 := hle 3
  unfold cnt at *
  have z : (0#32 : BitVec 32).toNat = 0 := rfl
  have z' : (12288#32 : BitVec 32).toNat = 12288 := rfl
  rw [z, z'] at h3
  omega

theorem andi_split {a b : BitVec 1} (h : IntOp.andi a b = 1#1) : a = 1#1 ∧ b = 1#1 := by
  revert a b; decide

variable {F : FTy → Type} [FloatOps F]

set_option maxRecDepth 16384 in
/-- The first precondition's sizes. -/
theorem good_of_groups (x : FVec F ⟨2, ![12288, 5120]⟩ .bf16) (v : IVec S4 32) (w : FVec F ⟨3, ![4, 5120, 768]⟩ .fp8e4m3) (ws : FVec F ⟨3, ![4, 40, 6]⟩ .f32)
    (h : Pre_groups_cover_rows.fn x v w ws = fun _ => 1#1) : Good v := by
  have k : ∀ e, _ := fun e => congrFun h (at4 e)
  dsimp only [Pre_groups_cover_rows.fn] at k
  have k' : ∀ e, _ := fun e => andi_split (k e)
  refine good_of v (fun e => (andi_split (k' e).1).1) (fun e => (andi_split (k' e).1).2) ?_
  have q := StableHlo.Predicate.cmpi_eq_iff.1 (k' 0).2
  haveI : Subsingleton (Pre_groups_cover_rows.S_).Idx := ⟨fun a b => funext fun i => i.elim0⟩
  rw [reduce_four] at q
  exact q

end Cert.Sched

end
-- ==== Proof.K.Ok.lean ====
module

public import proofs.«01_k».proof.Proof.K.Frame
public import proofs.«01_k».proof.Proof.Sizes

/-!
# The blocks at admissible sizes

At sizes that sum to the rows the schedule's words are its numbers, so every block the region fetches or writes
back lies inside its array.
-/

@[expose] public section

set_option maxRecDepth 16384

noncomputable section

namespace Cert.Kernel.Gen

open Idealize.ShloMosaic Idealize.ShloMosaic.TcCoe
open Cert.Sched Idealize.ShloMosaic.Affine

variable {F : FTy → Type} [FloatOps F]

/-- The schedule of a grid point in numbers. -/
def num (pf : pre0.Contents (Elt F)) (i : ℕ) : NSt := nsched i (cnt (pf 0) 0) (cnt (pf 0) 1) (cnt (pf 0) 2) (cnt (pf 0) 3)

theorem size0_eq (pf : pre0.Contents (Elt F)) : size0 pf = pf 0 (at4 0) :=
  congrArg (pf 0) (funext fun a => by obtain rfl : a = (0 : Fin 1) := @Subsingleton.elim (Fin 1) _ _ _; rfl)
theorem size1_eq (pf : pre0.Contents (Elt F)) : size1 pf = pf 0 (at4 1) :=
  congrArg (pf 0) (funext fun a => by obtain rfl : a = (0 : Fin 1) := @Subsingleton.elim (Fin 1) _ _ _; rfl)
theorem size2_eq (pf : pre0.Contents (Elt F)) : size2 pf = pf 0 (at4 2) :=
  congrArg (pf 0) (funext fun a => by obtain rfl : a = (0 : Fin 1) := @Subsingleton.elim (Fin 1) _ _ _; rfl)
theorem size3_eq (pf : pre0.Contents (Elt F)) : size3 pf = pf 0 (at4 3) :=
  congrArg (pf 0) (funext fun a => by obtain rfl : a = (0 : Fin 1) := @Subsingleton.elim (Fin 1) _ _ _; rfl)

/-- The words of a grid point's schedule are its numbers. -/
theorem rep {pf : pre0.Contents (Elt F)} (hg : Good (pf 0)) (i : grid0.Coords) : Rep (schedAt pf i) (num pf (i 0).val) := by
  have hi : (i 0).val < 51 := (i 0).isLt
  refine sched_rep (lit _ (by omega)) (by omega) ?_ ?_ ?_ ?_ hg.sum.le
  · rw [size0_eq]; exact hg.int 0
  · rw [size1_eq]; exact hg.int 1
  · rw [size2_eq]; exact hg.int 2
  · rw [size3_eq]; exact hg.int 3

theorem tile_lt {pf : pre0.Contents (Elt F)} (hg : Good (pf 0)) (i : ℕ) : (num pf i).tile < 48 := (nsched_pair le_rfl hg.sum.le).top
theorem expert_lt {pf : pre0.Contents (Elt F)} (hg : Good (pf 0)) (i : ℕ) : (num pf i).expert < 4 := (nsched_own i _ _ _ _).expert

/-- The printed index maps in numbers. -/
theorem map0 {pf : pre0.Contents (Elt F)} (hg : Good (pf 0)) (i : grid0.Coords) :
    cc0_transform_0 inb_S4_S1_0 numel1_S1 inb_S4_S1_1 inb_S4_S1_2 inb_S4_S1_3 pf i = ![(num pf (i 0).val).tile, 0] := by
  rw [transform0_eq, toNat_of_rep (rep hg i).tile]; rfl
theorem map1 {pf : pre0.Contents (Elt F)} (hg : Good (pf 0)) (i : grid0.Coords) :
    cc0_transform_1 inb_S4_S1_0 numel1_S1 inb_S4_S1_1 inb_S4_S1_2 inb_S4_S1_3 pf i = ![(num pf (i 0).val).expert, 0, 0] := by
  rw [transform1_eq, toNat_of_rep (rep hg i).expert]; rfl
theorem map2 {pf : pre0.Contents (Elt F)} (hg : Good (pf 0)) (i : grid0.Coords) :
    cc0_transform_2 inb_S4_S1_0 numel1_S1 inb_S4_S1_1 inb_S4_S1_2 inb_S4_S1_3 pf i = ![(num pf (i 0).val).expert, 0, 0] := by
  rw [transform2_eq, toNat_of_rep (rep hg i).expert]; rfl
theorem map3 {pf : pre0.Contents (Elt F)} (hg : Good (pf 0)) (i : grid0.Coords) :
    cc0_transform_3 inb_S4_S1_0 numel1_S1 inb_S4_S1_1 inb_S4_S1_2 inb_S4_S1_3 pf i = ![(num pf (i 0).val).tile, 0] := by
  rw [transform3_eq, toNat_of_rep (rep hg i).tile]; rfl

theorem okx : ∀ t : Fin 48, ∃ h : (∀ a, ((![t.val, 0] : Fin 2 → ℕ) a + 1) * S256x5120.size a ≤ S12288x5120.size a), EltTy.bits .bf16 = 32 ∨ (Rect.block (s := S12288x5120) S256x5120.size ![t.val, 0] h).WholeWords (EltTy.packing .bf16) := by decide
theorem okw : ∀ t : Fin 4, ∃ h : (∀ a, ((![t.val, 0, 0] : Fin 3 → ℕ) a + 1) * S1x5120x768.size a ≤ S4x5120x768.size a), EltTy.bits .fp8e4m3 = 32 ∨ (Rect.block (s := S4x5120x768) S1x5120x768.size ![t.val, 0, 0] h).WholeWords (EltTy.packing .fp8e4m3) := by decide
theorem oks : ∀ t : Fin 4, ∃ h : (∀ a, ((![t.val, 0, 0] : Fin 3 → ℕ) a + 1) * S1x40x6.size a ≤ S4x40x6.size a), EltTy.bits .f32 = 32 ∨ (Rect.block (s := S4x40x6) S1x40x6.size ![t.val, 0, 0] h).WholeWords (EltTy.packing .f32) := by decide
theorem oko : ∀ t : Fin 48, ∃ h : (∀ a, ((![t.val, 0] : Fin 2 → ℕ) a + 1) * S256x768.size a ≤ S12288x768.size a), EltTy.bits .bf16 = 32 ∨ (Rect.block (s := S12288x768) S256x768.size ![t.val, 0] h).WholeWords (EltTy.packing .bf16) := by decide

/-- The region's side condition on the table. -/
theorem ok {pf : pre0.Contents (Elt F)} (hg : Good (pf 0)) : ok0 pf := by
  unfold ok0
  refine ⟨fun i => ?_, fun i => ?_, fun i => ?_, fun i => ?_⟩
  · generalize hf : cc0_transform_0 inb_S4_S1_0 numel1_S1 inb_S4_S1_1 inb_S4_S1_2 inb_S4_S1_3 pf i = f
    rw [map0 hg i] at hf; subst hf; exact okx ⟨_, tile_lt hg _⟩
  · generalize hf : cc0_transform_1 inb_S4_S1_0 numel1_S1 inb_S4_S1_1 inb_S4_S1_2 inb_S4_S1_3 pf i = f
    rw [map1 hg i] at hf; subst hf; exact okw ⟨_, expert_lt hg _⟩
  · generalize hf : cc0_transform_2 inb_S4_S1_0 numel1_S1 inb_S4_S1_1 inb_S4_S1_2 inb_S4_S1_3 pf i = f
    rw [map2 hg i] at hf; subst hf; exact oks ⟨_, expert_lt hg _⟩
  · generalize hf : cc0_transform_3 inb_S4_S1_0 numel1_S1 inb_S4_S1_1 inb_S4_S1_2 inb_S4_S1_3 pf i = f
    rw [map3 hg i] at hf; subst hf; exact oko ⟨_, tile_lt hg _⟩

end Cert.Kernel.Gen

end
-- ==== Proof.KI.Sched.lean ====
module

public import proofs.«01_k».proof.Proof.Gen.KernelIdeal.Loops
public import proofs.«01_k».proof.Proof.Gen.KernelIdeal.Launch
public import proofs.«01_k».proof.Proof.Words

/-!
# The printed schedule

The index maps, the condition under which an item is live and the body's own schedule, as the schedule's
words (`Sched.sched`), each by unfolding; and what they are when the table's sizes sum to the rows.
-/

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem
open Cert.Sched

variable {F : FTy → Type} [FloatOps F]

/-- A grid point's item as a word. -/
abbrev item (i : grid0.Coords) : BitVec 32 := BitVec.ofNat 32 (i 0).val

/-- Group `e`'s size, as the index maps read it. -/
abbrev size0 (pf : pre0.Contents (Elt F)) : BitVec 32 := pf.at 0 (Rect.unit (s := S4) ![0] S1.size inb_S4_S1_0) numel1_S1
abbrev size1 (pf : pre0.Contents (Elt F)) : BitVec 32 := pf.at 0 (Rect.unit (s := S4) ![1] S1.size inb_S4_S1_1) numel1_S1
abbrev size2 (pf : pre0.Contents (Elt F)) : BitVec 32 := pf.at 0 (Rect.unit (s := S4) ![2] S1.size inb_S4_S1_2) numel1_S1
abbrev size3 (pf : pre0.Contents (Elt F)) : BitVec 32 := pf.at 0 (Rect.unit (s := S4) ![3] S1.size inb_S4_S1_3) numel1_S1

/-- The schedule of a grid point under a table. -/
abbrev schedAt (pf : pre0.Contents (Elt F)) (i : grid0.Coords) : St := sched (item i) (size0 pf) (size1 pf) (size2 pf) (size3 pf)

set_option maxRecDepth 65536 in
theorem transform0_eq (pf : pre0.Contents (Elt F)) (i : grid0.Coords) :
    cc0_transform_0 inb_S4_S1_0 numel1_S1 inb_S4_S1_1 inb_S4_S1_2 inb_S4_S1_3 pf i = ![(schedAt pf i).tile.toNat, (0#32).toNat] := rfl

set_option maxRecDepth 65536 in
theorem transform1_eq (pf : pre0.Contents (Elt F)) (i : grid0.Coords) :
    cc0_transform_1 inb_S4_S1_0 numel1_S1 inb_S4_S1_1 inb_S4_S1_2 inb_S4_S1_3 pf i
      = ![(schedAt pf i).expert.toNat, (0#32).toNat, (0#32).toNat] := rfl

set_option maxRecDepth 65536 in
theorem transform2_eq (pf : pre0.Contents (Elt F)) (i : grid0.Coords) :
    cc0_transform_2 inb_S4_S1_0 numel1_S1 inb_S4_S1_1 inb_S4_S1_2 inb_S4_S1_3 pf i
      = ![(schedAt pf i).expert.toNat, (0#32).toNat, (0#32).toNat] := rfl

set_option maxRecDepth 65536 in
theorem transform3_eq (pf : pre0.Contents (Elt F)) (i : grid0.Coords) :
    cc0_transform_3 inb_S4_S1_0 numel1_S1 inb_S4_S1_1 inb_S4_S1_2 inb_S4_S1_3 pf i = ![(schedAt pf i).tile.toNat, (0#32).toNat] := rfl

/-- Whether an item is live: before the items end. -/
abbrev live (i : grid0.Coords) (a b c d : BitVec 32) : BitVec 1 := Scalar.cmpi .slt (item i) (sched (item i) a b c d).done

set_option maxRecDepth 65536 in
theorem cond2_eq (i : grid0.Coords) (a b c d : BitVec 32) :
    k0_cond2 i a b c d = Scalar.cmpi .ne (Scalar.extui (live i a b c d)) 0#32 := rfl

/-- Whether the item's expert is another than the item before's, or the item is the first. -/
abbrev fresh (i : grid0.Coords) (a b c d a' b' c' d' : BitVec 32) : BitVec 32 :=
  Scalar.extui (Scalar.ori (Scalar.cmpi .eq (item i) 0#32)
    (Scalar.cmpi .ne (sched (item i) a b c d).expert (sched (Scalar.maxsi (Scalar.subi (item i) 1#32) 0#32) a' b' c' d').expert))

/-- The body's schedule: the sizes loaded, twice, and the schedule's words of them. -/
def head (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    Prog (TpuEff nD τ sig (Elt F) Λ₀ .tc) (Σ' (v0 : Elt F .i32) (v54 : Elt F .i32) (v108 : Elt F .i32) (v162 : Elt F .i32) (v211 : BitVec 32) (v213 : BitVec 32) (v214 : BitVec 32) (v216 : BitVec 1), BitVec 32) := do
  let v0 : Elt F .i32 ← smemLoad arg1 (Rect.unit (s := S4) ![0] S1.size inb_S4_S1_0) numel1_S1 rfl
  let v54 : Elt F .i32 ← smemLoad arg1 (Rect.unit (s := S4) ![1] S1.size inb_S4_S1_1) numel1_S1 rfl
  let v108 : Elt F .i32 ← smemLoad arg1 (Rect.unit (s := S4) ![2] S1.size inb_S4_S1_2) numel1_S1 rfl
  let v162 : Elt F .i32 ← smemLoad arg1 (Rect.unit (s := S4) ![3] S1.size inb_S4_S1_3) numel1_S1 rfl
  let v219 : Elt F .i32 ← smemLoad arg1 (Rect.unit (s := S4) ![0] S1.size inb_S4_S1_0) numel1_S1 rfl
  let v265 : Elt F .i32 ← smemLoad arg1 (Rect.unit (s := S4) ![1] S1.size inb_S4_S1_1) numel1_S1 rfl
  let v311 : Elt F .i32 ← smemLoad arg1 (Rect.unit (s := S4) ![2] S1.size inb_S4_S1_2) numel1_S1 rfl
  let v357 : Elt F .i32 ← smemLoad arg1 (Rect.unit (s := S4) ![3] S1.size inb_S4_S1_3) numel1_S1 rfl
  pure ⟨v0, v54, v108, v162, (sched (item i) v0 v54 v108 v162).tile, (sched (item i) v0 v54 v108 v162).lo,
    (sched (item i) v0 v54 v108 v162).hi, live i v0 v54 v108 v162, fresh i v0 v54 v108 v162 v219 v265 v311 v357⟩

set_option maxRecDepth 65536 in
set_option maxHeartbeats 1000000 in
/-- The printed schedule is that: by unfolding. -/
theorem part13_eq (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    k0_part13 (F := F) i arg1 harg1 arg2 harg2 arg3 harg3 arg4 harg4 arg5 harg5 arg6 harg6 arg7 harg7 = head i arg1 harg1 arg2 harg2 arg3 harg3 arg4 harg4 arg5 harg5 arg6 harg6 arg7 harg7 := rfl

/-- The body with its schedule's words in place: the sizes loaded, then the two conditionals. -/
def bodyL (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    Prog (TpuEff nD τ sig (Elt F) Λ₀ .tc) PUnit := do
  let v0 : Elt F .i32 ← smemLoad arg1 (Rect.unit (s := S4) ![0] S1.size inb_S4_S1_0) numel1_S1 rfl
  let v54 : Elt F .i32 ← smemLoad arg1 (Rect.unit (s := S4) ![1] S1.size inb_S4_S1_1) numel1_S1 rfl
  let v108 : Elt F .i32 ← smemLoad arg1 (Rect.unit (s := S4) ![2] S1.size inb_S4_S1_2) numel1_S1 rfl
  let v162 : Elt F .i32 ← smemLoad arg1 (Rect.unit (s := S4) ![3] S1.size inb_S4_S1_3) numel1_S1 rfl
  let v219 : Elt F .i32 ← smemLoad arg1 (Rect.unit (s := S4) ![0] S1.size inb_S4_S1_0) numel1_S1 rfl
  let v265 : Elt F .i32 ← smemLoad arg1 (Rect.unit (s := S4) ![1] S1.size inb_S4_S1_1) numel1_S1 rfl
  let v311 : Elt F .i32 ← smemLoad arg1 (Rect.unit (s := S4) ![2] S1.size inb_S4_S1_2) numel1_S1 rfl
  let v357 : Elt F .i32 ← smemLoad arg1 (Rect.unit (s := S4) ![3] S1.size inb_S4_S1_3) numel1_S1 rfl
    if Scalar.cmpi .ne (fresh i v0 v54 v108 v162 v219 v265 v311 v357) 0#32 = 1#1 then do
    Scf.Loop.for k0_t1_loop k0_t1_ok ⟨⟩ (k0_t1_body i arg1 harg1 arg2 harg2 arg3 harg3 arg4 harg4 arg5 harg5 arg6 harg6 arg7 harg7)
    pure ⟨⟩
  else do
    pure ⟨⟩
  if k0_h2 : k0_cond2 i v0 v54 v108 v162 = 1#1 then do
    Scf.Loop.for k0_t2_loop k0_t2_ok ⟨⟩ (k0_t2_body i arg1 harg1 arg2 harg2 arg3 harg3 arg4 harg4 arg5 harg5 arg6 harg6 arg7 harg7)
    let v410 : Vec F S256x5120 .bf16 ← Prog.lift (.load arg7 (Rect.unit (s := S256x5120) ![0, 0] S256x5120.size inb_S256x5120_S256x5120_0_0).toLoadRect (View.loadsAt_vmem h_S256x5120))
    let v411 : Vec F S5120x768 .bf16 ← Prog.lift (.load arg6 (Rect.unit (s := S5120x768) ![0, 0] S5120x768.size inb_S5120x768_S5120x768_0_0).toLoadRect (View.loadsAt_vmem h_S5120x768))
    let v422 : Vec F S256x768 .bf16 ← Prog.lift (.load arg5 (Rect.unit (s := S256x768) ![0, 0] S256x768.size inb_S256x768_S256x768_0_0).toLoadRect (View.loadsAt_vmem h_S256x768))
    let v429 : Vec F S256x768 .bf16 ← Prog.lift (.load arg5 (Rect.unit (s := S256x768) ![0, 0] S256x768.size inb_S256x768_S256x768_0_0).toLoadRect (View.loadsAt_vmem h_S256x768))
    Prog.lift (.store arg5 (Rect.unit (s := S256x768) ![0, 0] S256x768.size inb_S256x768_S256x768_0_0) (k0_pay5 (sched (item i) v0 v54 v108 v162).tile (sched (item i) v0 v54 v108 v162).lo (sched (item i) v0 v54 v108 v162).hi v410 v411 v422) Finset.univ (View.stores_vmem h_S256x768 (harg5.storeExact_slice rfl _ packedbf16_S256x768_S256x768_0_0) (fun _ => rfl)) (.inl rfl)) -- tpu.vector_store %arg5[%c0_187, %c0_188], %428 {strides = array<i32>} : memref<256x768xbf16, #tpu.memory_space<vmem>>, vector<256x768xbf16>,  @ test_k:85
    pure ⟨⟩
  else do
    pure ⟨⟩
  pure ⟨⟩

set_option maxRecDepth 65536 in
set_option maxHeartbeats 1000000 in
/-- The printed body is that: by unfolding. -/
theorem body_eq (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) :
    cc0_moe_matmul (F := F) i arg1 harg1 arg2 harg2 arg3 harg3 arg4 harg4 arg5 harg5 arg6 harg6 arg7 harg7 = bodyL i arg1 harg1 arg2 harg2 arg3 harg3 arg4 harg4 arg5 harg5 arg6 harg6 arg7 harg7 := by
  rw [cc0_moe_matmul_eq_skeleton]; unfold cc0_moe_matmul_skel; rw [part13_eq]; rfl

end Cert.KernelIdeal.Gen

end
-- ==== Proof.KI.Body.lean ====
module

public import proofs.«01_k».proof.Proof.KI.Sched
public import Idealize.ShloMosaic.Lib.Pipeline.FrameBody
public import Idealize.ShloMosaic.Lib.Tactic

/-!
# The body's run

One item: the weights dequantised into the scratch where the expert is fresh, the slab quantised and
multiplied into the output tile where the item is live.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sched

variable {F : FTy → Type} [FloatOps F]

local notation "𝕄" => MT nD τ sig Unit (Elt F) ℕ (UR sig nD τ) ℕ

/-- A word of the sizes, as the body loads it from the table's contents. -/
abbrev word0 (arg1 : Memref sig .tc .smem S4 .i32) (T : BufTy.Contents (Elt F) arg1.view.ty) : BitVec 32 :=
  View.readAt (Elt F) arg1.view (Rect.unit (s := S4) ![0] S1.size inb_S4_S1_0).toLoadRect T (Shape.Idx.first (numel1_S1.symm ▸ Nat.one_pos))
abbrev word1 (arg1 : Memref sig .tc .smem S4 .i32) (T : BufTy.Contents (Elt F) arg1.view.ty) : BitVec 32 :=
  View.readAt (Elt F) arg1.view (Rect.unit (s := S4) ![1] S1.size inb_S4_S1_1).toLoadRect T (Shape.Idx.first (numel1_S1.symm ▸ Nat.one_pos))
abbrev word2 (arg1 : Memref sig .tc .smem S4 .i32) (T : BufTy.Contents (Elt F) arg1.view.ty) : BitVec 32 :=
  View.readAt (Elt F) arg1.view (Rect.unit (s := S4) ![2] S1.size inb_S4_S1_2).toLoadRect T (Shape.Idx.first (numel1_S1.symm ▸ Nat.one_pos))
abbrev word3 (arg1 : Memref sig .tc .smem S4 .i32) (T : BufTy.Contents (Elt F) arg1.view.ty) : BitVec 32 :=
  View.readAt (Elt F) arg1.view (Rect.unit (s := S4) ![3] S1.size inb_S4_S1_3).toLoadRect T (Shape.Idx.first (numel1_S1.symm ▸ Nat.one_pos))

/-- The body's own condition for a fresh expert, at the table's contents. -/
abbrev Fresh (i : grid0.Coords) (arg1 : Memref sig .tc .smem S4 .i32) (T : BufTy.Contents (Elt F) arg1.view.ty) : Prop :=
  Scalar.cmpi .ne (fresh i (word0 arg1 T) (word1 arg1 T) (word2 arg1 T) (word3 arg1 T) (word0 arg1 T) (word1 arg1 T) (word2 arg1 T) (word3 arg1 T)) 0#32 = 1#1

/-- The body's own condition for a live item, at the table's contents. -/
abbrev Live (i : grid0.Coords) (arg1 : Memref sig .tc .smem S4 .i32) (T : BufTy.Contents (Elt F) arg1.view.ty) : Prop :=
  k0_cond2 i (word0 arg1 T) (word1 arg1 T) (word2 arg1 T) (word3 arg1 T) = 1#1

/-- The item's schedule, at the table's contents. -/
abbrev schedT (i : grid0.Coords) (arg1 : Memref sig .tc .smem S4 .i32) (T : BufTy.Contents (Elt F) arg1.view.ty) : St :=
  sched (item i) (word0 arg1 T) (word1 arg1 T) (word2 arg1 T) (word3 arg1 T)

/-- What the weights' loop leaves in the scratch. -/
abbrev weights (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (X3 : BufTy.Contents (Elt F) arg3.view.ty)
    (X4 : BufTy.Contents (Elt F) arg4.view.ty) (X6 : BufTy.Contents (Elt F) arg6.view.ty) : BufTy.Contents (Elt F) arg6.view.ty :=
  arg6.view.writes (Elt F) X6 (pb_k0_t1 Variants.none c none i arg1 harg1 arg2 harg2 arg3 harg3 arg4 harg4 arg5 harg5 arg6 harg6 arg7 harg7 X3 X4 (Scf.trips k0_t1_loop.lb k0_t1_loop.ub k0_t1_loop.st))

/-- What the slab's loop leaves in the scratch. -/
abbrev slab (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (X2 : BufTy.Contents (Elt F) arg2.view.ty)
    (X7 : BufTy.Contents (Elt F) arg7.view.ty) : BufTy.Contents (Elt F) arg7.view.ty :=
  arg7.view.writes (Elt F) X7 (pb_k0_t2 Variants.none c none i arg1 harg1 arg2 harg2 arg3 harg3 arg4 harg4 arg5 harg5 arg6 harg6 arg7 harg7 X2 (Scf.trips k0_t2_loop.lb k0_t2_loop.ub k0_t2_loop.st))

/-- What a live item leaves in the output tile. -/
abbrev merged (i : grid0.Coords) (arg1 : Memref sig .tc .smem S4 .i32) (arg5 : Memref sig .tc .vmem S256x768 .bf16)
    (arg6 : Memref sig .tc .vmem S5120x768 .bf16) (arg7 : Memref sig .tc .vmem S256x5120 .bf16)
    (T : BufTy.Contents (Elt F) arg1.view.ty) (X5 : BufTy.Contents (Elt F) arg5.view.ty) (Y6 : BufTy.Contents (Elt F) arg6.view.ty)
    (Y7 : BufTy.Contents (Elt F) arg7.view.ty) : BufTy.Contents (Elt F) arg5.view.ty :=
  arg5.view.writes (Elt F) X5
    [⟨Rect.unit (s := S256x768) ![0, 0] S256x768.size inb_S256x768_S256x768_0_0,
      k0_pay5 (schedT i arg1 T).tile (schedT i arg1 T).lo (schedT i arg1 T).hi
        (View.readAt (Elt F) arg7.view (Rect.unit (s := S256x5120) ![0, 0] S256x5120.size inb_S256x5120_S256x5120_0_0).toLoadRect Y7)
        (View.readAt (Elt F) arg6.view (Rect.unit (s := S5120x768) ![0, 0] S5120x768.size inb_S5120x768_S5120x768_0_0).toLoadRect Y6)
        (View.readAt (Elt F) arg5.view (Rect.unit (s := S256x768) ![0, 0] S256x768.size inb_S256x768_S256x768_0_0).toLoadRect X5)⟩]

open Classical in
/-- The weights' scratch after an item. -/
def wb' (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (T : BufTy.Contents (Elt F) arg1.view.ty)
    (X3 : BufTy.Contents (Elt F) arg3.view.ty) (X4 : BufTy.Contents (Elt F) arg4.view.ty) (X6 : BufTy.Contents (Elt F) arg6.view.ty) :
    BufTy.Contents (Elt F) arg6.view.ty :=
  if Fresh i arg1 T then weights c i arg1 harg1 arg2 harg2 arg3 harg3 arg4 harg4 arg5 harg5 arg6 harg6 arg7 harg7 X3 X4 X6 else X6

open Classical in
/-- The slab's scratch after an item. -/
def lhs' (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (T : BufTy.Contents (Elt F) arg1.view.ty)
    (X2 : BufTy.Contents (Elt F) arg2.view.ty) (X7 : BufTy.Contents (Elt F) arg7.view.ty) : BufTy.Contents (Elt F) arg7.view.ty :=
  if Live i arg1 T then slab c i arg1 harg1 arg2 harg2 arg3 harg3 arg4 harg4 arg5 harg5 arg6 harg6 arg7 harg7 X2 X7 else X7

open Classical in
/-- The output tile after an item. -/
def out' (i : grid0.Coords) (arg1 : Memref sig .tc .smem S4 .i32) (arg5 : Memref sig .tc .vmem S256x768 .bf16)
    (arg6 : Memref sig .tc .vmem S5120x768 .bf16) (arg7 : Memref sig .tc .vmem S256x5120 .bf16)
    (T : BufTy.Contents (Elt F) arg1.view.ty) (X5 : BufTy.Contents (Elt F) arg5.view.ty) (Y6 : BufTy.Contents (Elt F) arg6.view.ty)
    (Y7 : BufTy.Contents (Elt F) arg7.view.ty) : BufTy.Contents (Elt F) arg5.view.ty :=
  if Live i arg1 T then merged i arg1 arg5 arg6 arg7 T X5 Y6 Y7 else X5

set_option maxHeartbeats 8000000 in
/-- One item's run: the four buffers it reads keep their contents, the three it writes end at the above. -/
theorem run (c : Dev nD) (E : Set ℕ) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole) (q : PosShare TreeShare)
    (T : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (K : PUnit → sProp 𝕄) :
    iprop((arg1.view.loc (c : Thread nD τ) ↦[arg1.view.set]{q} T) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5) ∗ (arg6.view.loc (c : Thread nD τ) ↦[arg6.view.set]{fullShare} X6)
        ∗ (arg7.view.loc (c : Thread nD τ) ↦[arg7.view.set]{fullShare} X7)
        ∗ (((arg1.view.loc (c : Thread nD τ) ↦[arg1.view.set]{q} T) ∗ (arg2.view.loc (c : Thread nD τ) ↦[arg2.view.set]{fullShare} X2)
            ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} out' i arg1 arg5 arg6 arg7 T X5 (wb' c i arg1 harg1 arg2 harg2 arg3 harg3 arg4 harg4 arg5 harg5 arg6 harg6 arg7 harg7 T X3 X4 X6) (lhs' c i arg1 harg1 arg2 harg2 arg3 harg3 arg4 harg4 arg5 harg5 arg6 harg6 arg7 harg7 T X2 X7))
            ∗ (arg6.view.loc (c : Thread nD τ) ↦[arg6.view.set]{fullShare} wb' c i arg1 harg1 arg2 harg2 arg3 harg3 arg4 harg4 arg5 harg5 arg6 harg6 arg7 harg7 T X3 X4 X6)
            ∗ (arg7.view.loc (c : Thread nD τ) ↦[arg7.view.set]{fullShare} lhs' c i arg1 harg1 arg2 harg2 arg3 harg3 arg4 harg4 arg5 harg5 arg6 harg6 arg7 harg7 T X2 X7)) -∗ K ⟨⟩))
      ⊢ wp frame (wpE (defs₀ (F := F)) Variants.none c none) E (cc0_moe_matmul i arg1 harg1 arg2 harg2 arg3 harg3 arg4 harg4 arg5 harg5 arg6 harg6 arg7 harg7) K := by
  rw [body_eq]; unfold bodyL
  iintro ⟨H1, H2, H3, H4, H5, H6, H7, Hk⟩
  by_cases hf : Fresh i arg1 T <;> by_cases hl : Live i arg1 T
  · rw [wb', lhs', out', if_pos hf, if_pos hl, if_pos hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_pos hf, if_neg hl, if_neg hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_neg hf, if_pos hl, if_pos hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [wb', lhs', out', if_neg hf, if_neg hl, if_neg hl]
    sl_exec (disch := first | sl_exact hf | sl_exact hl | exact hf | exact hl)
    rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7

end Cert.KernelIdeal.Gen

end
-- ==== Proof.KI.Frame.lean ====
module

public import proofs.«01_k».proof.Proof.KI.Body
public import proofs.«01_k».proof.Proof.Gen.KernelIdeal.Launch

/-!
# The region's run

The proof's data of the one region, over a relation `R` for the output tile and a property `W` of the weights'
scratch, and the run they give once one item's step is shown to keep them (`Step`).
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Sched

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer as the region finds it: as launched. -/
abbrev V (c : Dev nD) (b : Ref sig .tc) : Buf (Elt F) ((c : Thread nD τ).loc b) := m ((c : Thread nD τ).loc b)

/-- The sizes' table, as launched. -/
def tbl : pre0.Contents (Elt F) := fun k => m (((0 : Dev nD) : Thread nD τ).loc (pre0.ref k))

/-- The table at which the region runs. -/
abbrev adm (h : ok0 (tbl m)) : (p : Fin 1) → (pcfgs (F := F) p).Adm := fun _ => ⟨tbl m, h⟩

/-- The region's pipeline there. -/
abbrev CF (h : ok0 (tbl m)) : Cfg sig Λ₀ := cfg0 (F := F) ⟨tbl m, h⟩

variable (h : ok0 (tbl m))

/-- An input window's block at a point, read off its array as launched. -/
def iblk (c : Dev nD) (w : Fin 4) (t : Fin (CF m h).N) :
    (((CF m h).win w).xblock ((CF m h).grid.coords t)).Idx → Elt F ((CF m h).win w).elt :=
  (((CF m h).win w).blk t).view.read (Elt F) (V m c (Pipeline.arrRef spec0 w))

/-- The relations of the four windows: an input's buffer stays as found, the output's is held to `R`. -/
def rel (R : Fin (CF m h).N → Vec F S256x768 .bf16 → Vec F S256x768 .bf16 → Prop) :
    (w : Fin (CF m h).W) → Fin (CF m h).N → (Y X : ((CF m h).win w).block.Idx → Elt F ((CF m h).win w).elt) → Prop
  | 0 => fun _ Y X => X = Y
  | 1 => fun _ Y X => X = Y
  | 2 => fun _ Y X => X = Y
  | 3 => fun t Y X => R t Y X
  | ⟨_ + 4, h⟩ => absurd h (Nat.not_lt.2 (Nat.le_add_left _ _))

/-- A buffer held whole, as the body is handed it. -/
abbrev wpt (c : Dev nD) (b : Ref sig .tc) (q : PosShare TreeShare) (f : BufTy.Contents (Elt F) (Memref.whole b).view.ty) : sProp 𝕄 :=
  iprop((Memref.whole b).view.loc (c : Thread nD τ) ↦[(Memref.whole b).view.set]{q} f)

theorem wpt_eq (c : Dev nD) (b : Ref sig .tc) (q : PosShare TreeShare) (f : Buf (Elt F) ((c : Thread nD τ).loc b)) :
    wpt c b q f = iprop(((c : Thread nD τ).loc b) ↦{q} f) := by
  unfold wpt; simp only [Memref.view_whole, View.set_whole]

/-- The proof's data. -/
def rdat (R : Fin (CF m h).N → Vec F S256x768 .bf16 → Vec F S256x768 .bf16 → Prop) (W : Nat → Vec F S5120x768 .bf16 → Prop)
    (c : Dev nD) : RDat τ (Elt F) Unit ℕ (UR sig nD τ) ℕ (CF m h) c where
  A w := V m c (Pipeline.arrRef spec0 w)
  after := rel m h R
  Φ t := iprop((∃ f : BufTy.Contents (Elt F) (Memref.whole cc0_scratch0).view.ty, ⌜W t.val f⌝ ∗ wpt c cc0_scratch0 fullShare f)
      ∗ (∃ f, wpt c cc0_scratch1 fullShare f)
      ∗ (∃ r, prngReg c r)
      ∗ wpt c main_arg1 fullShare.right (tbl m 0))
  q _ := fullShare
  owed _ := 0

variable (R : Fin (CF m h).N → Vec F S256x768 .bf16 → Vec F S256x768 .bf16 → Prop) (W : Nat → Vec F S5120x768 .bf16 → Prop)

/-- What an input window's buffer holds wherever the body is handed it: its block. -/
theorem finds_in0 (c : Dev nD) (t : Fin (CF m h).N) (Y : ((CF m h).win 0).block.Idx → Elt F ((CF m h).win 0).elt)
    (hY : (rdat m h R W c).Finds 0 t Y) : Y = iblk m h c 0 t := by
  obtain ⟨d, hd⟩ := (rdat m h R W c).finds_in_eq_fetched 0 rfl (fun _ _ _ => rfl) (fun t Y X hx => hx) t Y hY
  rw [hd]; unfold RDat.fetched RDat.blockOf iblk; rfl
theorem finds_in1 (c : Dev nD) (t : Fin (CF m h).N) (Y : ((CF m h).win 1).block.Idx → Elt F ((CF m h).win 1).elt)
    (hY : (rdat m h R W c).Finds 1 t Y) : Y = iblk m h c 1 t := by
  obtain ⟨d, hd⟩ := (rdat m h R W c).finds_in_eq_fetched 1 rfl (fun _ _ _ => rfl) (fun t Y X hx => hx) t Y hY
  rw [hd]; unfold RDat.fetched RDat.blockOf iblk; rfl
theorem finds_in2 (c : Dev nD) (t : Fin (CF m h).N) (Y : ((CF m h).win 2).block.Idx → Elt F ((CF m h).win 2).elt)
    (hY : (rdat m h R W c).Finds 2 t Y) : Y = iblk m h c 2 t := by
  obtain ⟨d, hd⟩ := (rdat m h R W c).finds_in_eq_fetched 2 rfl (fun _ _ _ => rfl) (fun t Y X hx => hx) t Y hY
  rw [hd]; unfold RDat.fetched RDat.blockOf iblk; rfl

/-- The staging memrefs' slots at a point. -/
abbrev sl (t : Fin (CF m h).N) (w : Fin 4) := (CF m h).slots t w

set_option backward.isDefEq.respectTransparency.types false in
/-- The body at a point. -/
abbrev bodyAt (t : Fin (CF m h).N) : Prog (TpuEff nD τ sig (Elt F) Λ₀ .tc) PUnit :=
  cc0_moe_matmul (F := F) (grid0.coords t) (Memref.whole main_arg1) (Memref.isWhole_whole _) (spec0_0.stage ((CF m h).slots t 0)) (hstage0_0 (((CF m h).slots t 0).cast nbuf0_0)) (spec0_1.stage ((CF m h).slots t 1)) (hstage0_1 (((CF m h).slots t 1).cast nbuf0_1)) (spec0_2.stage ((CF m h).slots t 2)) (hstage0_2 (((CF m h).slots t 2).cast nbuf0_2)) (spec0_3.stage ((CF m h).slots t 3)) (hstage0_3 (((CF m h).slots t 3).cast nbuf0_3)) (Memref.whole cc0_scratch0) (Memref.isWhole_whole _) (Memref.whole cc0_scratch1) (Memref.isWhole_whole _)

theorem defs₀_row (t : Fin (CF m h).N) :
    defs₀ (F := F) .tc (CF m h).body ((CF m h).bodyArgs t ((CF m h).slots t)) = bodyAt m h t := by
  unfold defs₀; rw [Defs.onTc_tc]

/-- One item's step keeps `R` and `W`: whatever the staging memrefs are and whatever the scratch of the slab holds. -/
def Step (c : Dev nD) : Prop :=
  ∀ (t : Fin (CF m h).N) (arg2 : Memref sig .tc .vmem S256x5120 .bf16) (harg2 : arg2.IsWhole) (arg3 : Memref sig .tc .vmem S1x5120x768 .fp8e4m3) (harg3 : arg3.IsWhole)
    (arg4 : Memref sig .tc .smem S1x40x6 .f32) (harg4 : arg4.IsWhole) (arg5 : Memref sig .tc .vmem S256x768 .bf16) (harg5 : arg5.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : Vec F S5120x768 .bf16) (f7 : Vec F S256x5120 .bf16),
    arg2.view.read (Elt F) f2 = iblk m h c 0 t → arg3.view.read (Elt F) f3 = iblk m h c 1 t →
    arg4.view.read (Elt F) f4 = iblk m h c 2 t → W t.val f6 →
    W (t.val + 1) (wb' c (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) (tbl m 0) f3 f4 f6)
      ∧ R t (arg5.view.read (Elt F) f5) (arg5.view.read (Elt F) (out' (grid0.coords t) (Memref.whole main_arg1) arg5 (Memref.whole cc0_scratch0) (Memref.whole cc0_scratch1) (tbl m 0) f5
          (wb' c (grid0.coords t) (Memref.whole main_arg1) (Memref.isWhole_whole _) arg2 harg2 arg3 harg3 arg4 harg4 arg5 harg5
            (Memref.whole cc0_scratch0) (Memref.isWhole_whole _) (Memref.whole cc0_scratch1) (Memref.isWhole_whole _) (tbl m 0) f3 f4 f6)
          (lhs' c (grid0.coords t) (Memref.whole main_arg1) (Memref.isWhole_whole _) arg2 harg2 arg3 harg3 arg4 harg4 arg5 harg5
            (Memref.whole cc0_scratch0) (Memref.isWhole_whole _) (Memref.whole cc0_scratch1) (Memref.isWhole_whole _) (tbl m 0) f2 f7)))

/-- What the body is called with at a point, the windows one by one, -/
def bodyPre (c : Dev nD) (t : Fin (CF m h).N) (Y : (w : Fin (CF m h).W) → ((CF m h).win w).block.Idx → Elt F ((CF m h).win w).elt) : sProp 𝕄 :=
  iprop((rdat m h R W c).Φ t.castSucc ∗ (rdat m h R W c).owesAt () t.castSucc
    ∗ owns (c : Thread nD τ) (spec0_0.stage ((CF m h).slots t 0)) fullShare (Y 0)
    ∗ owns (c : Thread nD τ) (spec0_1.stage ((CF m h).slots t 1)) fullShare (Y 1)
    ∗ owns (c : Thread nD τ) (spec0_2.stage ((CF m h).slots t 2)) fullShare (Y 2)
    ∗ owns (c : Thread nD τ) (spec0_3.stage ((CF m h).slots t 3)) fullShare (Y 3))

/-- and what it returns. -/
def bodyPost (c : Dev nD) (t : Fin (CF m h).N) (Y : (w : Fin (CF m h).W) → ((CF m h).win w).block.Idx → Elt F ((CF m h).win w).elt) : sProp 𝕄 :=
  iprop((rdat m h R W c).Φ t.succ ∗ (rdat m h R W c).owesAt () t.succ
    ∗ (∃ X, ⌜(rdat m h R W c).after 0 t (Y 0) X⌝ ∗ owns (c : Thread nD τ) (spec0_0.stage ((CF m h).slots t 0)) fullShare X)
    ∗ (∃ X, ⌜(rdat m h R W c).after 1 t (Y 1) X⌝ ∗ owns (c : Thread nD τ) (spec0_1.stage ((CF m h).slots t 1)) fullShare X)
    ∗ (∃ X, ⌜(rdat m h R W c).after 2 t (Y 2) X⌝ ∗ owns (c : Thread nD τ) (spec0_2.stage ((CF m h).slots t 2)) fullShare X)
    ∗ (∃ X, ⌜(rdat m h R W c).after 3 t (Y 3) X⌝ ∗ owns (c : Thread nD τ) (spec0_3.stage ((CF m h).slots t 3)) fullShare X))

set_option maxHeartbeats 1000000 in
theorem sound_body (c : Dev nD) (hs : Step m h R W c) (t : Fin (CF m h).N)
    (Y : (w : Fin (CF m h).W) → ((CF m h).win w).block.Idx → Elt F ((CF m h).win w).elt) (hY : ∀ w, (rdat m h R W c).Finds w t (Y w)) :
    bodyPre m h R W c t Y ⊢ wp frame (wpE (defs₀ (F := F)) Variants.none c none) Set.univ (bodyAt m h t) (fun _ => bodyPost m h R W c t Y) := by
  have e0 := finds_in0 m h R W c t (Y 0) (hY 0)
  have e1 := finds_in1 m h R W c t (Y 1) (hY 1)
  have e2 := finds_in2 m h R W c t (Y 2) (hY 2)
  unfold bodyPre bodyPost bodyAt
  rw [show (rdat m h R W c).owesAt () t.succ = (rdat m h R W c).owesAt () t.castSucc from rfl]
  dsimp only [rdat]
  unfold owns
  iintro ⟨⟨⟨%f6, %h6, H6⟩, ⟨%f7, H7⟩, Hp, H1⟩, Ho, ⟨%f2, %h2, H2⟩, ⟨%f3, %h3, H3⟩, ⟨%f4, %h4, H4⟩, ⟨%f5, %h5, H5⟩⟩
  have hstep := hs t _ (hstage0_0 (((CF m h).slots t 0).cast nbuf0_0)) _ (hstage0_1 (((CF m h).slots t 1).cast nbuf0_1)) _ (hstage0_2 (((CF m h).slots t 2).cast nbuf0_2)) _ (hstage0_3 (((CF m h).slots t 3).cast nbuf0_3)) f2 f3 f4 f5 f6 f7 (h2.trans e0) (h3.trans e1) (h4.trans e2) h6
  iapply (run c Set.univ (grid0.coords t) (Memref.whole main_arg1) (Memref.isWhole_whole _) (spec0_0.stage ((CF m h).slots t 0)) (hstage0_0 (((CF m h).slots t 0).cast nbuf0_0)) (spec0_1.stage ((CF m h).slots t 1)) (hstage0_1 (((CF m h).slots t 1).cast nbuf0_1)) (spec0_2.stage ((CF m h).slots t 2)) (hstage0_2 (((CF m h).slots t 2).cast nbuf0_2)) (spec0_3.stage ((CF m h).slots t 3)) (hstage0_3 (((CF m h).slots t 3).cast nbuf0_3)) (Memref.whole cc0_scratch0) (Memref.isWhole_whole _) (Memref.whole cc0_scratch1) (Memref.isWhole_whole _) fullShare.right (tbl m 0) f2 f3 f4 f5 f6 f7 _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [H1 H6 H7 Hp]
  · isplitl [H6]
    · iexists _; isplitr
      swap; · iexact H6
      ipureintro; exact hstep.1
    isplitl [H7]; · iexists _; iexact H7
    isplitl [Hp]; · iexact Hp
    iexact H1
  isplitl [Ho]; · iexact Ho
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  iexists _; isplitr
  swap
  · iexists _; isplitr
    swap; · iexact H5
    ipureintro; rfl
  ipureintro
  rw [← h5]; exact hstep.2

/-- The body's obligation, at every point. -/
theorem body_obligation (c : Dev nD) (hs : Step m h R W c) :
    (rdat m h R W c).BodyObligation (defs₀ (F := F)) Variants.none () Set.univ := fun t Y hY => by
  rw [bigSep_W0, bigSep_W0, defs₀_row]
  exact triple_restated (sound_body m h R W c hs t Y hY) rfl .rfl fun _ => .rfl

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
set_option maxHeartbeats 800000 in
/-- The run: every array at contents the relations allow, every other buffer and every counter as launched. -/
theorem run_main (hs : ∀ c, Step m h R W c) (h0 : ∀ f, W 0 f) : θ_run defs (onTc (τ := τ) (main (F := F))) (s₀ m ρ)
    (fun r => RDat.FramePost (CF m h) (rdat m h R W) (V m) r ∧ r.2.sem = fun _ => 0) :=
  RDat.θ_run_frameP_track (Q' := _) pcfgs (adm m h) (0 : Fin 1) launch0 defs₀ Variants.none (rdat m h R W) m ρ main
    (hbody := fun c => body_obligation m h R W c (hs c)) (hshare := fun c w => by unfold RDat.share; split <;> rfl)
    (howed := fun _ _ => rfl) (V := V m) (hmain := hmain m Variants.none) (hA := fun _ _ => rfl)
    (hpf := fun c k => by obtain rfl : c = 0 := Subsingleton.elim _ _; rfl)
    (hin := fun c => by
      unfold Pipeline.ΦA Pipeline.ΦT Pipeline.prefHeld
      rw [scopedRest0_eq]
      dsimp only [rdat]
      simp only [wpt_eq]
      rw [show (Finset.univ : Finset (Fin 1)) = {0} from rfl, bigSep_singleton]
      iintro ⟨⟨⟨⟨%f6, H6⟩, ⟨%f7, H7⟩⟩, Hp⟩, H1⟩
      isplitl [H6]
      · iexists f6; isplitr; · ipureintro; exact h0 f6
        iexact H6
      isplitl [H7]; · iexists f7; iexact H7
      isplitl [Hp]; · iexact Hp
      iexact H1)
    (hout := fun c => by
      unfold Pipeline.ΦA
      rw [scopedRest0_eq]
      dsimp only [rdat]
      simp only [wpt_eq]
      iintro ⟨⟨%f6, -, H6⟩, ⟨%f7, H7⟩, Hp, -⟩
      isplitr [Hp]
      · isplitl [H6]
        · iexists f6; iexact H6
        iexists f7; iexact H7
      iexact Hp)

include h in
/-- The frame: from a table at which the region runs, every weakly fair execution terminates, nothing faults, the
    arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => ⟨hr.1.arr_in c 0 rfl, (hr.1 c).2 main_arg1 (Pipeline.mem_restRefs_of main_arg1 rfl (show ∀ w : Fin 4, (spec0 w).arr.view.ref ≠ main_arg1 by decide)),
      hr.1.arr_in c 1 rfl, hr.1.arr_in c 2 rfl⟩, hr.2⟩)
    (run_main m ρ h (fun _ _ _ => True) (fun _ _ => True) (fun _ => fun _ _ _ _ _ _ _ _ _ _ _ _ _ _ _ _ _ _ _ => ⟨trivial, trivial⟩) (fun _ => trivial))

end Cert.KernelIdeal.Gen

end
-- ==== Proof.KI.Ok.lean ====
module

public import proofs.«01_k».proof.Proof.KI.Frame
public import proofs.«01_k».proof.Proof.Sizes

/-!
# The blocks at admissible sizes

At sizes that sum to the rows the schedule's words are its numbers, so every block the region fetches or writes
back lies inside its array.
-/

@[expose] public section

set_option maxRecDepth 16384

noncomputable section

namespace Cert.KernelIdeal.Gen

open Idealize.ShloMosaic Idealize.ShloMosaic.TcCoe
open Cert.Sched Idealize.ShloMosaic.Affine

variable {F : FTy → Type} [FloatOps F]

/-- The schedule of a grid point in numbers. -/
def num (pf : pre0.Contents (Elt F)) (i : ℕ) : NSt := nsched i (cnt (pf 0) 0) (cnt (pf 0) 1) (cnt (pf 0) 2) (cnt (pf 0) 3)

theorem size0_eq (pf : pre0.Contents (Elt F)) : size0 pf = pf 0 (at4 0) :=
  congrArg (pf 0) (funext fun a => by obtain rfl : a = (0 : Fin 1) := @Subsingleton.elim (Fin 1) _ _ _; rfl)
theorem size1_eq (pf : pre0.Contents (Elt F)) : size1 pf = pf 0 (at4 1) :=
  congrArg (pf 0) (funext fun a => by obtain rfl : a = (0 : Fin 1) := @Subsingleton.elim (Fin 1) _ _ _; rfl)
theorem size2_eq (pf : pre0.Contents (Elt F)) : size2 pf = pf 0 (at4 2) :=
  congrArg (pf 0) (funext fun a => by obtain rfl : a = (0 : Fin 1) := @Subsingleton.elim (Fin 1) _ _ _; rfl)
theorem size3_eq (pf : pre0.Contents (Elt F)) : size3 pf = pf 0 (at4 3) :=
  congrArg (pf 0) (funext fun a => by obtain rfl : a = (0 : Fin 1) := @Subsingleton.elim (Fin 1) _ _ _; rfl)

/-- The words of a grid point's schedule are its numbers. -/
theorem rep {pf : pre0.Contents (Elt F)} (hg : Good (pf 0)) (i : grid0.Coords) : Rep (schedAt pf i) (num pf (i 0).val) := by
  have hi : (i 0).val < 51 := (i 0).isLt
  refine sched_rep (lit _ (by omega)) (by omega) ?_ ?_ ?_ ?_ hg.sum.le
  · rw [size0_eq]; exact hg.int 0
  · rw [size1_eq]; exact hg.int 1
  · rw [size2_eq]; exact hg.int 2
  · rw [size3_eq]; exact hg.int 3

theorem tile_lt {pf : pre0.Contents (Elt F)} (hg : Good (pf 0)) (i : ℕ) : (num pf i).tile < 48 := (nsched_pair le_rfl hg.sum.le).top
theorem expert_lt {pf : pre0.Contents (Elt F)} (hg : Good (pf 0)) (i : ℕ) : (num pf i).expert < 4 := (nsched_own i _ _ _ _).expert

/-- The printed index maps in numbers. -/
theorem map0 {pf : pre0.Contents (Elt F)} (hg : Good (pf 0)) (i : grid0.Coords) :
    cc0_transform_0 inb_S4_S1_0 numel1_S1 inb_S4_S1_1 inb_S4_S1_2 inb_S4_S1_3 pf i = ![(num pf (i 0).val).tile, 0] := by
  rw [transform0_eq, toNat_of_rep (rep hg i).tile]; rfl
theorem map1 {pf : pre0.Contents (Elt F)} (hg : Good (pf 0)) (i : grid0.Coords) :
    cc0_transform_1 inb_S4_S1_0 numel1_S1 inb_S4_S1_1 inb_S4_S1_2 inb_S4_S1_3 pf i = ![(num pf (i 0).val).expert, 0, 0] := by
  rw [transform1_eq, toNat_of_rep (rep hg i).expert]; rfl
theorem map2 {pf : pre0.Contents (Elt F)} (hg : Good (pf 0)) (i : grid0.Coords) :
    cc0_transform_2 inb_S4_S1_0 numel1_S1 inb_S4_S1_1 inb_S4_S1_2 inb_S4_S1_3 pf i = ![(num pf (i 0).val).expert, 0, 0] := by
  rw [transform2_eq, toNat_of_rep (rep hg i).expert]; rfl
theorem map3 {pf : pre0.Contents (Elt F)} (hg : Good (pf 0)) (i : grid0.Coords) :
    cc0_transform_3 inb_S4_S1_0 numel1_S1 inb_S4_S1_1 inb_S4_S1_2 inb_S4_S1_3 pf i = ![(num pf (i 0).val).tile, 0] := by
  rw [transform3_eq, toNat_of_rep (rep hg i).tile]; rfl

theorem okx : ∀ t : Fin 48, ∃ h : (∀ a, ((![t.val, 0] : Fin 2 → ℕ) a + 1) * S256x5120.size a ≤ S12288x5120.size a), EltTy.bits .bf16 = 32 ∨ (Rect.block (s := S12288x5120) S256x5120.size ![t.val, 0] h).WholeWords (EltTy.packing .bf16) := by decide
theorem okw : ∀ t : Fin 4, ∃ h : (∀ a, ((![t.val, 0, 0] : Fin 3 → ℕ) a + 1) * S1x5120x768.size a ≤ S4x5120x768.size a), EltTy.bits .fp8e4m3 = 32 ∨ (Rect.block (s := S4x5120x768) S1x5120x768.size ![t.val, 0, 0] h).WholeWords (EltTy.packing .fp8e4m3) := by decide
theorem oks : ∀ t : Fin 4, ∃ h : (∀ a, ((![t.val, 0, 0] : Fin 3 → ℕ) a + 1) * S1x40x6.size a ≤ S4x40x6.size a), EltTy.bits .f32 = 32 ∨ (Rect.block (s := S4x40x6) S1x40x6.size ![t.val, 0, 0] h).WholeWords (EltTy.packing .f32) := by decide
theorem oko : ∀ t : Fin 48, ∃ h : (∀ a, ((![t.val, 0] : Fin 2 → ℕ) a + 1) * S256x768.size a ≤ S12288x768.size a), EltTy.bits .bf16 = 32 ∨ (Rect.block (s := S12288x768) S256x768.size ![t.val, 0] h).WholeWords (EltTy.packing .bf16) := by decide

/-- The region's side condition on the table. -/
theorem ok {pf : pre0.Contents (Elt F)} (hg : Good (pf 0)) : ok0 pf := by
  unfold ok0
  refine ⟨fun i => ?_, fun i => ?_, fun i => ?_, fun i => ?_⟩
  · generalize hf : cc0_transform_0 inb_S4_S1_0 numel1_S1 inb_S4_S1_1 inb_S4_S1_2 inb_S4_S1_3 pf i = f
    rw [map0 hg i] at hf; subst hf; exact okx ⟨_, tile_lt hg _⟩
  · generalize hf : cc0_transform_1 inb_S4_S1_0 numel1_S1 inb_S4_S1_1 inb_S4_S1_2 inb_S4_S1_3 pf i = f
    rw [map1 hg i] at hf; subst hf; exact okw ⟨_, expert_lt hg _⟩
  · generalize hf : cc0_transform_2 inb_S4_S1_0 numel1_S1 inb_S4_S1_1 inb_S4_S1_2 inb_S4_S1_3 pf i = f
    rw [map2 hg i] at hf; subst hf; exact oks ⟨_, expert_lt hg _⟩
  · generalize hf : cc0_transform_3 inb_S4_S1_0 numel1_S1 inb_S4_S1_1 inb_S4_S1_2 inb_S4_S1_3 pf i = f
    rw [map3 hg i] at hf; subst hf; exact oko ⟨_, tile_lt hg _⟩

end Cert.KernelIdeal.Gen

end
-- ==== Proof.Bisect.lean ====
module

public import Idealize.ShloMosaic.PureOps.Ideal.Laws

/-!
# A scale found from a row's maximum, over the reals

The greatest word of a sixteen-bit grid whose float is at most `a`, found bit by bit; the power of two read off it; and
that 448 of it is at least `a`.
-/

@[expose] public section

noncomputable section

namespace Cert.Quant

open Idealize.ShloMosaic

/-- The float of the positive word `n`, in units of `2^-149`. -/
def grid (n : ℕ) : ℕ := if n / 2 ^ 23 = 0 then n else (2 ^ 23 + n % 2 ^ 23) * 2 ^ (n / 2 ^ 23 - 1)

theorem grid_mono : Monotone grid := by
  refine monotone_nat_of_le_succ fun n => ?_
  unfold grid
  obtain ⟨e, f, hf, rfl⟩ : ∃ e f, f < 2 ^ 23 ∧ n = 2 ^ 23 * e + f := ⟨n / 2 ^ 23, n % 2 ^ 23, Nat.mod_lt _ (by norm_num), (Nat.div_add_mod _ _).symm⟩
  have d0 : (2 ^ 23 * e + f) / 2 ^ 23 = e := by omega
  have m0 : (2 ^ 23 * e + f) % 2 ^ 23 = f := by omega
  rw [d0, m0]
  by_cases h : f + 1 < 2 ^ 23
  · have d1 : (2 ^ 23 * e + f + 1) / 2 ^ 23 = e := by omega
    have m1 : (2 ^ 23 * e + f + 1) % 2 ^ 23 = f + 1 := by omega
    rw [d1, m1]
    split
    · omega
    · exact Nat.mul_le_mul_right _ (by omega)
  · have d1 : (2 ^ 23 * e + f + 1) / 2 ^ 23 = e + 1 := by omega
    have m1 : (2 ^ 23 * e + f + 1) % 2 ^ 23 = 0 := by omega
    rw [d1, m1, if_neg (Nat.succ_ne_zero e)]
    by_cases h0 : e = 0
    · subst h0; rw [if_pos rfl]; simp; omega
    · rw [if_neg h0]
      obtain ⟨k, rfl⟩ : ∃ k, e = k + 1 := ⟨e - 1, by omega⟩
      simp only [Nat.add_sub_cancel, Nat.add_zero]
      rw [pow_succ 2 k, ← mul_assoc, mul_right_comm]
      exact Nat.mul_le_mul_right _ (by omega)

/-- A finite positive word's float. -/
theorem float_word (b : BitVec 32) (hb : b.toNat < 0x7F800000) : Ideal.ofBits .f32 b = ((grid b.toNat * (2 : ℝ) ^ (-149 : ℤ) : ℝ) : EReal) := by
  have e1 : (b.extractLsb' 23 8).toNat = b.toNat / 2 ^ 23 := by
    rw [BitVec.extractLsb'_toNat, Nat.shiftRight_eq_div_pow]; exact Nat.mod_eq_of_lt (by omega)
  have e2 : (b.extractLsb' 0 23).toNat = b.toNat % 2 ^ 23 := by
    rw [BitVec.extractLsb'_toNat, Nat.shiftRight_eq_div_pow]; simp
  have e3 : (b.extractLsb' 31 1 == 1#1) = false := by
    rw [beq_eq_false_iff_ne]
    intro h
    have := congrArg BitVec.toNat h
    rw [BitVec.extractLsb'_toNat, Nat.shiftRight_eq_div_pow] at this
    have z : b.toNat / 2 ^ 31 = 0 := by omega
    rw [z] at this; simp at this
  show Ideal.ieee 8 23 b = _
  unfold Ideal.ieee
  simp only [e1, e2]
  rw [show (8 + 23 : ℕ) = 31 from rfl, e3]
  rw [if_neg (by omega)]
  unfold grid
  split
  · next h =>
    congr 1
    have : b.toNat % 2 ^ 23 = b.toNat := by omega
    rw [this]; norm_num
  · next h =>
    congr 1
    obtain ⟨k, hk⟩ : ∃ k, b.toNat / 2 ^ 23 = k + 1 := ⟨b.toNat / 2 ^ 23 - 1, by omega⟩
    rw [hk]
    simp only [Nat.add_sub_cancel]
    push_cast
    norm_num only [Nat.reducePow, Int.reducePow]
    have : ((k : ℤ) + 1 - 127 - 23) = (k : ℤ) + (-149) := by ring
    rw [this, zpow_add₀ (by norm_num : (2 : ℝ) ≠ 0), zpow_natCast]
    norm_num
    ring

/-- The word of infinity. -/
theorem float_top : Ideal.ofBits .f32 0x7F800000#32 = ⊤ := by
  show (Ideal.ieee 8 23 (0x7F800000#32 : BitVec 32) : EReal) = ⊤
  unfold Ideal.ieee
  rw [if_pos (by decide), if_pos (by decide), if_neg (by decide)]

/-- The word of `2^(E-127)`. -/
theorem float_pow (E : ℕ) (h0 : 0 < E) (h1 : E < 255) (b : BitVec 32) (hb : b.toNat = E * 2 ^ 23) :
    Ideal.ofBits .f32 b = (((2 : ℝ) ^ ((E : ℤ) - 127) : ℝ) : EReal) := by
  rw [float_word b (by omega), hb]
  congr 1
  unfold grid
  have d : E * 2 ^ 23 / 2 ^ 23 = E := by omega
  have m : E * 2 ^ 23 % 2 ^ 23 = 0 := by omega
  rw [d, m, if_neg (by omega)]
  obtain ⟨k, rfl⟩ : ∃ k, E = k + 1 := ⟨E - 1, by omega⟩
  simp only [Nat.add_sub_cancel, Nat.add_zero]
  push_cast
  have : ((k : ℤ) + 1 - 127) = (k : ℤ) + 23 + (-149) := by ring
  rw [this, zpow_add₀ (by norm_num : (2 : ℝ) ≠ 0), zpow_add₀ (by norm_num : (2 : ℝ) ≠ 0), zpow_natCast]
  norm_num
  ring

/-- One step: the bit is kept if the float of the word with it is at most `a`. -/
def stp (c : BitVec 32) (a : EReal) (b : BitVec 32) : BitVec 32 :=
  Scalar.select (Ideal.cmp .ole (Ideal.ofBits .f32 (IntOp.ori b c)) a) (IntOp.ori b c) b

/-- What holds of the word when the bits from `i` up have been tried. -/
structure Inv (i : ℕ) (a : ℝ) (b : BitVec 32) : Prop where
  mul : b.toNat % 2 ^ i = 0
  fin : b.toNat < 0x7F800000
  lo : (grid b.toNat * (2 : ℝ) ^ (-149 : ℤ) : ℝ) ≤ a
  hi : b.toNat + 2 ^ i < 0x7F800000 → a < (grid (b.toNat + 2 ^ i) * (2 : ℝ) ^ (-149 : ℤ) : ℝ)

theorem ole_iff (x y : EReal) : Ideal.cmp .ole x y = 1 ↔ x ≤ y := by
  unfold Ideal.cmp
  by_cases h : x ≤ y
  · simp [h]
  · simp [h]

theorem Inv.step {i : ℕ} {a : ℝ} {b : BitVec 32} (h : Inv (i + 1) a b) (hi : i < 31) (c : BitVec 32) (hc : c.toNat = 2 ^ i) : Inv i a (stp c a b) := by
  have hor : (IntOp.ori b c).toNat = b.toNat + 2 ^ i := by
    show (b ||| c).toNat = _
    rw [BitVec.toNat_or, hc]
    obtain ⟨q, hq⟩ := Nat.dvd_of_mod_eq_zero h.mul
    rw [hq]
    exact (Nat.two_pow_add_eq_or_of_lt (Nat.pow_lt_pow_right (by norm_num) (Nat.lt_succ_self i)) q).symm
  have h0 := h.mul
  have h1 := h.fin
  have p : 2 ^ (i + 1) = 2 * 2 ^ i := by rw [pow_succ]; ring
  obtain ⟨q, hq⟩ := Nat.dvd_of_mod_eq_zero h.mul
  have mb : b.toNat % 2 ^ i = 0 := by rw [hq, p, mul_assoc, mul_comm 2, mul_assoc]; exact Nat.mul_mod_right _ _
  have mc : (b.toNat + 2 ^ i) % 2 ^ i = 0 := by rw [Nat.add_mod_right]; exact mb
  unfold stp Scalar.select
  by_cases hlt : b.toNat + 2 ^ i < 0x7F800000
  · have hf := float_word (IntOp.ori b c) (by rw [hor]; exact hlt)
    rw [hor] at hf
    rw [hf]
    by_cases hle : (grid (b.toNat + 2 ^ i) * (2 : ℝ) ^ (-149 : ℤ) : ℝ) ≤ a
    · rw [if_pos ((ole_iff _ _).2 (EReal.coe_le_coe_iff.2 hle))]
      refine ⟨by rw [hor]; exact mc, by rw [hor]; exact hlt, by rw [hor]; exact hle, ?_⟩
      rw [hor]
      intro hh
      have := h.hi (by rw [p]; omega)
      rw [p] at this
      rw [show b.toNat + 2 ^ i + 2 ^ i = b.toNat + 2 * 2 ^ i by ring]
      exact this
    · rw [if_neg (fun hh => hle (EReal.coe_le_coe_iff.1 ((ole_iff _ _).1 hh)))]
      exact ⟨mb, h1, h.lo, fun _ => not_le.1 hle⟩
  · -- the candidate is infinity's word
    have hT : b.toNat + 2 ^ i = 0x7F800000 := by
      rcases Nat.lt_or_ge i 23 with h23 | h23
      · have : (2 : ℕ) ^ (i + 1) ∣ 0x7F800000 := (pow_dvd_pow 2 (by omega : i + 1 ≤ 23)).trans ⟨255, by norm_num⟩
        have hd : (2 : ℕ) ^ (i + 1) ∣ 0x7F800000 - b.toNat := Nat.dvd_sub this (Nat.dvd_of_mod_eq_zero h.mul)
        have := Nat.le_of_dvd (by omega) hd
        have := Nat.two_pow_pos i
        omega
      · have d1 : (2 : ℕ) ^ 23 ∣ b.toNat + 2 ^ i := (pow_dvd_pow 2 h23).trans (Nat.dvd_of_mod_eq_zero mc)
        obtain ⟨z, hz⟩ := d1
        have : b.toNat + 2 ^ i < 2 ^ 31 := by
          have d2 : (2 : ℕ) ^ i ∣ 2 ^ 31 - b.toNat := Nat.dvd_sub (pow_dvd_pow 2 (by omega)) (Nat.dvd_of_mod_eq_zero mb)
          have := Nat.le_of_dvd (by omega) d2
          have d3 : (2 : ℕ) ^ (i + 1) ∣ 2 ^ 31 - b.toNat := Nat.dvd_sub (pow_dvd_pow 2 (by omega)) (Nat.dvd_of_mod_eq_zero h.mul)
          have := Nat.le_of_dvd (by omega) d3
          have := Nat.two_pow_pos i
          omega
        omega
    have hw : IntOp.ori b c = 0x7F800000#32 := BitVec.eq_of_toNat_eq (by rw [hor, hT]; rfl)
    rw [hw, float_top, if_neg (fun hh => absurd ((ole_iff _ _).1 hh) (not_le.2 (EReal.coe_lt_top a)))]
    exact ⟨mb, h1, h.lo, fun hh => absurd hh hlt⟩

theorem Inv.start {a : ℝ} (ha : 0 ≤ a) : Inv 31 a 0#32 := by
  refine ⟨by rfl, by decide, ?_, fun h => absurd h (by decide)⟩
  have : grid (0#32 : BitVec 32).toNat = 0 := by rfl
  rw [this]; simpa using ha

/-- The word's exponent field, rounded up past three quarters and at least nine. -/
def top (b : BitVec 32) : ℕ := max ((b.toNat + 2 ^ 21) / 2 ^ 23) 9

theorem Inv.bound {a : ℝ} {b : BitVec 32} (h : Inv 16 a b) (ha : a ≤ (grid 0x7F7F0000 * (2 : ℝ) ^ (-149 : ℤ) : ℝ)) :
    top b ≤ 255 ∧ a ≤ 448 * (2 : ℝ) ^ ((top b : ℤ) - 135) := by
  have h1 := h.fin
  have h0 := h.mul
  have t9 : 9 ≤ top b := le_max_right _ _
  have tle : top b ≤ 255 := by unfold top; omega
  refine ⟨tle, ?_⟩
  have hq : (b.toNat + 2 ^ 21) / 2 ^ 23 ≤ top b := le_max_left _ _
  have key : b.toNat + 2 ^ 16 ≤ top b * 2 ^ 23 + 0x600000 := by omega
  have hg : (grid (top b * 2 ^ 23 + 0x600000) * (2 : ℝ) ^ (-149 : ℤ) : ℝ) = 448 * (2 : ℝ) ^ ((top b : ℤ) - 135) := by
    unfold grid
    have d : (top b * 2 ^ 23 + 0x600000) / 2 ^ 23 = top b := by omega
    have m : (top b * 2 ^ 23 + 0x600000) % 2 ^ 23 = 0x600000 := by omega
    rw [d, m, if_neg (by omega)]
    obtain ⟨k, hk⟩ : ∃ k, top b = k + 1 := ⟨top b - 1, by omega⟩
    rw [hk]
    simp only [Nat.add_sub_cancel]
    push_cast
    have : ((k : ℤ) + 1 - 135) = (k : ℤ) + 15 + (-149) := by ring
    rw [this, zpow_add₀ (by norm_num : (2 : ℝ) ≠ 0), zpow_add₀ (by norm_num : (2 : ℝ) ≠ 0), zpow_natCast]
    norm_num
    ring
  rw [← hg]
  have mono : ∀ p q : ℕ, p ≤ q → (grid p * (2 : ℝ) ^ (-149 : ℤ) : ℝ) ≤ (grid q * (2 : ℝ) ^ (-149 : ℤ) : ℝ) := fun p q hpq =>
    mul_le_mul_of_nonneg_right (by exact_mod_cast grid_mono hpq) (by positivity)
  by_cases hlt : b.toNat + 2 ^ 16 < 0x7F800000
  · exact (h.hi hlt).le.trans (mono _ _ key)
  · exact ha.trans (mono _ _ (by omega))

end Cert.Quant

end
-- ==== Proof.Quant.lean ====
module

public import proofs.«01_k».proof.Proof.Bisect
public import Idealize.ShloMosaic.Lib.Affine
public import Idealize.ShloMosaic.Lib.Affine.Words

/-!
# A value scaled, clipped and scaled back, over the reals

A scale that 448 of it bounds the value by leaves the value as it was. The kernel's scale, found bit by bit from the
row's maximum, is such a scale.
-/

@[expose] public section

noncomputable section

namespace Cert.Quant

open Idealize.ShloMosaic

/-- The positive clip bound. -/
theorem f448 : Ideal.ofBits .f32 0x43E00000#32 = ((448 : ℝ) : EReal) := by
  rw [float_word _ (by decide)]
  congr 1
  unfold grid
  norm_num

/-- The negative clip bound. -/
theorem fm448 : Ideal.ofBits .f32 0xC3E00000#32 = ((-448 : ℝ) : EReal) := by
  show Ideal.ieee 8 23 (0xC3E00000#32 : BitVec 32) = _
  have e1 : ((0xC3E00000#32 : BitVec 32).extractLsb' 23 8).toNat = 135 := by decide
  have e2 : ((0xC3E00000#32 : BitVec 32).extractLsb' 0 23).toNat = 0x600000 := by decide
  have e3 : ((0xC3E00000#32 : BitVec 32).extractLsb' (8 + 23) 1 == 1#1) = true := by decide
  unfold Ideal.ieee
  simp only [e1, e2, e3]
  rw [if_neg (by decide), if_neg (by decide)]
  congr 1
  norm_num

/-- One. -/
theorem f1 : Ideal.ofBits .f32 0x3F800000#32 = ((1 : ℝ) : EReal) := by
  rw [float_pow 127 (by norm_num) (by norm_num) _ (by decide)]; norm_num

/-- The least element, the start of a maximum. -/
theorem bf_bot : Ideal.ofBits .bf16 0xFF80#16 = ⊥ := by
  show (Ideal.ieee 8 7 (0xFF80#16 : BitVec 16) : EReal) = ⊥
  unfold Ideal.ieee
  rw [if_pos (by decide), if_pos (by decide), if_pos (by decide)]

/-- The largest sixteen-bit float, in the same steps. -/
theorem bf_max : Ideal.ofBits .bf16 32639#16 = ((grid 0x7F7F0000 * (2 : ℝ) ^ (-149 : ℤ) : ℝ) : EReal) := by
  show Ideal.ieee 8 7 (32639#16 : BitVec 16) = _
  have e1 : ((32639#16 : BitVec 16).extractLsb' 7 8).toNat = 254 := by decide
  have e2 : ((32639#16 : BitVec 16).extractLsb' 0 7).toNat = 127 := by decide
  have e3 : ((32639#16 : BitVec 16).extractLsb' (8 + 7) 1 == 1#1) = false := by decide
  unfold Ideal.ieee
  simp only [e1, e2, e3]
  rw [if_neg (by decide), if_neg (by decide)]
  congr 1
  unfold grid
  norm_num

/-- A value within 448 scales, scaled down, clipped and scaled back, is itself. -/
theorem deq_id (s : ℝ) (hs : 0 < s) (x : EReal) (hx : max x (-x) ≤ ((448 * s : ℝ) : EReal)) :
    min ((448 : ℝ) : EReal) (max ((-448 : ℝ) : EReal) (x * ((s⁻¹ : ℝ) : EReal))) * (s : EReal) = x := by
  have h1 : x ≤ ((448 * s : ℝ) : EReal) := (le_max_left _ _).trans hx
  have h2 : -x ≤ ((448 * s : ℝ) : EReal) := (le_max_right _ _).trans hx
  induction x with
  | bot => rw [EReal.neg_bot] at h2; exact absurd (top_le_iff.1 h2) (EReal.coe_ne_top _)
  | top => exact absurd (top_le_iff.1 h1) (EReal.coe_ne_top _)
  | coe r =>
    have h1 : r ≤ 448 * s := EReal.coe_le_coe_iff.1 h1
    have h2 : -r ≤ 448 * s := by rw [← EReal.coe_neg] at h2; exact EReal.coe_le_coe_iff.1 h2
    rw [← EReal.coe_mul]
    have a : r * s⁻¹ ≤ 448 := by rw [← div_eq_mul_inv, div_le_iff₀ hs]; exact h1
    have b : -448 ≤ r * s⁻¹ := by rw [← div_eq_mul_inv, le_div_iff₀ hs]; linarith
    rw [max_eq_right (EReal.coe_le_coe_iff.2 b), min_eq_right (EReal.coe_le_coe_iff.2 a), ← EReal.coe_mul]
    congr 1
    field_simp

/-- The bits of the row's maximum, from bit 30 down to bit 24. -/
def bits1 (a : EReal) : BitVec 32 :=
  stp 16777216#32 a (stp 33554432#32 a (stp 67108864#32 a (stp 134217728#32 a (stp 268435456#32 a (stp 536870912#32 a (stp 1073741824#32 a 0#32))))))

/-- The bits from bit 23 down to bit 16. -/
def bits2 (a : EReal) (b : BitVec 32) : BitVec 32 :=
  stp 65536#32 a (stp 131072#32 a (stp 262144#32 a (stp 524288#32 a (stp 1048576#32 a (stp 2097152#32 a (stp 4194304#32 a (stp 8388608#32 a b)))))))

/-- The exponent of the scale. -/
def topw (b : BitVec 32) : BitVec 32 := IntOp.maxsi (IntOp.shrsi .vector (IntOp.addi b 2097152#32) 23#32) 9#32

/-- The word of the scale. -/
def scaleW (t : BitVec 32) : BitVec 32 := IntOp.shli .vector (IntOp.subi t 8#32) 23#32

/-- The word of the scale's inverse. -/
def invW (t : BitVec 32) : BitVec 32 := IntOp.shli .vector (IntOp.subi 262#32 t) 23#32

/-- The invariant of all fifteen bits. -/
theorem inv_bits (a : ℝ) (ha : 0 ≤ a) : Inv 16 a (bits2 (a : EReal) (bits1 (a : EReal))) := by
  unfold bits1 bits2
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  refine Inv.step ?_ (by norm_num) _ (by decide)
  exact Inv.start ha

/-- The exponent's word is its number. -/
theorem topw_toNat (b : BitVec 32) (hb : b.toNat < 0x7F800000) : (topw b).toNat = top b := by
  have h1 : (IntOp.addi b 2097152#32).toNat = b.toNat + 2 ^ 21 := by
    show (b + 2097152#32).toNat = _
    rw [BitVec.toNat_add]; exact Nat.mod_eq_of_lt (by show b.toNat + 2097152 < _; omega)
  have h2 : (IntOp.shrsi .vector (IntOp.addi b 2097152#32) 23#32).toNat = (b.toNat + 2 ^ 21) / 2 ^ 23 := by
    show (if (23#32 : BitVec 32).toNat < 32 then (IntOp.addi b 2097152#32).sshiftRight' 23#32 else _).toNat = _
    rw [if_pos (by decide)]
    rw [BitVec.sshiftRight_eq', BitVec.sshiftRight_eq_of_msb_false (BitVec.msb_eq_false_iff_two_mul_lt.2 (by rw [h1]; omega)), BitVec.toNat_ushiftRight, h1, Nat.shiftRight_eq_div_pow]
    rfl
  unfold topw IntOp.maxsi top
  generalize IntOp.shrsi .vector (IntOp.addi b 2097152#32) 23#32 = q at h2
  rw [← h2]
  have hq : q.toNat < 2 ^ 31 := by rw [h2]; omega
  have e : q.toInt = q.toNat := BitVec.toInt_eq_toNat_of_lt (by omega)
  have e9 : (9#32 : BitVec 32).toInt = 9 := by decide
  have n9 : (9#32 : BitVec 32).toNat = 9 := by decide
  by_cases hc : 9 < q.toNat
  · rw [if_pos (by rw [BitVec.slt_iff_toInt_lt, e, e9]; omega), max_eq_left (by omega)]
  · rw [if_neg (by rw [BitVec.slt_iff_toInt_lt, e, e9]; omega), max_eq_right (by omega)]
    exact n9

theorem shl23 (x : BitVec 32) (h : x.toNat < 512) : (IntOp.shli .vector x 23#32).toNat = x.toNat * 2 ^ 23 := by
  show (if (23#32 : BitVec 32).toNat < 32 then x <<< (23#32 : BitVec 32) else _).toNat = _
  rw [if_pos (by decide), BitVec.shiftLeft_eq', BitVec.toNat_shiftLeft, Nat.shiftLeft_eq]
  exact Nat.mod_eq_of_lt (by show x.toNat * 2 ^ 23 < 2 ^ 32; omega)

/-- The scale and its inverse are powers of two. -/
theorem scale_val (t : BitVec 32) (h9 : 9 ≤ t.toNat) (h : t.toNat ≤ 255) :
    Ideal.ofBits .f32 (scaleW t) = (((2 : ℝ) ^ ((t.toNat : ℤ) - 135) : ℝ) : EReal)
    ∧ Ideal.ofBits .f32 (invW t) = ((((2 : ℝ) ^ ((t.toNat : ℤ) - 135))⁻¹ : ℝ) : EReal) := by
  have h1 : (IntOp.subi t 8#32).toNat = t.toNat - 8 := by
    show (t - 8#32).toNat = _
    rw [BitVec.toNat_sub]; show (2 ^ 32 - 8 + t.toNat) % 2 ^ 32 = _; omega
  have h2 : (IntOp.subi 262#32 t).toNat = 262 - t.toNat := by
    show (262#32 - t).toNat = _
    rw [BitVec.toNat_sub]; show (2 ^ 32 - t.toNat + 262) % 2 ^ 32 = _; omega
  constructor
  · rw [float_pow (t.toNat - 8) (by omega) (by omega) _ (by rw [scaleW, shl23 _ (by omega), h1])]
    congr 2; omega
  · rw [float_pow (262 - t.toNat) (by omega) (by omega) _ (by rw [invW, shl23 _ (by omega), h2])]
    rw [← zpow_neg]
    congr 2; omega

/-- The kernel's quantised row, read back, is the row. -/
theorem lane (A x : EReal) (hx : max x (-x) ≤ A) (hA : A ≤ Ideal.ofBits .bf16 32639#16) :
    min (Ideal.ofBits .f32 0x43E00000#32) (max (Ideal.ofBits .f32 0xC3E00000#32)
        (x * Ideal.ofBits .f32 (invW (topw (bits2 A (bits1 A))))))
      * Ideal.ofBits .f32 (scaleW (topw (bits2 A (bits1 A)))) = x := by
  have h0 : (0 : EReal) ≤ A := by
    refine le_trans ?_ hx
    rcases le_total 0 x with h | h
    · exact le_max_of_le_left h
    · exact le_max_of_le_right (by rw [EReal.le_neg]; simpa using h)
  rw [bf_max] at hA
  induction A with
  | bot => exact absurd h0 (by simp)
  | top => exact absurd (top_le_iff.1 hA) (EReal.coe_ne_top _)
  | coe a =>
    have i := inv_bits a (EReal.coe_nonneg.1 h0)
    obtain ⟨t5, b⟩ := i.bound (EReal.coe_le_coe_iff.1 hA)
    have tn := topw_toNat _ i.fin
    have t9 : 9 ≤ top (bits2 (a : EReal) (bits1 (a : EReal))) := le_max_right _ _
    obtain ⟨s1, s2⟩ := scale_val _ (by rw [tn]; exact t9) (by rw [tn]; exact t5)
    rw [s1, s2, f448, fm448, tn]
    exact deq_id _ (by positivity) x (hx.trans (EReal.coe_le_coe_iff.2 b))

end Cert.Quant
-- ==== Proof.KI.Slab.lean ====
module

public import proofs.«01_k».proof.Proof.KI.Body
public import proofs.«01_k».proof.Proof.Quant
public import Idealize.ShloMosaic.Lib.Pointwise
public import Idealize.ShloMosaic.Lib.VecWindow
public import Idealize.ShloMosaic.Lib.Writes

/-!
# The slab quantised and read back

Over the reals the slab's scratch holds the tile's own rows: each row of 128 values is scaled, clipped and scaled
back by a scale that bounds it.
-/

@[expose] public section

set_option maxRecDepth 16384

noncomputable section

namespace Cert.KernelIdeal.Gen

open Idealize.ShloMosaic Idealize.ShloMosaic.TcCoe
open Cert.Quant

/-- One bisection step, on the column of rows. -/
def vstp (c : BitVec 32) (A : FVec Ideal S256x1 .f32) (b : IVec S256x1 32) : IVec S256x1 32 :=
  select (cmpf .ole (bitcastToFloat .f32 (ori b (broadcast S256x1 c))) A) (ori b (broadcast S256x1 c)) b

theorem vstp_apply (c : BitVec 32) (A : FVec Ideal S256x1 .f32) (b : IVec S256x1 32) (j : S256x1.Idx) :
    vstp c A b j = stp c (A j) (b j) := rfl

/-- The first seven steps, row by row. -/
theorem pay10_apply (v : Vec Ideal S256x128 .bf16) (j : S256x1.Idx) : k0_pay10 v j = bits1 (k0_pay9 v j) := by
  have e : k0_pay10 v = vstp 16777216#32 (k0_pay9 v) (vstp 33554432#32 (k0_pay9 v) (vstp 67108864#32 (k0_pay9 v) (vstp 134217728#32 (k0_pay9 v) (vstp 268435456#32 (k0_pay9 v) (vstp 536870912#32 (k0_pay9 v) (vstp 1073741824#32 (k0_pay9 v) (broadcast S256x1 0#32))))))) := rfl
  rw [e]; simp only [vstp_apply]; rfl

/-- All fifteen steps and the exponent, row by row. -/
theorem pay13_apply (v : Vec Ideal S256x128 .bf16) (j : S256x1.Idx) :
    k0_pay13 (k0_pay9 v) (k0_pay10 v) (k0_pay11 v) (k0_pay12 v) j = topw (bits2 (k0_pay9 v j) (bits1 (k0_pay9 v j))) := by
  have e : k0_pay13 (k0_pay9 v) (k0_pay10 v) (k0_pay11 v) (k0_pay12 v)
      = maxsi (shrsi (addi (vstp 65536#32 (k0_pay9 v) (vstp 131072#32 (k0_pay9 v) (vstp 262144#32 (k0_pay9 v) (vstp 524288#32 (k0_pay9 v) (vstp 1048576#32 (k0_pay9 v) (vstp 2097152#32 (k0_pay9 v) (vstp 4194304#32 (k0_pay9 v) (vstp 8388608#32 (k0_pay9 v) (k0_pay10 v))))))))) (broadcast S256x1 2097152#32)) (broadcast S256x1 23#32)) (broadcast S256x1 9#32) := rfl
  rw [e]
  show topw (vstp 65536#32 (k0_pay9 v) _ j) = _
  simp only [vstp_apply, pay10_apply]; rfl

/-- The row's maximum bounds the row's entries. -/
theorem pay9_ge (v : Vec Ideal S256x128 .bf16) (r : Fin 256) (l : Fin 128) :
    max (v (ix2 r l)) (-(v (ix2 r l))) ≤ k0_pay9 v (ix2 r 0) := by
  pointwise [k0_pay9]
  exact Finset.le_fold_max _ |>.2 (.inr ⟨l, Finset.mem_univ _, le_rfl⟩)

theorem pay9_le (v : Vec Ideal S256x128 .bf16) (r : Fin 256) (M : EReal) (h : ∀ l, max (v (ix2 r l)) (-(v (ix2 r l))) ≤ M) :
    k0_pay9 v (ix2 r 0) ≤ M := by
  pointwise [k0_pay9]
  exact Finset.fold_max_le _ |>.2 ⟨by rw [bf_bot]; exact bot_le, fun l _ => h l⟩

/-- What the loop stores is what it loaded. -/
theorem pay4_eq (v : Vec Ideal S256x128 .bf16) (h : ∀ j, max (v j) (-(v j)) ≤ Ideal.ofBits .bf16 32639#16) :
    k0_pay4 v (k0_pay13 (k0_pay9 v) (k0_pay10 v) (k0_pay11 v) (k0_pay12 v)) (k0_pay14 (k0_pay9 v) (k0_pay10 v) (k0_pay11 v) (k0_pay12 v)) = v := by
  funext j
  idx_vars j
  have := lane (k0_pay9 v (ix2 j0 0)) (v (ix2 j0 j1)) (pay9_ge v j0 j1) (pay9_le v j0 _ (fun l => h _))
  rw [← pay13_apply v (ix2 j0 0)] at this
  unfold k0_pay14
  generalize k0_pay13 (k0_pay9 v) (k0_pay10 v) (k0_pay11 v) (k0_pay12 v) = t at *
  pointwise [k0_pay4]
  exact this

variable (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole)

/-- The stores of the trips before `k` hold the tile's rows, and cover the columns before `128 k`. -/
theorem slab_pieces (X2 : BufTy.Contents (Elt Ideal) arg2.view.ty)
    (h : ∀ j : S256x5120.Idx, max (arg2.view.read (Elt Ideal) X2 j : EReal) (-(arg2.view.read (Elt Ideal) X2 j : EReal)) ≤ Ideal.ofBits .bf16 32639#16) (k : ℕ) (hk : k ≤ k0_t2_loop.trips) :
    (∀ p ∈ pb_k0_t2 (F := Ideal) Variants.none c none i arg1 harg1 arg2 harg2 arg3 harg3 arg4 harg4 arg5 harg5 arg6 harg6 arg7 harg7 X2 k,
      ∀ x : p.1.shape.Idx, p.2 x = arg2.view.read (Elt Ideal) X2 (p.1.emb x))
    ∧ ∀ y : S256x5120.Idx, (y 1).val < 128 * k → ∃ p ∈ pb_k0_t2 (F := Ideal) Variants.none c none i arg1 harg1 arg2 harg2 arg3 harg3 arg4 harg4 arg5 harg5 arg6 harg6 arg7 harg7 X2 k, y ∈ p.1.set := by
  induction k with
  | zero => exact ⟨fun p hp => absurd hp List.not_mem_nil, fun y hy => absurd hy (by omega)⟩
  | succ k ih =>
    obtain ⟨ih1, ih2⟩ := ih (by omega)
    rw [pb_k0_t2_succ Variants.none c none i arg1 harg1 arg2 harg2 arg3 harg3 arg4 harg4 arg5 harg5 arg6 harg6 arg7 harg7 X2 ⟨k, hk⟩]
    unfold tripL_k0_t2 trip_k0_t2
    constructor
    · intro p hp
      rcases List.mem_append.1 hp with hp | hp
      · rw [List.mem_singleton] at hp
        subst hp
        intro x
        dsimp only
        exact congrFun (pay4_eq (View.readAt (Elt Ideal) arg2.view (Rect.unit (s := S256x5120) (k0_off19 ⟨k, hk⟩) S256x128.size (k0_off19_inb ⟨k, hk⟩)).toLoadRect X2) (fun j => h _)) x
      · exact ih1 p hp
    · intro y hy
      by_cases hy' : (y 1).val < 128 * k
      · obtain ⟨p, hp, hm⟩ := ih2 y hy'
        exact ⟨p, List.mem_append_right _ hp, hm⟩
      · refine ⟨_, List.mem_append_left _ (List.mem_singleton.2 rfl), ?_⟩
        show y ∈ (Rect.unit (s := S256x5120) (k0_off19 ⟨k, hk⟩) S256x128.size (k0_off19_inb ⟨k, hk⟩)).set
        rw [Rect.mem_set_unit, k0_off19_eq]
        intro a
        have h0 : (y 0).val < 256 := (y 0).isLt
        fin_cases a
        · exact ⟨Nat.zero_le _, by show (y 0).val < 0 + 256; omega⟩
        · exact ⟨by show 128 * k ≤ (y 1).val; omega, by show (y 1).val < 128 * k + 128; omega⟩

/-- After the loop the slab's scratch reads as the tile. -/
theorem slab_read (X2 : BufTy.Contents (Elt Ideal) arg2.view.ty) (X7 : BufTy.Contents (Elt Ideal) arg7.view.ty)
    (h : ∀ j : S256x5120.Idx, max (arg2.view.read (Elt Ideal) X2 j : EReal) (-(arg2.view.read (Elt Ideal) X2 j : EReal)) ≤ Ideal.ofBits .bf16 32639#16) :
    arg7.view.read (Elt Ideal) (slab c i arg1 harg1 arg2 harg2 arg3 harg3 arg4 harg4 arg5 harg5 arg6 harg6 arg7 harg7 X2 X7) = arg2.view.read (Elt Ideal) X2 := by
  obtain ⟨h1, h2⟩ := slab_pieces c i arg1 harg1 arg2 harg2 arg3 harg3 arg4 harg4 arg5 harg5 arg6 harg6 arg7 harg7 X2 h _ le_rfl
  funext y
  refine View.read_writes_apply_of_pieces arg7.view X7 _ _ h1 y (h2 y ?_)
  have : k0_t2_loop.trips = 40 := by decide
  have hy : (y 1).val < 5120 := (y 1).isLt
  rw [this]; omega

end Cert.KernelIdeal.Gen
-- ==== Proof.KI.Weights.lean ====
module

public import proofs.«01_k».proof.Proof.KI.Body
public import Idealize.ShloMosaic.Lib.Pointwise
public import Idealize.ShloMosaic.Lib.VecWindow
public import Idealize.ShloMosaic.Lib.Writes

/-!
# The weights dequantised

Over the reals the weights' scratch holds the expert's weights, each 128 by 128 block multiplied by its scale.
-/

@[expose] public section

set_option maxRecDepth 16384

noncomputable section

namespace Cert.KernelIdeal.Gen

open Idealize.ShloMosaic Idealize.ShloMosaic.TcCoe

/-- The weights of one expert, each multiplied by its block's scale. -/
def deqW (W : S1x5120x768.Idx → EReal) (S : S1x40x6.Idx → EReal) (y : S5120x768.Idx) : EReal :=
  W (ix3 0 (y 0 : Fin 5120) (y 1 : Fin 768))
    * S (ix3 0 (⟨(y 0).val / 128, by have : (y 0).val < 5120 := (y 0).isLt; omega⟩ : Fin 40)
        (⟨(y 1).val / 128, by have : (y 1).val < 768 := (y 1).isLt; omega⟩ : Fin 6))

/-- The block the stores of column `b` of trip `k` hold. -/
theorem block_eq (W : S1x5120x768.Idx → EReal) (S : S1x40x6.Idx → EReal) {k b : ℕ} (hk : k < 40) (hb : b < 6)
    {o1 : Fin 3 → ℕ} {o2 : Fin 3 → ℕ} {o3 : Fin 2 → ℕ} (inb1 : ∀ a, o1 a + S1x1x1.size a ≤ S1x40x6.size a)
    (inb2 : ∀ a, o2 a + S1x128x128.size a ≤ S1x5120x768.size a) (inb3 : ∀ a, o3 a + S128x128.size a ≤ S5120x768.size a)
    (h1 : o1 = ![0, k, b]) (h2 : o2 = ![0, 128 * k, 128 * b]) (h3 : o3 = ![128 * k, 128 * b]) (x0 x1 : Fin 128)
    (z : S1x1x1.Idx) :
    W ((Rect.unit (s := S1x5120x768) o2 S1x128x128.size inb2).emb (ix3 0 x0 x1))
        * S ((Rect.unit (s := S1x40x6) o1 S1x1x1.size inb1).emb z)
      = deqW W S ((Rect.unit (s := S5120x768) o3 S128x128.size inb3).emb (ix2 x0 x1)) := by
  subst h1 h2 h3
  unfold deqW
  have z0 : (z 0).val = 0 := by have : (z 0).val < 1 := (z 0).isLt; omega
  have z1 : (z 1).val = 0 := by have : (z 1).val < 1 := (z 1).isLt; omega
  have z2 : (z 2).val = 0 := by have : (z 2).val < 1 := (z 2).isLt; omega
  have l0 := x0.isLt
  have l1 := x1.isLt
  congr 1
  · congr 1
    funext a
    apply Fin.ext
    fin_cases a
    · rfl
    · rfl
    · rfl
  · congr 1
    funext a
    apply Fin.ext
    fin_cases a
    · show 0 + 1 * (z 0).val = 0; omega
    · show k + 1 * (z 1).val = (128 * k + 1 * x0.val) / 128; omega
    · show b + 1 * (z 2).val = (128 * b + 1 * x1.val) / 128; omega

theorem pay1_apply (s : Elt Ideal .f32) (v : Vec Ideal S1x128x128 .fp8e4m3) (a b : Fin 128) :
    k0_pay1 s v (ix2 a b) = (v (ix3 0 a b) * s : EReal) := by
  pointwise [k0_pay1]

theorem pay2_apply (s : Elt Ideal .f32) (v : Vec Ideal S1x128x128 .fp8e4m3) (a b : Fin 128) :
    k0_pay2 s v (ix2 a b) = (v (ix3 0 a b) * s : EReal) := by
  pointwise [k0_pay2]

theorem pay3_apply (s : Elt Ideal .f32) (v : Vec Ideal S1x128x128 .fp8e4m3) (a b : Fin 128) :
    k0_pay3 s v (ix2 a b) = (v (ix3 0 a b) * s : EReal) := by
  pointwise [k0_pay3]

theorem pay6_apply (s : Elt Ideal .f32) (v : Vec Ideal S1x128x128 .fp8e4m3) (a b : Fin 128) :
    k0_pay6 s v (ix2 a b) = (v (ix3 0 a b) * s : EReal) := by
  pointwise [k0_pay6]

theorem pay7_apply (s : Elt Ideal .f32) (v : Vec Ideal S1x128x128 .fp8e4m3) (a b : Fin 128) :
    k0_pay7 s v (ix2 a b) = (v (ix3 0 a b) * s : EReal) := by
  pointwise [k0_pay7]

theorem pay8_apply (s : Elt Ideal .f32) (v : Vec Ideal S1x128x128 .fp8e4m3) (a b : Fin 128) :
    k0_pay8 s v (ix2 a b) = (v (ix3 0 a b) * s : EReal) := by
  pointwise [k0_pay8]

variable (c : Dev nD) (i : grid0.Coords) (arg1 : Memref sig .tc .smem S4 .i32) (harg1 : arg1.IsWhole) (arg2 : Memref sig .tc .vmem S256x5120 .bf16) (harg2 : arg2.IsWhole) (arg3 : Memref sig .tc .vmem S1x5120x768 .fp8e4m3) (harg3 : arg3.IsWhole) (arg4 : Memref sig .tc .smem S1x40x6 .f32) (harg4 : arg4.IsWhole) (arg5 : Memref sig .tc .vmem S256x768 .bf16) (harg5 : arg5.IsWhole) (arg6 : Memref sig .tc .vmem S5120x768 .bf16) (harg6 : arg6.IsWhole) (arg7 : Memref sig .tc .vmem S256x5120 .bf16) (harg7 : arg7.IsWhole)

/-- The stores of the trips before `k` hold the dequantised weights, and cover the rows before `128 k`. -/
theorem weights_pieces (X3 : BufTy.Contents (Elt Ideal) arg3.view.ty) (X4 : BufTy.Contents (Elt Ideal) arg4.view.ty)
    (k : ℕ) (hk : k ≤ k0_t1_loop.trips) :
    (∀ p ∈ pb_k0_t1 (F := Ideal) Variants.none c none i arg1 harg1 arg2 harg2 arg3 harg3 arg4 harg4 arg5 harg5 arg6 harg6 arg7 harg7 X3 X4 k,
      ∀ x : p.1.shape.Idx, p.2 x = deqW (arg3.view.read (Elt Ideal) X3) (arg4.view.read (Elt Ideal) X4) (p.1.emb x))
    ∧ ∀ y : S5120x768.Idx, (y 0).val < 128 * k → ∃ p ∈ pb_k0_t1 (F := Ideal) Variants.none c none i arg1 harg1 arg2 harg2 arg3 harg3 arg4 harg4 arg5 harg5 arg6 harg6 arg7 harg7 X3 X4 k, y ∈ p.1.set := by
  induction k with
  | zero => exact ⟨fun p hp => absurd hp List.not_mem_nil, fun y hy => absurd hy (by omega)⟩
  | succ k ih =>
    obtain ⟨ih1, ih2⟩ := ih (by omega)
    have k40 : k < 40 := by have : k0_t1_loop.trips = 40 := by decide
                            omega
    rw [pb_k0_t1_succ Variants.none c none i arg1 harg1 arg2 harg2 arg3 harg3 arg4 harg4 arg5 harg5 arg6 harg6 arg7 harg7 X3 X4 ⟨k, hk⟩]
    unfold tripL_k0_t1 trip_k0_t1
    constructor
    · intro p hp
      rcases List.mem_append.1 hp with hp | hp
      · simp only [List.mem_cons, List.not_mem_nil, or_false] at hp
        rcases hp with rfl | rfl | rfl | rfl | rfl | rfl
        · intro x
          obtain ⟨x0, x1, rfl⟩ : ∃ (x0 : Fin 128) (x1 : Fin 128), x = ix2 x0 x1 := ⟨x 0, x 1, eq_ix2 x⟩
          refine (pay3_apply _ _ x0 x1).trans ?_
          exact block_eq (arg3.view.read (Elt Ideal) X3) (arg4.view.read (Elt Ideal) X4) k40 (show 5 < 6 by norm_num) (k0_off16_inb ⟨k, hk⟩) (k0_off17_inb ⟨k, hk⟩) (k0_off18_inb ⟨k, hk⟩) (k0_off16_eq ⟨k, hk⟩) (k0_off17_eq ⟨k, hk⟩) (k0_off18_eq ⟨k, hk⟩) x0 x1 _
        · intro x
          obtain ⟨x0, x1, rfl⟩ : ∃ (x0 : Fin 128) (x1 : Fin 128), x = ix2 x0 x1 := ⟨x 0, x 1, eq_ix2 x⟩
          refine (pay2_apply _ _ x0 x1).trans ?_
          exact block_eq (arg3.view.read (Elt Ideal) X3) (arg4.view.read (Elt Ideal) X4) k40 (show 4 < 6 by norm_num) (k0_off13_inb ⟨k, hk⟩) (k0_off14_inb ⟨k, hk⟩) (k0_off15_inb ⟨k, hk⟩) (k0_off13_eq ⟨k, hk⟩) (k0_off14_eq ⟨k, hk⟩) (k0_off15_eq ⟨k, hk⟩) x0 x1 _
        · intro x
          obtain ⟨x0, x1, rfl⟩ : ∃ (x0 : Fin 128) (x1 : Fin 128), x = ix2 x0 x1 := ⟨x 0, x 1, eq_ix2 x⟩
          refine (pay1_apply _ _ x0 x1).trans ?_
          exact block_eq (arg3.view.read (Elt Ideal) X3) (arg4.view.read (Elt Ideal) X4) k40 (show 3 < 6 by norm_num) (k0_off10_inb ⟨k, hk⟩) (k0_off11_inb ⟨k, hk⟩) (k0_off12_inb ⟨k, hk⟩) (k0_off10_eq ⟨k, hk⟩) (k0_off11_eq ⟨k, hk⟩) (k0_off12_eq ⟨k, hk⟩) x0 x1 _
        · intro x
          obtain ⟨x0, x1, rfl⟩ : ∃ (x0 : Fin 128) (x1 : Fin 128), x = ix2 x0 x1 := ⟨x 0, x 1, eq_ix2 x⟩
          refine (pay8_apply _ _ x0 x1).trans ?_
          exact block_eq (arg3.view.read (Elt Ideal) X3) (arg4.view.read (Elt Ideal) X4) k40 (show 2 < 6 by norm_num) (k0_off7_inb ⟨k, hk⟩) (k0_off8_inb ⟨k, hk⟩) (k0_off9_inb ⟨k, hk⟩) (k0_off7_eq ⟨k, hk⟩) (k0_off8_eq ⟨k, hk⟩) (k0_off9_eq ⟨k, hk⟩) x0 x1 _
        · intro x
          obtain ⟨x0, x1, rfl⟩ : ∃ (x0 : Fin 128) (x1 : Fin 128), x = ix2 x0 x1 := ⟨x 0, x 1, eq_ix2 x⟩
          refine (pay7_apply _ _ x0 x1).trans ?_
          exact block_eq (arg3.view.read (Elt Ideal) X3) (arg4.view.read (Elt Ideal) X4) k40 (show 1 < 6 by norm_num) (k0_off4_inb ⟨k, hk⟩) (k0_off5_inb ⟨k, hk⟩) (k0_off6_inb ⟨k, hk⟩) (k0_off4_eq ⟨k, hk⟩) (k0_off5_eq ⟨k, hk⟩) (k0_off6_eq ⟨k, hk⟩) x0 x1 _
        · intro x
          obtain ⟨x0, x1, rfl⟩ : ∃ (x0 : Fin 128) (x1 : Fin 128), x = ix2 x0 x1 := ⟨x 0, x 1, eq_ix2 x⟩
          refine (pay6_apply _ _ x0 x1).trans ?_
          exact block_eq (arg3.view.read (Elt Ideal) X3) (arg4.view.read (Elt Ideal) X4) k40 (show 0 < 6 by norm_num) (k0_off1_inb ⟨k, hk⟩) (k0_off2_inb ⟨k, hk⟩) (k0_off3_inb ⟨k, hk⟩) (k0_off1_eq ⟨k, hk⟩) (k0_off2_eq ⟨k, hk⟩) (k0_off3_eq ⟨k, hk⟩) x0 x1 _
      · exact ih1 p hp
    · intro y hy
      by_cases hy' : (y 0).val < 128 * k
      · obtain ⟨p, hp, hm⟩ := ih2 y hy'
        exact ⟨p, List.mem_append_right _ hp, hm⟩
      · have h1 : (y 1).val < 768 := (y 1).isLt
        obtain ⟨b, hb⟩ : ∃ b : Fin 6, b.val = (y 1).val / 128 := ⟨⟨(y 1).val / 128, by omega⟩, rfl⟩
        fin_cases b
        · refine ⟨_, List.mem_append_left _ (List.mem_cons_of_mem _ (List.mem_cons_of_mem _ (List.mem_cons_of_mem _ (List.mem_cons_of_mem _ (List.mem_cons_of_mem _ (List.mem_cons_self)))))), ?_⟩
          replace hb : 0 = (y 1).val / 128 := hb
          show y ∈ (Rect.unit (s := S5120x768) (k0_off3 ⟨k, hk⟩) S128x128.size (k0_off3_inb ⟨k, hk⟩)).set
          rw [Rect.mem_set_unit, k0_off3_eq]
          intro a
          fin_cases a
          · exact ⟨by show 128 * k ≤ (y 0).val; omega, by show (y 0).val < 128 * k + 128; omega⟩
          · exact ⟨by show 0 ≤ (y 1).val; omega, by show (y 1).val < 0 + 128; omega⟩
        · refine ⟨_, List.mem_append_left _ (List.mem_cons_of_mem _ (List.mem_cons_of_mem _ (List.mem_cons_of_mem _ (List.mem_cons_of_mem _ (List.mem_cons_self))))), ?_⟩
          replace hb : 1 = (y 1).val / 128 := hb
          show y ∈ (Rect.unit (s := S5120x768) (k0_off6 ⟨k, hk⟩) S128x128.size (k0_off6_inb ⟨k, hk⟩)).set
          rw [Rect.mem_set_unit, k0_off6_eq]
          intro a
          fin_cases a
          · exact ⟨by show 128 * k ≤ (y 0).val; omega, by show (y 0).val < 128 * k + 128; omega⟩
          · exact ⟨by show 128 ≤ (y 1).val; omega, by show (y 1).val < 128 + 128; omega⟩
        · refine ⟨_, List.mem_append_left _ (List.mem_cons_of_mem _ (List.mem_cons_of_mem _ (List.mem_cons_of_mem _ (List.mem_cons_self)))), ?_⟩
          replace hb : 2 = (y 1).val / 128 := hb
          show y ∈ (Rect.unit (s := S5120x768) (k0_off9 ⟨k, hk⟩) S128x128.size (k0_off9_inb ⟨k, hk⟩)).set
          rw [Rect.mem_set_unit, k0_off9_eq]
          intro a
          fin_cases a
          · exact ⟨by show 128 * k ≤ (y 0).val; omega, by show (y 0).val < 128 * k + 128; omega⟩
          · exact ⟨by show 256 ≤ (y 1).val; omega, by show (y 1).val < 256 + 128; omega⟩
        · refine ⟨_, List.mem_append_left _ (List.mem_cons_of_mem _ (List.mem_cons_of_mem _ (List.mem_cons_self))), ?_⟩
          replace hb : 3 = (y 1).val / 128 := hb
          show y ∈ (Rect.unit (s := S5120x768) (k0_off12 ⟨k, hk⟩) S128x128.size (k0_off12_inb ⟨k, hk⟩)).set
          rw [Rect.mem_set_unit, k0_off12_eq]
          intro a
          fin_cases a
          · exact ⟨by show 128 * k ≤ (y 0).val; omega, by show (y 0).val < 128 * k + 128; omega⟩
          · exact ⟨by show 384 ≤ (y 1).val; omega, by show (y 1).val < 384 + 128; omega⟩
        · refine ⟨_, List.mem_append_left _ (List.mem_cons_of_mem _ (List.mem_cons_self)), ?_⟩
          replace hb : 4 = (y 1).val / 128 := hb
          show y ∈ (Rect.unit (s := S5120x768) (k0_off15 ⟨k, hk⟩) S128x128.size (k0_off15_inb ⟨k, hk⟩)).set
          rw [Rect.mem_set_unit, k0_off15_eq]
          intro a
          fin_cases a
          · exact ⟨by show 128 * k ≤ (y 0).val; omega, by show (y 0).val < 128 * k + 128; omega⟩
          · exact ⟨by show 512 ≤ (y 1).val; omega, by show (y 1).val < 512 + 128; omega⟩
        · refine ⟨_, List.mem_append_left _ (List.mem_cons_self), ?_⟩
          replace hb : 5 = (y 1).val / 128 := hb
          show y ∈ (Rect.unit (s := S5120x768) (k0_off18 ⟨k, hk⟩) S128x128.size (k0_off18_inb ⟨k, hk⟩)).set
          rw [Rect.mem_set_unit, k0_off18_eq]
          intro a
          fin_cases a
          · exact ⟨by show 128 * k ≤ (y 0).val; omega, by show (y 0).val < 128 * k + 128; omega⟩
          · exact ⟨by show 640 ≤ (y 1).val; omega, by show (y 1).val < 640 + 128; omega⟩

/-- After the loop the weights' scratch reads as the dequantised weights. -/
theorem weights_read (X3 : BufTy.Contents (Elt Ideal) arg3.view.ty) (X4 : BufTy.Contents (Elt Ideal) arg4.view.ty)
    (X6 : BufTy.Contents (Elt Ideal) arg6.view.ty) :
    arg6.view.read (Elt Ideal) (weights c i arg1 harg1 arg2 harg2 arg3 harg3 arg4 harg4 arg5 harg5 arg6 harg6 arg7 harg7 X3 X4 X6)
      = deqW (arg3.view.read (Elt Ideal) X3) (arg4.view.read (Elt Ideal) X4) := by
  obtain ⟨h1, h2⟩ := weights_pieces c i arg1 harg1 arg2 harg2 arg3 harg3 arg4 harg4 arg5 harg5 arg6 harg6 arg7 harg7 X3 X4 _ le_rfl
  funext y
  refine View.read_writes_apply_of_pieces arg6.view X6 _ _ h1 y (h2 y ?_)
  have : k0_t1_loop.trips = 40 := by decide
  have hy : (y 0).val < 5120 := (y 0).isLt
  rw [this]; omega

end Cert.KernelIdeal.Gen
-- ==== Proof.Spec.lean ====
module

public import proofs.«01_k».proof.Proof.Words
public import proofs.«01_k».proof.Proof.Sizes
public import Idealize.ShloMosaic.Lib.Pointwise

/-!
# What both programs compute

Row `r` belongs to one expert, the one whose run of rows holds it. Its result is the row times that expert's weights,
each weight multiplied by its 128 by 128 block's scale, over the reals.
-/

@[expose] public section

set_option maxRecDepth 16384

noncomputable section

namespace Cert.Moe

open Idealize.ShloMosaic Cert.Sched

abbrev SX : Shape := ⟨2, ![12288, 5120]⟩
abbrev SW : Shape := ⟨3, ![4, 5120, 768]⟩
abbrev SS : Shape := ⟨3, ![4, 40, 6]⟩
abbrev SO : Shape := ⟨2, ![12288, 768]⟩

/-- An expert's weight times its block's scale. -/
def wAt (w : SW.Idx → EReal) (s : SS.Idx → EReal) (e : Fin 4) (k : Fin 5120) (b : Fin 768) : EReal :=
  w (ix3 e k b) * s (ix3 e (⟨k.val / 128, by have := k.isLt; omega⟩ : Fin 40) (⟨b.val / 128, by have := b.isLt; omega⟩ : Fin 6))

/-- A row times an expert's weights. -/
def prod (x : SX.Idx → EReal) (w : SW.Idx → EReal) (s : SS.Idx → EReal) (e : Fin 4) (r : Fin 12288) (b : Fin 768) : EReal :=
  ∑ k : Fin 5120, x (ix2 r k) * wAt w s e k b

/-- The expert of a row. -/
def expertOf (T : S4.Idx → BitVec 32) (r : ℕ) : Fin 4 :=
  if r < cnt T 0 then 0 else if r < cnt T 0 + cnt T 1 then 1 else if r < cnt T 0 + cnt T 1 + cnt T 2 then 2 else 3

/-- The result. -/
def out (x : SX.Idx → EReal) (T : S4.Idx → BitVec 32) (w : SW.Idx → EReal) (s : SS.Idx → EReal) (j : SO.Idx) : EReal :=
  prod x w s (expertOf T (j 0 : Fin 12288).val) (j 0 : Fin 12288) (j 1 : Fin 768)

/-- The schedule's numbers off the sizes. -/
def numT (T : S4.Idx → BitVec 32) (i : ℕ) : NSt := nsched i (cnt T 0) (cnt T 1) (cnt T 2) (cnt T 3)

/-- The schedule's expert of an item. -/
def itemExpert (T : S4.Idx → BitVec 32) (i : ℕ) : Fin 4 := ⟨(numT T i).expert, (nsched_own i _ _ _ _).expert⟩

/-- A row an item's range holds belongs to the item's expert. -/
theorem itemExpert_eq (T : S4.Idx → BitVec 32) (i r : ℕ) (h1 : (numT T i).lo ≤ r) (h2 : r < (numT T i).hi) :
    itemExpert T i = expertOf T r := by
  have ho := nsched_own i (cnt T 0) (cnt T 1) (cnt T 2) (cnt T 3)
  change Own _ (numT T i) at ho
  obtain ⟨he, hr⟩ := ho
  apply Fin.ext
  show (numT T i).expert = _
  rcases hr with hr | ⟨ha, hb⟩
  · omega
  · generalize (numT T i).lo = lo at *
    generalize (numT T i).hi = hi at *
    generalize (numT T i).expert = e at *
    subst ha hb
    unfold expertOf
    interval_cases e <;> simp only [off] at h1 h2 <;> split_ifs <;> first | rfl | (exfalso; omega)

end Cert.Moe
-- ==== Proof.KI.Merge.lean ====
module

public import proofs.«01_k».proof.Proof.KI.Slab
public import proofs.«01_k».proof.Proof.KI.Weights
public import proofs.«01_k».proof.Proof.KI.Ok
public import proofs.«01_k».proof.Proof.Spec

/-!
# An item's rows merged

What a live item leaves in the output tile, index by index: the rows of the item's range get the product of the slab
and the weights, the others keep what the tile held. And the body's two conditions in numbers.
-/

@[expose] public section

set_option maxRecDepth 16384

noncomputable section

namespace Cert.KernelIdeal.Gen

open Idealize.ShloMosaic Idealize.ShloMosaic.TcCoe
open Cert.Sched Cert.Moe Idealize.ShloMosaic.Affine

/-- The stored tile at an index. -/
theorem pay5_apply {tile lo hi : BitVec 32} {t l h : ℕ} (ht : IsInt tile (t : ℤ)) (hl : IsInt lo (l : ℤ)) (hh : IsInt hi (h : ℤ)) (ht' : t < 48)
    (lhs : Vec Ideal S256x5120 .bf16) (wb : Vec Ideal S5120x768 .bf16) (o : Vec Ideal S256x768 .bf16) (a : Fin 256) (b : Fin 768) :
    k0_pay5 tile lo hi lhs wb o (ix2 a b)
      = (if l ≤ 256 * t + a.val ∧ 256 * t + a.val < h then ∑ k : Fin 5120, (lhs (ix2 a k) : EReal) * (wb (ix2 k b) : EReal) else (o (ix2 a b) : EReal)) := by
  have hr : IsInt (Scalar.addi (Scalar.muli tile 256#32) (BitVec.ofNat 32 a.val)) ((256 * t + a.val : ℕ) : ℤ) := by
    have := a.isLt
    refine addi (muli ht (lit 256 (by omega)) ⟨rfl, by push_cast; omega, by push_cast; omega⟩) (lit a.val (by omega)) ⟨by push_cast; ring, by push_cast; omega, by push_cast; omega⟩
  have e : k0_pay5 tile lo hi lhs wb o (ix2 a b) = Scalar.select
      (Scalar.andi (Scalar.cmpi .sge (Scalar.addi (Scalar.muli tile 256#32) (BitVec.ofNat 32 a.val)) lo)
        (Scalar.cmpi .slt (Scalar.addi (Scalar.muli tile 256#32) (BitVec.ofNat 32 a.val)) hi))
      (∑ k : Fin 5120, (lhs (ix2 a k) : EReal) * (wb (ix2 k b) : EReal)) (o (ix2 a b) : EReal) := by
    pointwise [k0_pay5]
    rfl
  rw [e]
  split
  · next hc => exact if_pos (andi_holds (sge_holds hr hl (by exact_mod_cast hc.1)) (slt_holds hr hh (by exact_mod_cast hc.2)))
  · next hc =>
    refine if_neg ?_
    by_cases h1 : l ≤ 256 * t + a.val
    · have h2 : ¬ 256 * t + a.val < h := fun h2 => hc ⟨h1, h2⟩
      exact andi_fails_right trivial (slt_fails hr hh (by exact_mod_cast h2))
    · exact andi_fails_left (sge_fails hr hl (by exact_mod_cast h1)) trivial

theorem word0_eq (T : S4.Idx → BitVec 32) : word0 (F := Ideal) (Memref.whole main_arg1) T = T (at4 0) :=
  congrArg T (funext fun a => by obtain rfl : a = (0 : Fin 1) := @Subsingleton.elim (Fin 1) _ _ _; rfl)
theorem word1_eq (T : S4.Idx → BitVec 32) : word1 (F := Ideal) (Memref.whole main_arg1) T = T (at4 1) :=
  congrArg T (funext fun a => by obtain rfl : a = (0 : Fin 1) := @Subsingleton.elim (Fin 1) _ _ _; rfl)
theorem word2_eq (T : S4.Idx → BitVec 32) : word2 (F := Ideal) (Memref.whole main_arg1) T = T (at4 2) :=
  congrArg T (funext fun a => by obtain rfl : a = (0 : Fin 1) := @Subsingleton.elim (Fin 1) _ _ _; rfl)
theorem word3_eq (T : S4.Idx → BitVec 32) : word3 (F := Ideal) (Memref.whole main_arg1) T = T (at4 3) :=
  congrArg T (funext fun a => by obtain rfl : a = (0 : Fin 1) := @Subsingleton.elim (Fin 1) _ _ _; rfl)

/-- The words of any item's schedule are its numbers. -/
theorem rep_item {T : S4.Idx → BitVec 32} (hg : Good T) {w : BitVec 32} {n : ℕ} (hw : IsInt w (n : ℤ)) (hn : n ≤ 1000) :
    Rep (sched w (word0 (F := Ideal) (Memref.whole main_arg1) T) (word1 (F := Ideal) (Memref.whole main_arg1) T)
      (word2 (F := Ideal) (Memref.whole main_arg1) T) (word3 (F := Ideal) (Memref.whole main_arg1) T)) (numT T n) := by
  rw [word0_eq, word1_eq, word2_eq, word3_eq]
  exact sched_rep hw hn (hg.int 0) (hg.int 1) (hg.int 2) (hg.int 3) hg.sum.le

theorem isInt_item (i : grid0.Coords) : IsInt (item i) (((i 0).val : ℕ) : ℤ) :=
  lit _ (by have : (i 0).val < 51 := (i 0).isLt
            omega)

theorem rep_sched {T : S4.Idx → BitVec 32} (hg : Good T) (i : grid0.Coords) :
    Rep (schedT (F := Ideal) i (Memref.whole main_arg1) T) (numT T (i 0).val) :=
  rep_item hg (isInt_item i) (by have : (i 0).val < 51 := (i 0).isLt
                                 omega)

theorem ne_zero_iff (x : BitVec 1) : Scalar.cmpi .ne (Scalar.extui x) 0#32 = 1#1 ↔ x = 1#1 := by
  revert x; decide

/-- An item is live if it is before the items' end. -/
theorem live_iff {T : S4.Idx → BitVec 32} (hg : Good T) (i : grid0.Coords) :
    Live (F := Ideal) i (Memref.whole main_arg1) T ↔ (i 0).val < (numT T (i 0).val).done := by
  unfold Live
  rw [cond2_eq, ne_zero_iff]
  have h1 := isInt_item i
  have h2 := (rep_sched hg i).done
  constructor
  · intro h
    by_contra hc
    exact slt_fails h1 h2 (by exact_mod_cast hc) h
  · intro h; exact slt_holds h1 h2 (by exact_mod_cast h)

/-- An item that is not fresh is after the first, and the one before it has its expert. -/
theorem not_fresh {T : S4.Idx → BitVec 32} (hg : Good T) (i : grid0.Coords) (h : ¬ Fresh (F := Ideal) i (Memref.whole main_arg1) T) :
    0 < (i 0).val ∧ (numT T ((i 0).val - 1)).expert = (numT T (i 0).val).expert := by
  unfold Fresh at h
  rw [ne_zero_iff] at h
  have hi : (i 0).val < 51 := (i 0).isLt
  have h0 : 0 < (i 0).val := by
    by_contra hc
    exact h (ori_holds_left (eq_holds (isInt_item i) (lit 0 (by omega)) (by have : (i 0).val = 0 := by omega
                                                                            rw [this])) trivial)
  refine ⟨h0, ?_⟩
  by_contra hc
  have hw : IsInt (Scalar.maxsi (Scalar.subi (item i) 1#32) 0#32) (((i 0).val - 1 : ℕ) : ℤ) :=
    maxsi (subi (isInt_item i) (lit 1 (by omega)) ⟨rfl, by push_cast; omega, by push_cast; omega⟩) (lit 0 (by omega)) (by push_cast; omega)
  exact h (ori_holds_right trivial (ne_holds (rep_sched hg i).expert (rep_item hg hw (by omega)).expert (fun e => hc (by exact_mod_cast e.symm))))

/-- What a live item leaves in the output tile, at an index. -/
theorem merged_read {T : S4.Idx → BitVec 32} (hg : Good T) (i : grid0.Coords) (arg5 : Memref sig .tc .vmem S256x768 .bf16)
    (X5 : BufTy.Contents (Elt Ideal) arg5.view.ty) (Y6 : Vec Ideal S5120x768 .bf16) (Y7 : Vec Ideal S256x5120 .bf16) (a : Fin 256) (b : Fin 768) :
    arg5.view.read (Elt Ideal) (merged (F := Ideal) i (Memref.whole main_arg1) arg5 (Memref.whole cc0_scratch0) (Memref.whole cc0_scratch1) T X5 Y6 Y7) (ix2 a b)
      = (if (numT T (i 0).val).lo ≤ 256 * (numT T (i 0).val).tile + a.val ∧ 256 * (numT T (i 0).val).tile + a.val < (numT T (i 0).val).hi
          then ∑ k : Fin 5120, (Y7 (ix2 a k) : EReal) * (Y6 (ix2 k b) : EReal) else (arg5.view.read (Elt Ideal) X5 (ix2 a b) : EReal)) := by
  have r := rep_sched hg i
  have ht : (numT T (i 0).val).tile < 48 := (nsched_pair le_rfl hg.sum.le).top
  rw [← pay5_apply r.tile r.lo r.hi ht Y7 Y6 (arg5.view.read (Elt Ideal) X5) a b]
  unfold merged
  rw [View.readAt_full, View.readAt_full, View.readAt_full, View.read_writes_full]
  rfl

end Cert.KernelIdeal.Gen
-- ==== Proof.KI.Blocks.lean ====
module

public import proofs.«01_k».proof.Proof.KI.Merge
public import proofs.«01_k».proof.Proof.KI.Frame
public import Idealize.ShloMosaic.Lib.Pipeline.ValueKit
public import Idealize.ShloMosaic.Lib.Pipeline.Covers

/-!
# The windows' blocks

Where each window's block lies at a grid point, and what an input's block holds.
-/

@[expose] public section

set_option maxRecDepth 16384

noncomputable section

namespace Cert.KernelIdeal.Gen

open Idealize.ShloMosaic Idealize.ShloMosaic.TcCoe
open Cert.Sched Cert.Moe

variable (m : (ℓ : Loc nD τ sig) → Buf (Elt Ideal) ℓ) (h : ok0 (tbl m)) (hg : Good (tbl m 0))

theorem coords_val (t : Fin grid0.N) : (grid0.coords t 0).val = t.val := by
  revert t; decide +kernel

include hg

theorem index0 (t : Fin (CF m h).N) : ((CF m h).win 0).index t = ![(numT (tbl m 0) t.val).tile, 0] := by
  have e := map0 hg (grid0.coords t)
  rw [coords_val] at e; exact e
theorem index1 (t : Fin (CF m h).N) : ((CF m h).win 1).index t = ![(numT (tbl m 0) t.val).expert, 0, 0] := by
  have e := map1 hg (grid0.coords t)
  rw [coords_val] at e; exact e
theorem index2 (t : Fin (CF m h).N) : ((CF m h).win 2).index t = ![(numT (tbl m 0) t.val).expert, 0, 0] := by
  have e := map2 hg (grid0.coords t)
  rw [coords_val] at e; exact e
theorem index3 (t : Fin (CF m h).N) : ((CF m h).win 3).index t = ![(numT (tbl m 0) t.val).tile, 0] := by
  have e := map3 hg (grid0.coords t)
  rw [coords_val] at e; exact e

theorem tileT_lt (t : ℕ) : (numT (tbl m 0) t).tile < 48 := (nsched_pair le_rfl hg.sum.le).top

theorem iblk0 (c : Dev nD) (t : Fin (CF m h).N) (a : Fin 256) (k : Fin 5120) :
    iblk m h c 0 t (ix2 a k) = V m c main_arg0 (ix2 (⟨256 * (numT (tbl m 0) t.val).tile + a.val, by have := tileT_lt m hg t.val; have := a.isLt; omega⟩ : Fin 12288) k) := by
  have e := index0 m h hg t
  have e0 : ((pcfg0 (F := Ideal)).win ⟨tbl m, h⟩ 0).index t (0 : Fin 2) = (numT (tbl m 0) t.val).tile := congrFun e (0 : Fin 2)
  have e1 : ((pcfg0 (F := Ideal)).win ⟨tbl m, h⟩ 0).index t (1 : Fin 2) = 0 := congrFun e (1 : Fin 2)
  blk_ext [iblk]

theorem iblk1 (c : Dev nD) (t : Fin (CF m h).N) (k : Fin 5120) (b : Fin 768) :
    iblk m h c 1 t (ix3 0 k b) = V m c main_arg2 (ix3 (itemExpert (tbl m 0) t.val) k b) := by
  have e := index1 m h hg t
  have e0 : ((pcfg0 (F := Ideal)).win ⟨tbl m, h⟩ 1).index t (0 : Fin 3) = (numT (tbl m 0) t.val).expert := congrFun e (0 : Fin 3)
  have e1 : ((pcfg0 (F := Ideal)).win ⟨tbl m, h⟩ 1).index t (1 : Fin 3) = 0 := congrFun e (1 : Fin 3)
  have e2 : ((pcfg0 (F := Ideal)).win ⟨tbl m, h⟩ 1).index t (2 : Fin 3) = 0 := congrFun e (2 : Fin 3)
  blk_ext [iblk]
  rw [e0]; rfl

theorem iblk2 (c : Dev nD) (t : Fin (CF m h).N) (k : Fin 40) (b : Fin 6) :
    iblk m h c 2 t (ix3 0 k b) = V m c main_arg3 (ix3 (itemExpert (tbl m 0) t.val) k b) := by
  have e := index2 m h hg t
  have e0 : ((pcfg0 (F := Ideal)).win ⟨tbl m, h⟩ 2).index t (0 : Fin 3) = (numT (tbl m 0) t.val).expert := congrFun e (0 : Fin 3)
  have e1 : ((pcfg0 (F := Ideal)).win ⟨tbl m, h⟩ 2).index t (1 : Fin 3) = 0 := congrFun e (1 : Fin 3)
  have e2 : ((pcfg0 (F := Ideal)).win ⟨tbl m, h⟩ 2).index t (2 : Fin 3) = 0 := congrFun e (2 : Fin 3)
  blk_ext [iblk]
  rw [e0]; rfl

end Cert.KernelIdeal.Gen
-- ==== Proof.KI.Value.lean ====
module

public import proofs.«01_k».proof.Proof.KI.Blocks

/-!
# The kernel's result

One item's step keeps the weights' scratch at the item's expert and merges the item's rows into the output tile; an item
writes of a row only the row's own result; and every row is in the range of some item on its tile. So after the run the
result array holds every row's result.
-/

@[expose] public section

set_option maxRecDepth 16384

noncomputable section

namespace Cert.KernelIdeal.Gen

open Idealize.ShloMosaic Idealize.ShloMosaic.TcCoe
open Cert.Sched Cert.Moe
open Idealize.ShloMosaic.Pipeline (RDat Cfg Window)

variable (m : (ℓ : Loc nD τ sig) → Buf (Elt Ideal) ℓ) (h : ok0 (tbl m)) (hg : Good (tbl m 0))

/-- The region's device. -/
abbrev d0 : Dev nD := 0

/-- The four inputs as launched. -/
abbrev inX : SX.Idx → EReal := V m d0 main_arg0
abbrev inT : S4.Idx → BitVec 32 := tbl m 0
abbrev inW : SW.Idx → EReal := V m d0 main_arg2
abbrev inS : SS.Idx → EReal := V m d0 main_arg3

/-- The weights' scratch before item `t`: the weights of the expert of the item before. -/
def WB (t : ℕ) (f : Vec Ideal S5120x768 .bf16) : Prop :=
  0 < t → ∀ (k : Fin 5120) (b : Fin 768), f (ix2 k b) = wAt (inW m) (inS m) (itemExpert (inT m) (t - 1)) k b

/-- Whether item `t` is live and its range holds row `r`. -/
def Has (t r : ℕ) : Prop :=
  t < (numT (inT m) t).done ∧ (numT (inT m) t).lo ≤ r ∧ r < (numT (inT m) t).hi

/-- The row of place `a` of item `t`'s tile. -/
def rowOf (t : ℕ) (a : Fin 256) : Fin 12288 := ⟨256 * (numT (inT m) t).tile + a.val, by have h1 : (numT (inT m) t).tile < 48 := tileT_lt m hg t; have := a.isLt; omega⟩

/-- What an item does of the output tile: its rows get their results, the others stay. -/
def OutRel (t : Fin (CF m h).N) (Y X : Vec Ideal S256x768 .bf16) : Prop :=
  ∀ (a : Fin 256) (b : Fin 768),
    (Has m t.val (rowOf m hg t.val a).val → X (ix2 a b) = out (inX m) (inT m) (inW m) (inS m) (ix2 (rowOf m hg t.val a) b))
    ∧ (¬ Has m t.val (rowOf m hg t.val a).val → X (ix2 a b) = Y (ix2 a b))

set_option maxHeartbeats 2000000 in
/-- One item's step. -/
theorem step (hx : ∀ i, max (inX m i) (-(inX m i)) ≤ Ideal.ofBits .bf16 32639#16) (c : Dev nD) : Step m h (OutRel m h hg) (WB m) c := by
  obtain rfl : c = d0 := Subsingleton.elim _ _
  intro t arg2 harg2 arg3 harg3 arg4 harg4 arg5 harg5 f2 f3 f4 f5 f6 f7 e2 e3 e4 hW
  have hv := coords_val t
  have hwb : ∀ (k : Fin 5120) (b : Fin 768), wb' d0 (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) (tbl m 0) f3 f4 f6 (ix2 k b)
      = wAt (inW m) (inS m) (itemExpert (inT m) t.val) k b := by
    intro k b
    unfold wb'
    split
    · have e := congrFun (weights_read d0 (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) f3 f4 f6) (ix2 k b)
      refine e.trans ?_
      rw [e3, e4]
      unfold deqW wAt
      exact congrArg₂ (· * ·) (iblk1 m h hg d0 t k b) (iblk2 m h hg d0 t _ _)
    · next hf =>
      obtain ⟨h0, h1⟩ := not_fresh hg (grid0.coords t) hf
      rw [hv] at h0 h1
      rw [hW h0 k b]
      exact congrArg (fun e => wAt (inW m) (inS m) e k b) (Fin.ext h1)
  refine ⟨fun _ k b => hwb k b, fun a b => ?_⟩
  generalize wb' d0 (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) (tbl m 0) f3 f4 f6 = Y6 at hwb ⊢
  unfold out'
  by_cases hl : Live (F := Ideal) (grid0.coords t) (Memref.whole main_arg1) (tbl m 0)
  · rw [if_pos hl]
    rw [merged_read hg, hv]
    rw [live_iff hg, hv] at hl
    have hlhs : ∀ (a : Fin 256) (k : Fin 5120), lhs' d0 (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) (tbl m 0) f2 f7 (ix2 a k)
        = inX m (ix2 (rowOf m hg t.val a) k) := by
      intro a k
      unfold lhs'
      rw [if_pos ((live_iff hg _).2 (by rw [hv]; exact hl))]
      have hb : ∀ j : S256x5120.Idx, max (arg2.view.read (Elt Ideal) f2 j : EReal) (-(arg2.view.read (Elt Ideal) f2 j : EReal)) ≤ Ideal.ofBits .bf16 32639#16 := by
        intro j
        obtain ⟨x0, x1, rfl⟩ : ∃ (x0 : Fin 256) (x1 : Fin 5120), j = ix2 x0 x1 := ⟨j 0, j 1, eq_ix2 j⟩
        rw [e2, iblk0 m h hg]; exact hx _
      have e := congrFun (slab_read d0 (grid0.coords t) (Memref.whole main_arg1) (Memref.isWhole_whole _) arg2 harg2 arg3 harg3 arg4 harg4 arg5 harg5
        (Memref.whole cc0_scratch0) (Memref.isWhole_whole _) (Memref.whole cc0_scratch1) (Memref.isWhole_whole _) f2 f7 hb) (ix2 a k)
      refine e.trans ?_
      rw [e2]
      exact iblk0 m h hg d0 t a k
    refine ⟨fun hh => ?_, fun hh => ?_⟩
    · rw [if_pos ⟨hh.2.1, hh.2.2⟩]
      unfold out prod
      rw [show expertOf (inT m) ((ix2 (rowOf m hg t.val a) b : SO.Idx) 0 : Fin 12288).val = itemExpert (inT m) t.val from
        (itemExpert_eq (inT m) t.val _ hh.2.1 hh.2.2).symm]
      refine Finset.sum_congr rfl fun k _ => ?_
      rw [hlhs, hwb]; rfl
    · rw [if_neg fun hc => hh ⟨hl, hc.1, hc.2⟩]
  · rw [if_neg hl]
    rw [live_iff hg, hv] at hl
    exact ⟨fun hh => absurd hh.1 hl, fun _ => rfl⟩

end Cert.KernelIdeal.Gen
-- ==== Proof.KI.Result.lean ====
module

public import proofs.«01_k».proof.Proof.KI.Value
public import Idealize.ShloMosaic.Lib.Pipeline.ArrRel

/-!
# The kernel's result array

The output tile stays in its buffer while the items stay on the tile, and is written back where the tile changes. Every
row is in the range of an item on its tile, so every row's result is in the array at the end.
-/

@[expose] public section

set_option maxRecDepth 16384

noncomputable section

namespace Cert.KernelIdeal.Gen

open Idealize.ShloMosaic Idealize.ShloMosaic.TcCoe
open Cert.Sched Cert.Moe
open Idealize.ShloMosaic.Pipeline (RDat Cfg Window)

variable (m : (ℓ : Loc nD τ sig) → Buf (Elt Ideal) ℓ) (h : ok0 (tbl m)) (hg : Good (tbl m 0))

/-- The proof's data of the run. -/
abbrev rd := rdat m h (OutRel m h hg) (WB m) d0

theorem fetch3 (t : Fin (CF m h).N) : ((CF m h).win 3).fetch t = false := rfl

include hg in
/-- While the tile stays, the output is not written back. -/
theorem flush3 (t : Fin (CF m h).N) (ht : t.val + 1 < (CF m h).N)
    (e : (numT (inT m) (t.val + 1)).tile = (numT (inT m) t.val).tile) : ((CF m h).win 3).flush t = false := by
  have hi : ((CF m h).win 3).index ⟨t.val + 1, ht⟩ = ((CF m h).win 3).index t := by
    rw [index3 m h hg, index3 m h hg]
    exact congrArg (fun x => (![x, 0] : Fin 2 → ℕ)) e
  by_contra hc
  rw [Bool.not_eq_false] at hc
  unfold Window.flush at hc
  rw [Bool.and_eq_true, Bool.or_eq_true, decide_eq_true_eq, decide_eq_true_eq] at hc
  rcases hc.2 with h1 | ⟨h1, h2⟩
  · have h1' : t.val + 1 = (CF m h).N := h1
    omega
  · exact h2 hi

include hg in
theorem tile_mono {i j : ℕ} (hij : i ≤ j) : (numT (inT m) i).tile ≤ (numT (inT m) j).tile := (nsched_pair hij hg.sum.le).le

/-- What an item leaves in the output tile: the results of the rows of every item so far on the tile. -/
theorem leaves_inv (n : ℕ) (hn : n < (CF m h).N) (X : Vec Ideal S256x768 .bf16) (hX : (rd m h hg).Leaves 3 ⟨n, hn⟩ X)
    (a : Fin 256) (b : Fin 768) (s : ℕ) (hs : s ≤ n) (ht : (numT (inT m) s).tile = (numT (inT m) n).tile)
    (hh : Has m s (rowOf m hg n a).val) : X (ix2 a b) = out (inX m) (inT m) (inW m) (inS m) (ix2 (rowOf m hg n a) b) := by
  induction n generalizing X with
  | zero =>
    obtain rfl : s = 0 := by omega
    obtain ⟨Y, hY, hR⟩ := hX
    exact ((show OutRel m h hg ⟨0, hn⟩ Y X from hR) a b).1 hh
  | succ n ih =>
    obtain ⟨Y, hY, hR⟩ := hX
    have hR' := (show OutRel m h hg ⟨n + 1, hn⟩ Y X from hR) a b
    by_cases hc : Has m (n + 1) (rowOf m hg (n + 1) a).val
    · exact hR'.1 hc
    · rw [hR'.2 hc]
      have hsn : s ≤ n := by
        rcases Nat.lt_or_ge n s with h1 | h1
        · obtain rfl : s = n + 1 := by omega
          exact absurd hh hc
        · exact h1
      have e1 := tile_mono m hg hsn
      have e2 := tile_mono m hg (Nat.le_succ n)
      have e3 : (numT (inT m) (n + 1)).tile = (numT (inT m) n).tile := by
        change (numT (inT m) n).tile ≤ (numT (inT m) (n + 1)).tile at e2; omega
      have hrow : rowOf m hg (n + 1) a = rowOf m hg n a := by
        apply Fin.ext; show 256 * _ + _ = 256 * _ + _; rw [e3]
      have hn' : n < (CF m h).N := by omega
      rw [RDat.finds_of_pos _ (fetch3 m h ⟨n + 1, hn⟩) (Nat.succ_ne_zero n)] at hY
      rcases hY with hY | hY
      · exact absurd ((flush3 m h hg ⟨n, hn'⟩ hn e3).symm.trans hY) (by decide)
      · rw [hrow] at hh ⊢
        exact ih hn' Y hY hsn (ht.trans e3) hh

include hg in
/-- What is written back of the output tile: the results of all its rows. -/
theorem flushed_inv (t : Fin (CF m h).N) (hf : ((CF m h).win 3).flush t = true) (X : Vec Ideal S256x768 .bf16) (hX : (rd m h hg).Leaves 3 t X)
    (a : Fin 256) (b : Fin 768) : X (ix2 a b) = out (inX m) (inT m) (inW m) (inS m) (ix2 (rowOf m hg t.val a) b) := by
  have hr : (rowOf m hg t.val a).val / 256 = (numT (inT m) t.val).tile := by
    show (256 * (numT (inT m) t.val).tile + a.val) / 256 = _
    have := a.isLt; omega
  obtain ⟨s, h51, hd, ht, hl, hh⟩ := nsched_cover (a := cnt (inT m) 0) (b := cnt (inT m) 1) (c := cnt (inT m) 2) (d := cnt (inT m) 3) hg.sum (rowOf m hg t.val a).isLt
  have hst : s ≤ t.val := by
    by_contra hc
    have hN : t.val + 1 < (CF m h).N := by
      show t.val + 1 < 51
      omega
    have e1 := tile_mono m hg (Nat.le_succ t.val)
    have e2 := tile_mono m hg (show t.val + 1 ≤ s by omega)
    have e3 : (numT (inT m) s).tile = (numT (inT m) t.val).tile := ht.trans hr
    have e4 : (numT (inT m) (t.val + 1)).tile = (numT (inT m) t.val).tile := by
      change (numT (inT m) t.val).tile ≤ (numT (inT m) (t.val + 1)).tile at e1; omega
    exact absurd ((flush3 m h hg t hN e4).symm.trans hf) (by decide)
  exact leaves_inv m h hg t.val t.isLt X hX a b s hst (ht.trans hr) ⟨hd, hl, hh⟩

include h hg in
/-- The result array after the run. -/
theorem result (ρ : Dev nD → PrngReg) (hx : ∀ i, max (inX m i) (-(inX m i)) ≤ Ideal.ofBits .bf16 32639#16) :
    θ_run defs (onTc (τ := τ) (main (F := Ideal))) ⟨m, fun _ => 0, ρ⟩ (fun r => ∀ c : Dev nD,
      r.2.mem ((c.tc : Thread nD τ).loc main_v0) = out (inX m) (inT m) (inW m) (inS m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ h (OutRel m h hg) (WB m) (step m h hg hx) (fun f h0 => absurd h0 (lt_irrefl 0)))
  refine ⟨?_, hr.1.arr_in c 0 rfl, (hr.1 c).2 main_arg1 (Pipeline.mem_restRefs_of main_arg1 rfl (show ∀ w : Fin 4, (spec0 w).arr.view.ref ≠ main_arg1 by decide)),
      hr.1.arr_in c 1 rfl, hr.1.arr_in c 2 rfl⟩
  obtain rfl : c = d0 := Subsingleton.elim _ _
  obtain ⟨after, hL, hA⟩ := hr.1.exists_exact d0
  refine (hA 3).trans (Pipeline.Dat.arrAt_eq_of_emb _ 3 _ (fun t hf y => ?_) (fun i => ?_))
  · have e := index3 m h hg t
    have e0 : ((pcfg0 (F := Ideal)).win ⟨tbl m, h⟩ 3).index t (0 : Fin 2) = (numT (tbl m 0) t.val).tile := congrFun e (0 : Fin 2)
    have e1 : ((pcfg0 (F := Ideal)).win ⟨tbl m, h⟩ 3).index t (1 : Fin 2) = 0 := congrFun e (1 : Fin 2)
    have hl := flushed_inv m h hg t hf _ (hL 3 t hf)
    change S256x768.Idx at y
    obtain ⟨a, b, rfl⟩ : ∃ (a : Fin 256) (b : Fin 768), y = ix2 a b := ⟨y 0, y 1, eq_ix2 y⟩
    refine (hl a b).trans ?_
    refine congrArg (out (inX m) (inT m) (inW m) (inS m)) ?_
    blk_ext []
    · refine Eq.trans ?_ (congrArg (· * 256 + a.val) e0.symm)
      show 256 * (numT (inT m) t.val).tile + a.val = (numT (inT m) t.val).tile * 256 + a.val
      omega
    · refine Eq.trans ?_ (congrArg (· * 768 + b.val) e1.symm)
      show b.val = 0 * 768 + b.val
      omega
  · change SO.Idx at i
    obtain ⟨r, b, rfl⟩ : ∃ (r : Fin 12288) (b : Fin 768), i = ix2 r b := ⟨i 0, i 1, eq_ix2 i⟩
    obtain ⟨s, h51, hd, ht, hl, hh⟩ := nsched_cover (a := cnt (inT m) 0) (b := cnt (inT m) 1) (c := cnt (inT m) 2) (d := cnt (inT m) 3) hg.sum r.isLt
    obtain ⟨t, -, hf, hi⟩ := ((CF m h).win 3).exists_flush_same_index rfl ⟨s, h51⟩
    refine ⟨t, hf, ?_⟩
    have e := hi.trans (index3 m h hg ⟨s, h51⟩)
    have e0 : ((pcfg0 (F := Ideal)).win ⟨tbl m, h⟩ 3).index t (0 : Fin 2) = r.val / 256 := (congrFun e (0 : Fin 2)).trans ht
    have e1 : ((pcfg0 (F := Ideal)).win ⟨tbl m, h⟩ 3).index t (1 : Fin 2) = 0 := congrFun e (1 : Fin 2)
    have hr := r.isLt
    have key : ix2 r b = (((CF m h).win 3).blk t).view.emb (ix2 (⟨r.val % 256, Nat.mod_lt _ (by omega)⟩ : Fin 256) b) := by
      blk_ext []
      · refine Eq.trans ?_ (congrArg (· * 256 + r.val % 256) e0.symm)
        show r.val = r.val / 256 * 256 + r.val % 256
        omega
      · refine Eq.trans ?_ (congrArg (· * 768 + b.val) e1.symm)
        show b.val = 0 * 768 + b.val
        omega
    rw [key]
    exact View.emb_mem_set _ _

end Cert.KernelIdeal.Gen
-- ==== Proof.Ref.Host.lean ====
module

public import proofs.«01_k».proof.Proof.Gen.ReferenceIdeal.Value
public import Idealize.ShloMosaic.Lib.StableHlo.ReadAt
public import Idealize.ShloMosaic.Lib.Pipeline.Frame
public import Idealize.ShloMosaic.Lib.Pipeline.ValueKit

/-!
# The reference's arrays before its products

Each array that the products read, as one expression of the argument arrays.
-/

@[expose] public section

set_option maxRecDepth 16384

noncomputable section

namespace Cert.ReferenceIdeal.Gen

open Idealize.ShloMosaic Idealize.ShloMosaic.TcCoe

/-- The rows in groups of 128. -/
def groups (x : FVec Ideal S12288x5120 .bf16) : FVec Ideal S12288x40x128 .f32 :=
  shapeCast S12288x40x128 (extf .f32 x bitsLt_bf16_f32) shapeCasts_S12288x5120_S12288x40x128

/-- The groups' maxima. -/
def maxima (v : FVec Ideal S12288x40x128 .f32) : FVec Ideal S12288x40 .f32 :=
  Host.reduce FloatOps.maximumf (Host.absf v) (constant S_ .f32 0xFF800000#32) reducesTo_S12288x40x128_S12288x40_d2 h_S_

/-- The table of powers of two. -/
def powers : FVec Ideal S262 .f32 := fun i => FloatOps.ofBits .f32 (lit0 (S262.rowMajor i))

/-- The powers that are above the maxima, the others replaced by infinity. -/
def above (A : FVec Ideal S12288x40 .f32) : FVec Ideal S12288x40x262 .f32 :=
  select (cmpf .ogt
      (broadcastInDim S12288x40x262 ![0, 1, 2] bcast_S1x1x262_S12288x40x262_0_1_2 (broadcastInDim S1x1x262 ![2] bcast_S262_S1x1x262_2 powers))
      (broadcastInDim S12288x40x262 ![0, 1, 2] bcast_S12288x40x1_S12288x40x262_0_1_2
        (broadcastInDim S12288x40x1 ![0, 1] bcast_S12288x40_S12288x40x1_0_1
          (mulf A (broadcastInDim S12288x40 ![] bcast_S_S12288x40 (constant S_ .f32 0x3B124925#32))))))
    (broadcastInDim S12288x40x262 ![2] bcast_S262_S12288x40x262_2 powers)
    (broadcastInDim S12288x40x262 ![] bcast_S_S12288x40x262 (constant S_ .f32 0x7F800000#32))

/-- The least of them. -/
def least (p : FVec Ideal S12288x40x262 .f32) : FVec Ideal S12288x40 .f32 :=
  Host.reduce FloatOps.minimumf p (constant S_ .f32 0x7F800000#32) reducesTo_S12288x40x262_S12288x40_d2 h_S_

/-- The scales: the least power, and one where the maximum is zero. -/
def scales (A q : FVec Ideal S12288x40 .f32) : FVec Ideal S12288x40 .f32 :=
  select (cmpf .oeq A (broadcastInDim S12288x40 ![] bcast_S_S12288x40 (constant S_ .f32 0x00000000#32)))
    (broadcastInDim S12288x40 ![] bcast_S_S12288x40 (constant S_ .f32 0x3F800000#32)) q

/-- The codes before their rounding. -/
def codes (v : FVec Ideal S12288x40x128 .f32) (s : FVec Ideal S12288x40 .f32) : FVec Ideal S12288x5120 .f32 :=
  shapeCast S12288x5120 (minimumf (broadcastInDim S12288x40x128 ![] bcast_S_S12288x40x128 (constant S_ .f32 0x43E00000#32))
    (maximumf (broadcastInDim S12288x40x128 ![] bcast_S_S12288x40x128 (constant S_ .f32 0xC3E00000#32))
      (mulf v (broadcastInDim S12288x40x128 ![0, 1, 2] bcast_S12288x40x1_S12288x40x128_0_1_2
        (broadcastInDim S12288x40x1 ![0, 1] bcast_S12288x40_S12288x40x1_0_1
          (Host.divf (broadcastInDim S12288x40 ![] bcast_S_S12288x40 (constant S_ .f32 0x3F800000#32)) s)))))) shapeCasts_S12288x40x128_S12288x5120

/-- The scales, one for each entry of a row. -/
def rowScales (s : FVec Ideal S12288x40 .f32) : FVec Ideal S12288x5120 .bf16 :=
  shapeCast S12288x5120 (broadcastInDim S12288x40x128 ![0, 1, 2] bcast_S12288x40x1_S12288x40x128_0_1_2
    (broadcastInDim S12288x40x1 ![0, 1] bcast_S12288x40_S12288x40x1_0_1 (truncf .bf16 s bitsLt_bf16_f32))) shapeCasts_S12288x40x128_S12288x5120

variable (W : Valuation τ sig (Elt Ideal))

theorem h0_v1 : StableHlo.after hostOps0 W (Proc.devRef .tc main_v1) = groups (W (Proc.devRef .tc main_arg0)) := by
  after_reads_simp
  rfl
theorem h0_v3 : StableHlo.after hostOps0 W (Proc.devRef .tc main_v3) = maxima (groups (W (Proc.devRef .tc main_arg0))) := by
  after_reads_simp
  rfl
theorem h01_v11 : StableHlo.after hostOps0_1 (StableHlo.after hostOps0 W) (Proc.devRef .tc main_v11) = above (maxima (groups (W (Proc.devRef .tc main_arg0)))) := by
  after_reads_simp
  simp -implicitDefEqProofs only [StableHlo.TRef.toBuf, StableHlo.TRef.ofBuf, cast_cast, cast_eq]
  rfl
theorem h02_v12 : StableHlo.after hostOps0_2 W (Proc.devRef .tc main_v12) = least (W (Proc.devRef .tc main_v11)) := by
  after_reads_simp
  rfl
theorem h023_v15 : StableHlo.after hostOps0_3 (StableHlo.after hostOps0_2 W) (Proc.devRef .tc main_v15) = scales (W (Proc.devRef .tc main_v3)) (least (W (Proc.devRef .tc main_v11))) := by
  after_reads_simp
  simp -implicitDefEqProofs only [StableHlo.TRef.toBuf, StableHlo.TRef.ofBuf, cast_cast, cast_eq]
  rfl

/-- The weights' scales, one for each weight. -/
def weightScales (s : FVec Ideal S4x40x6 .f32) : FVec Ideal S4x5120x768 .bf16 :=
  shapeCast S4x5120x768 (broadcastInDim S4x40x128x6x128 ![0, 1, 2, 3, 4] bcast_S4x40x1x6x1_S4x40x128x6x128_0_1_2_3_4
    (broadcastInDim S4x40x1x6x1 ![0, 1, 3] bcast_S4x40x6_S4x40x1x6x1_0_1_3 (truncf .bf16 s bitsLt_bf16_f32))) shapeCasts_S4x40x128x6x128_S4x5120x768

/-- The groups' ends. -/
def ends (T : IVec S4 32) : IVec S4 32 :=
  Host.reduceWindow IntOp.addi ![4] ![1] ![3] ![0] T (broadcastInDim S_ ![] bcast_S_S_ (constantI S_ 32 0#32)) reduceWindows_S4_S4_w4s1p3_0 h_S_

/-- The experts of the rows: how many ends are at most the row. -/
def experts (e : IVec S4 32) : IVec S12288x1 32 :=
  broadcastInDim S12288x1 ![0] bcast_S12288_S12288x1_0
    (Host.reduce IntOp.addi (extui 32 (cmpi .sle
        (broadcastInDim S12288x4 ![0, 1] bcast_S1x4_S12288x4_0_1 (broadcastInDim S1x4 ![1] bcast_S4_S1x4_1 e))
        (broadcastInDim S12288x4 ![0, 1] bcast_S12288x1_S12288x4_0_1 (broadcastInDim S12288x1 ![0] bcast_S12288_S12288x1_0 (iotaInDim S12288 32 0)))) natLt_1_32)
      (constantI S_ 32 0#32) reducesTo_S12288x4_S12288_d1 h_S_)

theorem h1_v3 : StableHlo.after hostOps0_1 W (Proc.devRef .tc main_v3) = W (Proc.devRef .tc main_v3) := by
  after_reads_simp
theorem h123_v1 : StableHlo.after hostOps0_3 (StableHlo.after hostOps0_2 (StableHlo.after hostOps0_1 W)) (Proc.devRef .tc main_v1) = W (Proc.devRef .tc main_v1) := by
  after_reads_simp
theorem h45_v21 : StableHlo.after hostOps0_6 (StableHlo.after hostOps0_5 (StableHlo.after hostOps0_4 W)) (Proc.devRef .tc main_v22)
    = codes (W (Proc.devRef .tc main_v1)) (W (Proc.devRef .tc main_v15)) := by
  after_reads_simp
  simp -implicitDefEqProofs only [StableHlo.TRef.toBuf, StableHlo.TRef.ofBuf, cast_cast, cast_eq]
  rfl
theorem h45_v15 : StableHlo.after hostOps0_5 (StableHlo.after hostOps0_4 W) (Proc.devRef .tc main_v15) = W (Proc.devRef .tc main_v15) := by
  after_reads_simp
theorem h6_v26 : StableHlo.after hostOps0_6 W (Proc.devRef .tc main_v26) = rowScales (W (Proc.devRef .tc main_v15)) := by
  after_reads_simp
  rfl
theorem h6_v30 : StableHlo.after hostOps0_6 W (Proc.devRef .tc main_v30) = weightScales (W (Proc.devRef .tc main_arg3)) := by
  after_reads_simp
  rfl
theorem h78_v22 : StableHlo.after hostOps0_8 (StableHlo.after hostOps0_7 W) (Proc.devRef .tc main_v22) = W (Proc.devRef .tc main_v22) := by
  after_reads_simp
theorem h78_v26 : StableHlo.after hostOps0_8 (StableHlo.after hostOps0_7 W) (Proc.devRef .tc main_v26) = W (Proc.devRef .tc main_v26) := by
  after_reads_simp
theorem h78_v30 : StableHlo.after hostOps0_8 (StableHlo.after hostOps0_7 W) (Proc.devRef .tc main_v30) = W (Proc.devRef .tc main_v30) := by
  after_reads_simp
theorem h78_v40 : StableHlo.after hostOps0_8 (StableHlo.after hostOps0_7 W) (Proc.devRef .tc main_v40) = experts (ends (W (Proc.devRef .tc main_arg1))) := by
  after_reads_simp
  simp -implicitDefEqProofs only [StableHlo.TRef.toBuf, StableHlo.TRef.ofBuf, cast_cast, cast_eq]
  rfl

/-- The host operations before the groups' cumulative sums. -/
abbrev mid (W : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 W))))))

theorem mid_arg1 : mid W (Proc.devRef .tc main_arg1) = W (Proc.devRef .tc main_arg1) := by
  unfold mid; after_reads_simp
theorem mid_arg3 : StableHlo.after hostOps0_5 (StableHlo.after hostOps0_4 (StableHlo.after hostOps0_3
    (StableHlo.after hostOps0_2 (StableHlo.after hostOps0_1 (StableHlo.after hostOps0 W))))) (Proc.devRef .tc main_arg3) = W (Proc.devRef .tc main_arg3) := by
  after_reads_simp

/-- The scales of the rows `x`. -/
def xscales (x : FVec Ideal S12288x5120 .bf16) : FVec Ideal S12288x40 .f32 :=
  scales (maxima (groups x)) (least (above (maxima (groups x))))

theorem v15_eq : StableHlo.after hostOps0_3 (StableHlo.after hostOps0_2 (StableHlo.after hostOps0_1 (StableHlo.after hostOps0 W))) (Proc.devRef .tc main_v15)
    = xscales (W (Proc.devRef .tc main_arg0)) := by
  rw [h023_v15, h01_v11, h1_v3, h0_v3]; rfl

variable (m : (ℓ : Loc nD τ sig) → Buf (Elt Ideal) ℓ) (c : Dev nD)

theorem V_eq (b : Ref sig .tc) : V m c b = StableHlo.after hostOps0_8 (StableHlo.after hostOps0_7 (mid (fun b => m (c, b)))) (Proc.devRef .tc b) := by
  unfold V mid
  simp only [List.flatten_cons, List.flatten_nil, List.append_nil, StableHlo.after_append]

theorem V_v22 : V m c main_v22 = codes (groups (m (c, Proc.devRef .tc main_arg0))) (xscales (m (c, Proc.devRef .tc main_arg0))) := by
  rw [V_eq, h78_v22]; unfold mid; rw [h45_v21, h123_v1, v15_eq, h0_v1]
theorem V_v26 : V m c main_v26 = rowScales (xscales (m (c, Proc.devRef .tc main_arg0))) := by
  rw [V_eq, h78_v26]; unfold mid; rw [h6_v26, h45_v15, v15_eq]
theorem V_v30 : V m c main_v30 = weightScales (m (c, Proc.devRef .tc main_arg3)) := by
  rw [V_eq, h78_v30]; unfold mid; rw [h6_v30, mid_arg3]
theorem V_v40 : V m c main_v40 = experts (ends (m (c, Proc.devRef .tc main_arg1))) := by
  rw [V_eq, h78_v40]; rw [mid_arg1]

end Cert.ReferenceIdeal.Gen
-- ==== Proof.Ref.Scale.lean ====
module

public import proofs.«01_k».proof.Proof.Quant
public import proofs.«01_k».proof.Proof.Gen.ReferenceIdeal

/-!
# The reference's scale

The least power of two of its table above the row's maximum divided by 448, over the reals: a scale that 448 of it bounds
the maximum by.
-/

@[expose] public section

set_option maxRecDepth 16384

noncomputable section

namespace Cert.Quant

open Idealize.ShloMosaic

/-- The table's float `k`. -/
abbrev power (k : Fin 262) : EReal := Ideal.ofBits .f32 (Cert.ReferenceIdeal.lit0 k)

/-- Each is a finite positive word. -/
theorem lit0_word : ∀ k : Fin 262, 0 < (Cert.ReferenceIdeal.lit0 k).toNat ∧ (Cert.ReferenceIdeal.lit0 k).toNat < 0x7F800000 := by
  decide +kernel

theorem lit0_last : (Cert.ReferenceIdeal.lit0 261).toNat = 247 * 2 ^ 23 := by decide +kernel

/-- Each is a positive real. -/
theorem power_pos (k : Fin 262) : ∃ p : ℝ, 0 < p ∧ power k = (p : EReal) := by
  obtain ⟨h0, h1⟩ := lit0_word k
  refine ⟨_, ?_, float_word _ h1⟩
  have : 0 < grid (Cert.ReferenceIdeal.lit0 k).toNat := by
    unfold grid; split
    · exact h0
    · positivity
  have : (0 : ℝ) < grid (Cert.ReferenceIdeal.lit0 k).toNat := by exact_mod_cast this
  positivity

/-- The greatest is 2^120. -/
theorem power_last : power 261 = (((2 : ℝ) ^ (120 : ℤ) : ℝ) : EReal) := by
  rw [power, float_pow 247 (by norm_num) (by norm_num) _ lit0_last]; norm_num

/-- The float of 1/448, a little above it. -/
theorem f448inv : Ideal.ofBits .f32 0x3B124925#32 = ((9586981 * (2 : ℝ) ^ (-32 : ℤ) : ℝ) : EReal) := by
  rw [float_word _ (by decide)]
  congr 1
  have : (0x3B124925#32 : BitVec 32).toNat = 0x3B124925 := by decide
  rw [this]
  unfold grid
  norm_num

/-- Zero. -/
theorem f0 : Ideal.ofBits .f32 0x00000000#32 = 0 := by
  rw [float_word _ (by decide)]
  have : (0x00000000#32 : BitVec 32).toNat = 0 := by decide
  rw [this]
  unfold grid
  norm_num

theorem ogt_iff (x y : EReal) : Ideal.cmp .ogt x y = 1 ↔ y < x := by
  unfold Ideal.cmp
  by_cases h : y < x
  · simp [h]
  · simp [h]

theorem oeq_iff (x y : EReal) : Ideal.cmp .oeq x y = 1 ↔ x = y := by
  unfold Ideal.cmp
  by_cases h : x = y
  · simp [h]
  · simp [h]

/-- The scale of a row's maximum `A`. -/
def refScale (A : EReal) : EReal :=
  Scalar.select (Ideal.cmp .oeq A (Ideal.ofBits .f32 0x00000000#32)) (Ideal.ofBits .f32 0x3F800000#32)
    ((Finset.univ : Finset (Fin 262)).fold min (Ideal.ofBits .f32 0x7F800000#32)
      fun k => Scalar.select (Ideal.cmp .ogt (power k) (A * Ideal.ofBits .f32 0x3B124925#32)) (power k) (Ideal.ofBits .f32 0x7F800000#32))

/-- It is a positive real, and 448 of it is at least the maximum. -/
theorem refScale_ok (a : ℝ) (ha : 0 ≤ a) (hA : a ≤ (grid 0x7F7F0000 * (2 : ℝ) ^ (-149 : ℤ) : ℝ)) :
    ∃ s : ℝ, 0 < s ∧ a ≤ 448 * s ∧ refScale (a : EReal) = (s : EReal) := by
  unfold refScale
  by_cases h0 : a = 0
  · refine ⟨1, one_pos, by rw [h0]; norm_num, ?_⟩
    unfold Scalar.select
    rw [if_pos ((oeq_iff _ _).2 (by rw [f0, h0]; rfl)), f1]
  · have hpos : 0 < a := lt_of_le_of_ne ha (Ne.symm h0)
    unfold Scalar.select
    rw [if_neg (fun h => h0 (by rw [oeq_iff, f0] at h; exact_mod_cast h)), float_top, f448inv, ← EReal.coe_mul]
    set q : ℝ := a * (9586981 * (2 : ℝ) ^ (-32 : ℤ)) with hq
    have q0 : 0 < q := by rw [hq]; positivity
    set f : Fin 262 → EReal := fun k => if Ideal.cmp .ogt (power k) (q : EReal) = 1 then power k else ⊤ with hf
    have hlo : (q : EReal) < (Finset.univ : Finset (Fin 262)).fold min ⊤ f := by
      refine Finset.lt_fold_min _ |>.2 ⟨EReal.coe_lt_top _, fun k _ => ?_⟩
      rw [hf]; dsimp only
      split
      · next h => exact (ogt_iff _ _).1 h
      · exact EReal.coe_lt_top _
    have hq120 : q < (2 : ℝ) ^ (120 : ℤ) := by
      have : (grid 0x7F7F0000 * (2 : ℝ) ^ (-149 : ℤ) : ℝ) * (9586981 * (2 : ℝ) ^ (-32 : ℤ)) < (2 : ℝ) ^ (120 : ℤ) := by
        unfold grid; norm_num
      refine lt_of_le_of_lt ?_ this
      rw [hq]; exact mul_le_mul_of_nonneg_right hA (by positivity)
    have hhi : (Finset.univ : Finset (Fin 262)).fold min ⊤ f ≤ (((2 : ℝ) ^ (120 : ℤ) : ℝ) : EReal) := by
      refine Finset.fold_min_le _ |>.2 (.inr ⟨261, Finset.mem_univ _, ?_⟩)
      rw [hf]; dsimp only
      rw [if_pos ((ogt_iff _ _).2 (by rw [power_last]; exact EReal.coe_lt_coe_iff.2 hq120)), power_last]
    generalize (Finset.univ : Finset (Fin 262)).fold min ⊤ f = S at hlo hhi
    induction S with
    | bot => exact absurd hlo (by simp)
    | top => exact absurd (top_le_iff.1 hhi) (EReal.coe_ne_top _)
    | coe s =>
      have h1 : q < s := EReal.coe_lt_coe_iff.1 hlo
      refine ⟨s, q0.trans h1, ?_, rfl⟩
      have : a ≤ 448 * q := by
        rw [hq]
        have : (1 : ℝ) ≤ 448 * (9586981 * (2 : ℝ) ^ (-32 : ℤ)) := by norm_num
        nlinarith
      linarith

/-- The reference's quantised row, read back, is the row. -/
theorem ref_lane (A x : EReal) (hx : max x (-x) ≤ A) (hA : A ≤ Ideal.ofBits .bf16 32639#16) :
    min (Ideal.ofBits .f32 0x43E00000#32) (max (Ideal.ofBits .f32 0xC3E00000#32)
        (x * Ideal.div (Ideal.ofBits .f32 0x3F800000#32) (refScale A)))
      * refScale A = x := by
  have h0 : (0 : EReal) ≤ A := by
    refine le_trans ?_ hx
    rcases le_total 0 x with h | h
    · exact le_max_of_le_left h
    · exact le_max_of_le_right (by rw [EReal.le_neg]; simpa using h)
  rw [bf_max] at hA
  induction A with
  | bot => exact absurd h0 (by simp)
  | top => exact absurd (top_le_iff.1 hA) (EReal.coe_ne_top _)
  | coe a =>
    obtain ⟨s, s0, hs, e⟩ := refScale_ok a (EReal.coe_nonneg.1 h0) (EReal.coe_le_coe_iff.1 hA)
    have hd : Ideal.div (Ideal.ofBits .f32 0x3F800000#32) (s : EReal) = ((s⁻¹ : ℝ) : EReal) := by
      unfold Ideal.div
      rw [if_neg (by exact_mod_cast s0.ne'), f1, EReal.coe_inv]
      simp
    rw [e, hd, f448, fm448]
    exact deq_id s s0 x (hx.trans (EReal.coe_le_coe_iff.2 hs))

end Cert.Quant

end
-- ==== Proof.Ref.At.lean ====
module

public import proofs.«01_k».proof.Proof.Ref.Host
public import proofs.«01_k».proof.Proof.Ref.Scale
public import proofs.«01_k».proof.Proof.Spec
public import Idealize.ShloMosaic.Lib.Pointwise

/-!
# The reference's arrays, entry by entry
-/

@[expose] public section

set_option maxRecDepth 16384

noncomputable section

namespace Cert.ReferenceIdeal.Gen

open Idealize.ShloMosaic Idealize.ShloMosaic.TcCoe Cert.Quant

theorem groups_at (x : FVec Ideal S12288x5120 .bf16) (r : Fin 12288) (g : Fin 40) (l : Fin 128) :
    groups x (ix3 r g l) = (x (ix2 r (⟨g.val * 128 + l.val, by omega⟩ : Fin 5120)) : EReal) := by
  pointwise [groups]

theorem maxima_at (v : FVec Ideal S12288x40x128 .f32) (r : Fin 12288) (g : Fin 40) :
    maxima v (ix2 r g) = ((Finset.univ : Finset (Fin 128)).fold max (Ideal.ofBits .f32 0xFF800000#32) fun l => max (v (ix3 r g l) : EReal) (-(v (ix3 r g l) : EReal))) := by
  pointwise [maxima]
  rfl

theorem above_at (A : FVec Ideal S12288x40 .f32) (r : Fin 12288) (g : Fin 40) (k : Fin 262) :
    above A (ix3 r g k) = Scalar.select (Ideal.cmp .ogt (power k) ((A (ix2 r g) : EReal) * Ideal.ofBits .f32 0x3B124925#32)) (power k) (Ideal.ofBits .f32 0x7F800000#32) := by
  have e : ∀ k : Fin 262, powers (ix1 k) = power k := fun k =>
    congrArg (fun j : Fin 262 => Ideal.ofBits .f32 (lit0 j)) (Fin.ext (Shape.rowMajor_val_one (ix1 k)))
  unfold above
  generalize powers = P at e
  rw [← e k]
  pointwise

theorem least_at (p : FVec Ideal S12288x40x262 .f32) (r : Fin 12288) (g : Fin 40) :
    least p (ix2 r g) = ((Finset.univ : Finset (Fin 262)).fold min (Ideal.ofBits .f32 0x7F800000#32) fun k => (p (ix3 r g k) : EReal)) := by
  pointwise [least]

/-- The scale at a group is the group's maximum's. -/
theorem scales_at (A : FVec Ideal S12288x40 .f32) (r : Fin 12288) (g : Fin 40) :
    scales A (least (above A)) (ix2 r g) = refScale (A (ix2 r g)) := by
  have h : least (above A) (ix2 r g) = _ := least_at (above A) r g
  simp only [above_at] at h
  unfold refScale
  rw [← h]
  rfl

theorem codes_at (v : FVec Ideal S12288x40x128 .f32) (s : FVec Ideal S12288x40 .f32) (r : Fin 12288) (k : Fin 5120) :
    codes v s (ix2 r k) = min (Ideal.ofBits .f32 0x43E00000#32) (max (Ideal.ofBits .f32 0xC3E00000#32)
      ((v (ix3 r (⟨k.val / 128, by omega⟩ : Fin 40) (⟨k.val % 128, by omega⟩ : Fin 128)) : EReal)
        * Ideal.div (Ideal.ofBits .f32 0x3F800000#32) (s (ix2 r (⟨k.val / 128, by omega⟩ : Fin 40)) : EReal))) := by
  pointwise [codes]

theorem rowScales_at (s : FVec Ideal S12288x40 .f32) (r : Fin 12288) (k : Fin 5120) :
    rowScales s (ix2 r k) = (s (ix2 r (⟨k.val / 128, by omega⟩ : Fin 40)) : EReal) := by
  pointwise [rowScales]

theorem weightScales_at (s : FVec Ideal S4x40x6 .f32) (e : Fin 4) (k : Fin 5120) (b : Fin 768) :
    weightScales s (ix3 e k b) = (s (ix3 e (⟨k.val / 128, by omega⟩ : Fin 40) (⟨b.val / 128, by omega⟩ : Fin 6)) : EReal) := by
  pointwise [weightScales]

theorem f32_bot : Ideal.ofBits .f32 0xFF800000#32 = ⊥ := by
  show (Ideal.ieee 8 23 (0xFF800000#32 : BitVec 32) : EReal) = ⊥
  unfold Ideal.ieee
  rw [if_pos (by decide), if_pos (by decide), if_pos (by decide)]

/-- A row's codes times its scales are the row. -/
theorem dequantised (x : FVec Ideal S12288x5120 .bf16) (hx : ∀ i, max (x i : EReal) (-(x i : EReal)) ≤ Ideal.ofBits .bf16 32639#16) (r : Fin 12288) (k : Fin 5120) :
    (codes (groups x) (xscales x) (ix2 r k) : EReal) * (rowScales (xscales x) (ix2 r k) : EReal) = x (ix2 r k) := by
  rw [codes_at, rowScales_at]
  unfold xscales
  rw [scales_at, groups_at]
  have hk : (⟨(⟨k.val / 128, by omega⟩ : Fin 40).val * 128 + (⟨k.val % 128, by omega⟩ : Fin 128).val, by have := k.isLt; show k.val / 128 * 128 + k.val % 128 < 5120; omega⟩ : Fin 5120) = k :=
    Fin.ext (by show k.val / 128 * 128 + k.val % 128 = k.val; omega)
  rw [hk]
  refine ref_lane _ _ ?_ ?_
  · rw [maxima_at]
    refine Finset.le_fold_max _ |>.2 (.inr ⟨⟨k.val % 128, by omega⟩, Finset.mem_univ _, ?_⟩)
    rw [groups_at, hk]
  · rw [maxima_at]
    refine Finset.fold_max_le _ |>.2 ⟨by rw [f32_bot]; exact bot_le, fun l _ => ?_⟩
    rw [groups_at]; exact hx _

end Cert.ReferenceIdeal.Gen
-- ==== Proof.Ref.Blocks.lean ====
module

public import proofs.«01_k».proof.Proof.Gen.ReferenceIdeal.Value
public import Idealize.ShloMosaic.Lib.Pipeline.ValueKit

/-!
# The reference's blocks are its arrays
-/

@[expose] public section

set_option maxRecDepth 16384

noncomputable section

namespace Cert.ReferenceIdeal.Gen

open Idealize.ShloMosaic Idealize.ShloMosaic.TcCoe

variable (m : (ℓ : Loc nD τ sig) → Buf (Elt Ideal) ℓ)

/-- The one point. -/
abbrev t0 : Fin cfg0.N := ⟨0, Nat.zero_lt_one⟩

/-! Each window's block is its array: the places, the contents, the region's array. -/

theorem place0 (r : Fin 12288) (k : Fin 5120) : ((cfg0.win 0).blk t0).view.emb (ix2 r k) = ix2 r k := by
  have e0 : win0_0.index t0 (0 : Fin 2) = 0 := rfl
  have e1 : win0_0.index t0 (1 : Fin 2) = 0 := rfl
  blk_ext []
theorem read0 (X : Vec Ideal S12288x5120 .f32) (r : Fin 12288) (k : Fin 5120) :
    ((cfg0.win 0).blk t0).view.read (Elt Ideal) X (ix2 r k) = X (ix2 r k) := congrArg X (place0 r k)
theorem iblk0 (c : Dev nD) (X : Vec Ideal S12288x5120 .f32) (h : V m c main_v22 = X) (r : Fin 12288) (k : Fin 5120) : iblk m c 0 t0 (ix2 r k) = X (ix2 r k) := by
  unfold iblk
  rw [show V m c (Pipeline.arrRef spec0 0) = X from h]
  exact read0 X r k

theorem place1 (r : Fin 12288) (k : Fin 5120) : ((cfg0.win 1).blk t0).view.emb (ix2 r k) = ix2 r k := by
  have e0 : win0_1.index t0 (0 : Fin 2) = 0 := rfl
  have e1 : win0_1.index t0 (1 : Fin 2) = 0 := rfl
  blk_ext []
theorem read1 (X : Vec Ideal S12288x5120 .bf16) (r : Fin 12288) (k : Fin 5120) :
    ((cfg0.win 1).blk t0).view.read (Elt Ideal) X (ix2 r k) = X (ix2 r k) := congrArg X (place1 r k)
theorem iblk1 (c : Dev nD) (X : Vec Ideal S12288x5120 .bf16) (h : V m c main_v26 = X) (r : Fin 12288) (k : Fin 5120) : iblk m c 1 t0 (ix2 r k) = X (ix2 r k) := by
  unfold iblk
  rw [show V m c (Pipeline.arrRef spec0 1) = X from h]
  exact read1 X r k

theorem place2 (r : Fin 12288) (k : Fin 1) : ((cfg0.win 2).blk t0).view.emb (ix2 r k) = ix2 r k := by
  have e0 : win0_2.index t0 (0 : Fin 2) = 0 := rfl
  have e1 : win0_2.index t0 (1 : Fin 2) = 0 := rfl
  blk_ext []
theorem read2 (X : Vec Ideal S12288x1 .i32) (r : Fin 12288) (k : Fin 1) :
    ((cfg0.win 2).blk t0).view.read (Elt Ideal) X (ix2 r k) = X (ix2 r k) := congrArg X (place2 r k)
theorem iblk2 (c : Dev nD) (X : Vec Ideal S12288x1 .i32) (h : V m c main_v40 = X) (r : Fin 12288) (k : Fin 1) : iblk m c 2 t0 (ix2 r k) = X (ix2 r k) := by
  unfold iblk
  rw [show V m c (Pipeline.arrRef spec0 2) = X from h]
  exact read2 X r k

theorem place3 (e : Fin 4) (k : Fin 5120) (b : Fin 768) : ((cfg0.win 3).blk t0).view.emb (ix3 e k b) = ix3 e k b := by
  have e0 : win0_3.index t0 (0 : Fin 3) = 0 := rfl
  have e1 : win0_3.index t0 (1 : Fin 3) = 0 := rfl
  have e2 : win0_3.index t0 (2 : Fin 3) = 0 := rfl
  blk_ext []
theorem read3 (X : Vec Ideal S4x5120x768 .fp8e4m3) (e : Fin 4) (k : Fin 5120) (b : Fin 768) :
    ((cfg0.win 3).blk t0).view.read (Elt Ideal) X (ix3 e k b) = X (ix3 e k b) := congrArg X (place3 e k b)
theorem iblk3 (c : Dev nD) (X : Vec Ideal S4x5120x768 .fp8e4m3) (h : V m c main_arg2 = X) (e : Fin 4) (k : Fin 5120) (b : Fin 768) : iblk m c 3 t0 (ix3 e k b) = X (ix3 e k b) := by
  unfold iblk
  rw [show V m c (Pipeline.arrRef spec0 3) = X from h]
  exact read3 X e k b

theorem place4 (e : Fin 4) (k : Fin 5120) (b : Fin 768) : ((cfg0.win 4).blk t0).view.emb (ix3 e k b) = ix3 e k b := by
  have e0 : win0_4.index t0 (0 : Fin 3) = 0 := rfl
  have e1 : win0_4.index t0 (1 : Fin 3) = 0 := rfl
  have e2 : win0_4.index t0 (2 : Fin 3) = 0 := rfl
  blk_ext []
theorem read4 (X : Vec Ideal S4x5120x768 .bf16) (e : Fin 4) (k : Fin 5120) (b : Fin 768) :
    ((cfg0.win 4).blk t0).view.read (Elt Ideal) X (ix3 e k b) = X (ix3 e k b) := congrArg X (place4 e k b)
theorem iblk4 (c : Dev nD) (X : Vec Ideal S4x5120x768 .bf16) (h : V m c main_v30 = X) (e : Fin 4) (k : Fin 5120) (b : Fin 768) : iblk m c 4 t0 (ix3 e k b) = X (ix3 e k b) := by
  unfold iblk
  rw [show V m c (Pipeline.arrRef spec0 4) = X from h]
  exact read4 X e k b

/-- The output's block is its array. -/
theorem whole5 : (cfg0.win 5).WholeAt t0 := by decide +kernel

end Cert.ReferenceIdeal.Gen
-- ==== Proof.Ref.Body.lean ====
module

public import proofs.«01_k».proof.Proof.Gen.ReferenceIdeal.Value
public import Idealize.ShloMosaic.Lib.Pointwise
public import Idealize.ShloMosaic.Lib.Pipeline.ValueKit

/-!
# The reference's product, entry by entry

For each expert the rows times its weights, kept where the expert is the row's.
-/

@[expose] public section

set_option maxRecDepth 16384

noncomputable section

namespace Cert.ReferenceIdeal.Gen

open Idealize.ShloMosaic Idealize.ShloMosaic.TcCoe

/-- A row times an expert's weights: codes, row scales, weights, weight scales. -/
def dot (x0 : Vec Ideal S12288x5120 .f32) (x1 : Vec Ideal S12288x5120 .bf16) (w : Vec Ideal S1x5120x768 .fp8e4m3) (s : Vec Ideal S1x5120x768 .bf16)
    (r : Fin 12288) (b : Fin 768) : EReal :=
  ∑ k : Fin 5120, ((x0 (ix2 r k) : EReal) * (x1 (ix2 r k) : EReal)) * ((w (ix3 0 k b) : EReal) * (s (ix3 0 k b) : EReal))

theorem sel_eq {α : Type} (a b : BitVec 32) (x y : α) : Scalar.select (IntOp.cmpi .eq a b) x y = if a = b then x else y := by
  unfold Scalar.select
  exact if_congr IntOp.cmpi_eq rfl rfl

theorem pay3_at (x0 : Vec Ideal S12288x5120 .f32) (x1 : Vec Ideal S12288x5120 .bf16) (w : Vec Ideal S1x5120x768 .fp8e4m3) (s : Vec Ideal S1x5120x768 .bf16)
    (e : Vec Ideal S12288x1 .i32) (r : Fin 12288) (b : Fin 768) :
    k0_pay3 x0 x1 w s e (ix2 r b) = (if e (ix2 r 0) = 0#32 then dot x0 x1 w s r b else (0 : EReal)) := by
  pointwise [k0_pay3, k0_pay2, dot]
  rw [sel_eq]

theorem pay4_at (x0 : Vec Ideal S12288x5120 .f32) (x1 : Vec Ideal S12288x5120 .bf16) (w : Vec Ideal S1x5120x768 .fp8e4m3) (s : Vec Ideal S1x5120x768 .bf16)
    (r : Fin 12288) (b : Fin 768) : k0_pay4 x0 x1 w s (ix2 r b) = dot x0 x1 w s r b := by
  pointwise [k0_pay4, k0_pay2, dot]

theorem pay5_at (e : Vec Ideal S12288x1 .i32) (r : Fin 12288) (b : Fin 768) :
    k0_pay5 (F := Ideal) e (ix2 r b) = IntOp.cmpi .eq (e (ix2 r 0)) 1#32 := by
  pointwise [k0_pay5]

theorem pay1_at (x0 : Vec Ideal S12288x5120 .f32) (x1 : Vec Ideal S12288x5120 .bf16) (y z : FVec Ideal S12288x768 .f32)
    (w2 : Vec Ideal S1x5120x768 .fp8e4m3) (s2 : Vec Ideal S1x5120x768 .bf16) (w3 : Vec Ideal S1x5120x768 .fp8e4m3) (s3 : Vec Ideal S1x5120x768 .bf16)
    (e : Vec Ideal S12288x1 .i32) (r : Fin 12288) (b : Fin 768) :
    k0_pay1 (k0_pay2 x0 x1) y z (k0_pay5 (F := Ideal) e) w2 s2 e w3 s3 e (ix2 r b)
      = (if e (ix2 r 0) = 3#32 then dot x0 x1 w3 s3 r b else if e (ix2 r 0) = 2#32 then dot x0 x1 w2 s2 r b
          else if e (ix2 r 0) = 1#32 then z (ix2 r b) else y (ix2 r b) : EReal) := by
  pointwise [k0_pay1, k0_pay2, k0_pay5, dot]
  rw [sel_eq, sel_eq, sel_eq]

/-- An expert's slice of the weights. -/
theorem slice0 {t : EltTy} (x : Vec Ideal S4x5120x768 t) (k : Fin 5120) (b : Fin 768) : View.ld x r0_1 (ix3 (0 : Fin 1) k b) = x (ix3 (0 : Fin 4) k b) :=
  congrArg x (by
    funext a; apply Fin.ext; rw [Rect.idx_unit_val]; fin_cases a
    · rfl
    · exact Nat.zero_add _
    · exact Nat.zero_add _)
theorem slice1 {t : EltTy} (x : Vec Ideal S4x5120x768 t) (k : Fin 5120) (b : Fin 768) : View.ld x r0_3 (ix3 (0 : Fin 1) k b) = x (ix3 (1 : Fin 4) k b) :=
  congrArg x (by
    funext a; apply Fin.ext; rw [Rect.idx_unit_val]; fin_cases a
    · rfl
    · exact Nat.zero_add _
    · exact Nat.zero_add _)
theorem slice2 {t : EltTy} (x : Vec Ideal S4x5120x768 t) (k : Fin 5120) (b : Fin 768) : View.ld x r0_4 (ix3 (0 : Fin 1) k b) = x (ix3 (2 : Fin 4) k b) :=
  congrArg x (by
    funext a; apply Fin.ext; rw [Rect.idx_unit_val]; fin_cases a
    · rfl
    · exact Nat.zero_add _
    · exact Nat.zero_add _)
theorem slice3 {t : EltTy} (x : Vec Ideal S4x5120x768 t) (k : Fin 5120) (b : Fin 768) : View.ld x r0_5 (ix3 (0 : Fin 1) k b) = x (ix3 (3 : Fin 4) k b) :=
  congrArg x (by
    funext a; apply Fin.ext; rw [Rect.idx_unit_val]; fin_cases a
    · rfl
    · exact Nat.zero_add _
    · exact Nat.zero_add _)

/-- A row times a slice that is an expert's weights. -/
theorem dot_of (x0 : Vec Ideal S12288x5120 .f32) (x1 : Vec Ideal S12288x5120 .bf16) (w : Vec Ideal S1x5120x768 .fp8e4m3) (s : Vec Ideal S1x5120x768 .bf16)
    (x3 : Vec Ideal S4x5120x768 .fp8e4m3) (x4 : Vec Ideal S4x5120x768 .bf16) (e : Fin 4) (r : Fin 12288) (b : Fin 768)
    (hw : ∀ k, w (ix3 0 k b) = x3 (ix3 e k b)) (hs : ∀ k, s (ix3 0 k b) = x4 (ix3 e k b)) :
    dot x0 x1 w s r b = ∑ k : Fin 5120, ((x0 (ix2 r k) : EReal) * (x1 (ix2 r k) : EReal)) * ((x3 (ix3 e k b) : EReal) * (x4 (ix3 e k b) : EReal)) :=
  Finset.sum_congr rfl fun k _ => by rw [hw, hs]

/-- What the body leaves at an index, the row's expert being `e`. -/
theorem out_at (x0 : Vec Ideal S12288x5120 .f32) (x1 : Vec Ideal S12288x5120 .bf16) (x2 : Vec Ideal S12288x1 .i32)
    (x3 : Vec Ideal S4x5120x768 .fp8e4m3) (x4 : Vec Ideal S4x5120x768 .bf16) (r : Fin 12288) (b : Fin 768) (e : Fin 4) (he : x2 (ix2 r 0) = BitVec.ofNat 32 e.val) :
    out0_5 x0 x1 x2 x3 x4 (ix2 r b)
      = (∑ k : Fin 5120, ((x0 (ix2 r k) : EReal) * (x1 (ix2 r k) : EReal)) * ((x3 (ix3 e k b) : EReal) * (x4 (ix3 e k b) : EReal)) : EReal) := by
  unfold out0_5
  rw [View.canon_cons_unit_lit inb_S12288x768_S12288x768_0_0 _ _ (by decide)]
  rw [View.ld_unit_lit inb_S12288x5120_S12288x5120_0_0 x0 (by decide), View.ld_unit_lit inb_S12288x5120_S12288x5120_0_0 x1 (by decide),
    View.ld_unit_lit inb_S12288x1_S12288x1_0_0 x2 (by decide)]
  refine (pay1_at _ _ _ _ _ _ _ _ _ _ _).trans ?_
  rw [pay4_at, pay3_at, he]
  rw [dot_of x0 x1 _ _ x3 x4 0 r b (fun k => slice0 x3 k b) (fun k => slice0 x4 k b), dot_of x0 x1 _ _ x3 x4 1 r b (fun k => slice1 x3 k b) (fun k => slice1 x4 k b),
    dot_of x0 x1 _ _ x3 x4 2 r b (fun k => slice2 x3 k b) (fun k => slice2 x4 k b), dot_of x0 x1 _ _ x3 x4 3 r b (fun k => slice3 x3 k b) (fun k => slice3 x4 k b)]
  fin_cases e
  · exact (if_neg (by decide)).trans ((if_neg (by decide)).trans ((if_neg (by decide)).trans (if_pos (by decide))))
  · exact (if_neg (by decide)).trans ((if_neg (by decide)).trans (if_pos (by decide)))
  · exact (if_neg (by decide)).trans (if_pos (by decide))
  · exact if_pos (by decide)

end Cert.ReferenceIdeal.Gen
-- ==== Proof.Ref.Expert.lean ====
module

public import proofs.«01_k».proof.Proof.Ref.Host
public import proofs.«01_k».proof.Proof.Spec
public import Idealize.ShloMosaic.Lib.Pointwise
public import Idealize.ShloMosaic.Lib.Routing.OpsOne

/-!
# The reference's expert of a row

The number of groups that end at or before the row.
-/

@[expose] public section

set_option maxRecDepth 16384

noncomputable section

namespace Cert.ReferenceIdeal.Gen

open Idealize.ShloMosaic Idealize.ShloMosaic.TcCoe Cert.Sched Cert.Moe

/-- A group's end: the sizes up to it. -/
theorem ends_at (T : IVec S4 32) (j : Fin 4) : ends T (ix1 j) = ∑ i : Fin 4, if i ≤ j then T (ix1 i) else 0 :=
  Routing.cumsum_vec (N := 4) (Nm1 := 3) rfl T _ rfl reduceWindows_S4_S4_w4s1p3_0 h_S_ j

theorem ix1_at4 (j : Fin 4) : (ix1 j : Cert.Sched.S4.Idx) = at4 j := by
  funext a; obtain rfl : a = (0 : Fin 1) := @Subsingleton.elim (Fin 1) _ _ _; rfl

theorem experts_at (e : IVec S4 32) (r : Fin 12288) :
    experts e (ix2 r 0) = Finset.fold IntOp.addi 0#32 (fun x : Fin 4 => BitVec.setWidth 32 (IntOp.cmpi .sle (e (ix1 x)) (BitVec.ofNat 32 r.val))) Finset.univ := by
  pointwise [experts]

/-- One if a group's end is at most the row, else zero. -/
theorem past {x : BitVec 32} {n r : ℕ} (hx : x.toNat = n) (hn : n ≤ 12288) (hr : r < 12288) :
    BitVec.setWidth 32 (IntOp.cmpi .sle x (BitVec.ofNat 32 r)) = if n ≤ r then 1#32 else 0#32 := by
  have h1 : Affine.IsInt x ((n : ℕ) : ℤ) := by
    unfold Affine.IsInt; rw [BitVec.toInt_eq_toNat_of_lt (by omega), hx]
  have h2 : Affine.IsInt (BitVec.ofNat 32 r) ((r : ℕ) : ℤ) := Cert.Sched.lit r (by omega)
  unfold Affine.IsInt at h1 h2
  by_cases h : n ≤ r
  · rw [if_pos h, IntOp.cmpi_sle.2 (by rw [h1, h2]; exact_mod_cast h)]; rfl
  · rw [if_neg h]
    have : IntOp.cmpi .sle x (BitVec.ofNat 32 r) = 0#1 := by
      rcases (show ∀ b : BitVec 1, b = 0#1 ∨ b = 1#1 by decide) (IntOp.cmpi .sle x (BitVec.ofNat 32 r)) with h0 | h0
      · exact h0
      · have := IntOp.cmpi_sle.1 h0
        rw [h1, h2] at this; omega
    rw [this]; rfl

/-- The expert the reference finds is the row's. -/
theorem expert_word (T : IVec S4 32) (hg : Good T) (r : Fin 12288) :
    experts (ends T) (ix2 r 0) = BitVec.ofNat 32 (expertOf T r.val).val := by
  have a0 := hg.le 0; have a1 := hg.le 1; have a2 := hg.le 2; have a3 := hg.le 3
  have hs := hg.sum
  have hr := r.isLt
  have c : ∀ j, (T (ix1 j)).toNat = cnt T j := fun j => congrArg (fun i => (T i).toNat) (ix1_at4 j)
  have e0 : (ends T (ix1 0)).toNat = cnt T 0 := by
    rw [ends_at, Fin.sum_univ_four, if_pos (by decide), if_neg (by decide), if_neg (by decide), if_neg (by decide), add_zero, add_zero, add_zero, c]
  have e1 : (ends T (ix1 1)).toNat = cnt T 0 + cnt T 1 := by
    rw [ends_at, Fin.sum_univ_four, if_pos (by decide), if_pos (by decide), if_neg (by decide), if_neg (by decide), add_zero, add_zero, BitVec.toNat_add, c, c]
    omega
  have e2 : (ends T (ix1 2)).toNat = cnt T 0 + cnt T 1 + cnt T 2 := by
    rw [ends_at, Fin.sum_univ_four, if_pos (by decide), if_pos (by decide), if_pos (by decide), if_neg (by decide), add_zero, BitVec.toNat_add, BitVec.toNat_add, c, c, c]
    omega
  have e3 : (ends T (ix1 3)).toNat = 12288 := by
    rw [ends_at, Fin.sum_univ_four, if_pos (by decide), if_pos (by decide), if_pos (by decide), if_pos (by decide), BitVec.toNat_add, BitVec.toNat_add, BitVec.toNat_add, c, c, c, c]
    omega
  rw [experts_at]
  have hu : (Finset.univ : Finset (Fin 4)) = {0, 1, 2, 3} := rfl
  rw [hu, Finset.fold_insert (by decide), Finset.fold_insert (by decide), Finset.fold_insert (by decide), Finset.fold_singleton,
    past e0 (by omega) hr, past e1 (by omega) hr, past e2 (by omega) hr, past e3 (by omega) hr]
  unfold expertOf
  split_ifs <;> first | rfl | (exfalso; omega)

end Cert.ReferenceIdeal.Gen
-- ==== Proof.Ref.Entry.lean ====
module

public import proofs.«01_k».proof.Proof.Ref.At
public import proofs.«01_k».proof.Proof.Ref.Blocks
public import proofs.«01_k».proof.Proof.Ref.Body
public import proofs.«01_k».proof.Proof.Ref.Expert

/-!
# An entry of the reference's result

Each row times the weights of its expert.
-/

@[expose] public section

set_option maxRecDepth 16384

noncomputable section

namespace Cert.ReferenceIdeal.Gen

open Idealize.ShloMosaic Idealize.ShloMosaic.TcCoe Cert.Sched Cert.Moe

variable (m : (ℓ : Loc nD τ sig) → Buf (Elt Ideal) ℓ)

/-- What the body leaves at an index, in the arrays of the launch. -/
theorem after_at (c : Dev nD) (x : SX.Idx → EReal) (T : Cert.Sched.S4.Idx → BitVec 32) (w : SW.Idx → EReal) (s : SS.Idx → EReal)
    (X0 : Vec Ideal S12288x5120 .f32) (X1 : Vec Ideal S12288x5120 .bf16) (X2 : Vec Ideal S12288x1 .i32)
    (X3 : Vec Ideal S4x5120x768 .fp8e4m3) (X4 : Vec Ideal S4x5120x768 .bf16)
    (e0 : ∀ r k, X0 (ix2 r k) = codes (groups x) (xscales x) (ix2 r k)) (e1 : ∀ r k, X1 (ix2 r k) = rowScales (xscales x) (ix2 r k))
    (e2 : ∀ r k, X2 (ix2 r k) = experts (ends T) (ix2 r k)) (e3 : ∀ e k b, X3 (ix3 e k b) = w (ix3 e k b)) (e4 : ∀ e k b, X4 (ix3 e k b) = weightScales s (ix3 e k b))
    (hg : Good T) (hx : ∀ i, max (x i) (-(x i)) ≤ Ideal.ofBits .bf16 32639#16) (r : Fin 12288) (b : Fin 768) :
    out0_5 X0 X1 X2 X3 X4 (ix2 r b) = out x T w s (ix2 r b) := by
  refine (out_at X0 X1 X2 X3 X4 r b (expertOf T r.val) ((e2 r 0).trans (expert_word T hg r))).trans ?_
  show _ = prod x w s (expertOf T r.val) r b
  unfold prod wAt
  refine Finset.sum_congr rfl fun k _ => ?_
  rw [e0, e1, e3, e4, weightScales_at]
  exact congrArg (fun a : EReal => a * _) (dequantised x hx r k)

end Cert.ReferenceIdeal.Gen
-- ==== Proof.Ref.Result.lean ====
module

public import proofs.«01_k».proof.Proof.Ref.Entry
public import proofs.«01_k».proof.Proof.Ref.Blocks

/-!
# The reference's result array

Each row times the weights of its expert.
-/

@[expose] public section

set_option maxRecDepth 16384

noncomputable section

namespace Cert.ReferenceIdeal.Gen

open Idealize.ShloMosaic Idealize.ShloMosaic.TcCoe Cert.Sched Cert.Moe

variable (m : (ℓ : Loc nD τ sig) → Buf (Elt Ideal) ℓ)

/-- The result array after the run. -/
theorem final (c : Dev nD) (x : SX.Idx → EReal) (T : Cert.Sched.S4.Idx → BitVec 32) (w : SW.Idx → EReal) (s : SS.Idx → EReal)
    (e0 : m ((c.tc : Thread nD τ).loc main_arg0) = x) (e1 : m ((c.tc : Thread nD τ).loc main_arg1) = T)
    (e2 : m ((c.tc : Thread nD τ).loc main_arg2) = w) (e3 : m ((c.tc : Thread nD τ).loc main_arg3) = s)
    (hg : Good T) (hx : ∀ i, max (x i) (-(x i)) ≤ Ideal.ofBits .bf16 32639#16) : (dats m 0 c).arrAt 5 cfg0.N = out x T w s := by
  have v0 : V m c main_v22 = codes (groups x) (xscales x) := (V_v22 m c).trans (congrArg (fun x => codes (groups x) (xscales x)) e0)
  have v1 : V m c main_v26 = rowScales (xscales x) := (V_v26 m c).trans (congrArg (fun x => rowScales (xscales x)) e0)
  have v2 : V m c main_v40 = experts (ends T) := (V_v40 m c).trans (congrArg (fun T => experts (ends T)) e1)
  have v3 : V m c main_arg2 = w := (V_main_arg2 m c).trans e2
  have v4 : V m c main_v30 = weightScales s := (V_v30 m c).trans (congrArg (fun s => weightScales s) e3)
  have key : ∀ (r : Fin 12288) (b : Fin 768), out0_5 (iblk m c 0 t0) (iblk m c 1 t0) (iblk m c 2 t0) (iblk m c 3 t0) (iblk m c 4 t0) (ix2 r b) = out x T w s (ix2 r b) :=
    after_at c x T w s (iblk m c 0 t0) (iblk m c 1 t0) (iblk m c 2 t0) (iblk m c 3 t0) (iblk m c 4 t0)
      (iblk0 m c _ v0) (iblk1 m c _ v1) (iblk2 m c _ v2) (iblk3 m c _ v3) (iblk4 m c _ v4) hg hx
  refine (dats m 0 c).arrAt_eq_of_after_last 5 t0 whole5 _ (fun j => ?_)
  change SO.Idx at j
  obtain ⟨r, b, rfl⟩ : ∃ (r : Fin 12288) (b : Fin 768), j = ix2 r b := ⟨j 0, j 1, eq_ix2 j⟩
  rw [after0_5]
  generalize out0_5 (iblk m c 0 t0) (iblk m c 1 t0) (iblk m c 2 t0) (iblk m c 3 t0) (iblk m c 4 t0) = Y at key
  exact key r b

/-- The reference's run: the result, the arguments unchanged. -/
theorem result (ρ : Dev nD → PrngReg) (x : SX.Idx → EReal) (T : Cert.Sched.S4.Idx → BitVec 32) (w : SW.Idx → EReal) (s : SS.Idx → EReal)
    (e : ∀ c : Dev nD, m ((c.tc : Thread nD τ).loc main_arg0) = x ∧ m ((c.tc : Thread nD τ).loc main_arg1) = T
      ∧ m ((c.tc : Thread nD τ).loc main_arg2) = w ∧ m ((c.tc : Thread nD τ).loc main_arg3) = s)
    (hg : Good T) (hx : ∀ i, max (x i) (-(x i)) ≤ Ideal.ofBits .bf16 32639#16) :
    θ_run defs (onTc (τ := τ) (main (F := Ideal))) ⟨m, fun _ => 0, ρ⟩ (fun r => ∀ c : Dev nD,
      r.2.mem ((c.tc : Thread nD τ).loc main_v41) = out x T w s
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨(hr c).1.trans (final m c x T w s (e c).1 (e c).2.1 (e c).2.2.1 (e c).2.2.2 hg hx), (hr c).2⟩)
    (Cert.ReferenceIdeal.Value.run_blocks m ρ)

end Cert.ReferenceIdeal.Gen
-- ==== Proof.Finite.lean ====
module

public import proofs.«01_k».proof.Proof.Sizes
public import proofs.«01_k».proof.Proof.Gen.Pre_finite_rows
public import Idealize.ShloMosaic.PureOps.Ideal.Laws

/-!
# What the value claim's precondition says

The sizes are as in Sizes.lean, and every entry of `x` is at most the greatest finite bfloat16 in absolute value.
-/

@[expose] public section

noncomputable section

namespace Cert.Sched

open Idealize.ShloMosaic

variable {F : FTy → Type} [FloatOps F]

set_option maxRecDepth 16384 in
/-- The second precondition's sizes, -/
theorem good_of_finite (x : FVec F ⟨2, ![12288, 5120]⟩ .bf16) (v : IVec S4 32) (w : FVec F ⟨3, ![4, 5120, 768]⟩ .fp8e4m3) (ws : FVec F ⟨3, ![4, 40, 6]⟩ .f32)
    (h : Pre_finite_rows.fn x v w ws = fun _ => 1#1) : Good v := by
  have k := congrFun h (fun a => ⟨0, by fin_cases a <;> decide⟩)
  dsimp only [Pre_finite_rows.fn] at k
  have k1 := (andi_split k).2
  haveI : Subsingleton (Pre_finite_rows.S_).Idx := ⟨fun a b => funext fun i => i.elim0⟩
  have k' : ∀ e, _ := fun e => andi_split (Host.reduce_andi_all _ _ _ _ _ k1 (at4 e))
  refine good_of v (fun e => (andi_split (k' e).1).1) (fun e => (andi_split (k' e).1).2) ?_
  have q := StableHlo.Predicate.cmpi_eq_iff.1 (k' 0).2
  rw [reduce_four] at q
  exact q

set_option maxRecDepth 16384 in
/-- and its bound on the entries of `x`. -/
theorem bound_of_finite (x : FVec Ideal ⟨2, ![12288, 5120]⟩ .bf16) (v : IVec S4 32) (w : FVec Ideal ⟨3, ![4, 5120, 768]⟩ .fp8e4m3) (ws : FVec Ideal ⟨3, ![4, 40, 6]⟩ .f32)
    (h : Pre_finite_rows.fn x v w ws = fun _ => 1#1) (i : Shape.Idx ⟨2, ![12288, 5120]⟩) : max (x i) (-(x i)) ≤ Ideal.ofBits .bf16 32639#16 := by
  have k := congrFun h i
  dsimp only [Pre_finite_rows.fn] at k
  have k1 : Ideal.cmp .ole (max (x i) (-(x i))) (Ideal.ofBits .bf16 32639#16) = 1#1 := (andi_split k).1
  by_contra hc
  rw [Ideal.cmp, decide_eq_false hc] at k1
  exact absurd k1 (by decide)

end Cert.Sched

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_groups_cover_rows
public import proofs.«01_k».proof.Proof.Gen.Pre_finite_rows
public import proofs.«01_k».proof.Proof.K.Ok
public import proofs.«01_k».proof.Proof.KI.Ok
public import proofs.«01_k».proof.Proof.KI.Result
public import proofs.«01_k».proof.Proof.Ref.Result
public import proofs.«01_k».proof.Proof.Finite
public import Idealize.ShloMosaic.Adequacy
public import Idealize.ShloMosaic.Init

@[expose] public section

noncomputable section

namespace Cert.Proof

open Idealize.ShloMosaic Idealize.SL.Sem

/-- The kernel's run at the words: no fault, arguments unchanged, semaphores at zero. -/
theorem kernel_frame : quiescent_Kernel (hKernel := Cert.Kernel.Gen.facts) (hPre_groups_cover_rows := Cert.Pre_groups_cover_rows.Gen.facts) :=
  fun m ρ hp => Cert.Kernel.Gen.frame m ρ (Cert.Kernel.Gen.ok (Cert.Sched.good_of_groups _ _ _ _ (hp 0)))

/-- The same of the kernel over the extended reals. -/
theorem ideal_frame : quiescent_KernelIdeal (hKernelIdeal := Cert.KernelIdeal.Gen.facts) (hPre_groups_cover_rows := Cert.Pre_groups_cover_rows.Gen.facts) :=
  fun m ρ hp => Cert.KernelIdeal.Gen.frame m ρ (Cert.KernelIdeal.Gen.ok (Cert.Sched.good_of_groups _ _ _ _ (hp 0)))

/-- And under the precondition of the value claim. -/
theorem ideal_frame_finite : quiescent_KernelIdeal_pre_finite_rows (hKernelIdeal := Cert.KernelIdeal.Gen.facts) (hPre_finite_rows := Cert.Pre_finite_rows.Gen.facts) :=
  fun m ρ hp => Cert.KernelIdeal.Gen.frame m ρ (Cert.KernelIdeal.Gen.ok (Cert.Sched.good_of_finite _ _ _ _ (hp 0)))

/-- The kernel and the reference leave the same result: each row times its expert's weights. -/
theorem algebraic : algebraic_KernelIdeal_ReferenceIdeal_pre_finite_rows (hKernelIdeal := Cert.KernelIdeal.Gen.facts)
    (hReferenceIdeal := Cert.ReferenceIdeal.Gen.facts) (hPre_finite_rows := Cert.Pre_finite_rows.Gen.facts) := by
  intro m g m' g' hp hm
  have hg : Cert.Sched.Good (Cert.KernelIdeal.Gen.inT m) := Cert.Sched.good_of_finite _ _ _ _ (hp 0)
  have hx : ∀ i, max (Cert.KernelIdeal.Gen.inX m i) (-(Cert.KernelIdeal.Gen.inX m i)) ≤ Ideal.ofBits .bf16 32639#16 :=
    Cert.Sched.bound_of_finite _ _ _ _ (hp 0)
  refine ⟨fun _ => Cert.Moe.out (Cert.KernelIdeal.Gen.inX m) (Cert.KernelIdeal.Gen.inT m) (Cert.KernelIdeal.Gen.inW m) (Cert.KernelIdeal.Gen.inS m),
    Cert.KernelIdeal.Gen.result m (Cert.KernelIdeal.Gen.ok hg) hg g hx, ?_⟩
  refine Cert.ReferenceIdeal.Gen.result m' g' _ _ _ _ (fun c => ?_) hg hx
  obtain rfl : c = (0 : Fin 1) := @Subsingleton.elim (Fin 1) _ _ _
  exact hm 0

theorem claim : Cert.Claim := ⟨Cert.Kernel.Gen.facts, Cert.KernelIdeal.Gen.facts, Cert.ReferenceIdeal.Gen.facts, Cert.Pre_groups_cover_rows.Gen.facts, Cert.Pre_finite_rows.Gen.facts,
  kernel_frame, ideal_frame, ideal_frame_finite, fun m ρ _ => Cert.ReferenceIdeal.Gen.frame m ρ,
  fun m ρ _ => Cert.ReferenceIdeal.Gen.frame m ρ, trivial, algebraic⟩

end Cert.Proof

end
